-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v30) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v3_0)) (v1 : (c : Dev Cert.InIdeal.nD) → Buf (Elt Ideal) ((c.tc : Thread Cert.InIdeal.nD Cert.InIdeal.τ).loc Cert.InIdeal.main_v3_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3_0) = v0 c
          ∧ r.2.mem ((c.tc : Thread Cert.InIdeal.nD Cert.InIdeal.τ).loc Cert.InIdeal.main_v3_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v27) = v0 c
          ∧ r.2.mem ((c.tc : Thread Cert.InReferenceIdeal.nD Cert.InReferenceIdeal.τ).loc Cert.InReferenceIdeal.main_v28) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v33) = v0 c
          ∧ r.2.mem ((c.tc : Thread Cert.OutReferenceIdeal.nD Cert.OutReferenceIdeal.τ).loc Cert.OutReferenceIdeal.main_v35) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v20) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v4) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_Qkv_QkvIdeal : Prop :=
  True

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hIn : Cert.In.Facts) (hInIdeal : Cert.InIdeal.Facts) (hInReferenceIdeal : Cert.InReferenceIdeal.Facts) (hOut : Cert.Out.Facts) (hOutIdeal : Cert.OutIdeal.Facts) (hOutReferenceIdeal : Cert.OutReferenceIdeal.Facts) (hDown : Cert.Down.Facts) (hDownIdeal : Cert.DownIdeal.Facts) (hDownReferenceIdeal : Cert.DownReferenceIdeal.Facts) (hMod : Cert.Mod.Facts) (hModIdeal : Cert.ModIdeal.Facts) (hModReferenceIdeal : Cert.ModReferenceIdeal.Facts) (hQkv : Cert.Qkv.Facts) (hQkvIdeal : Cert.QkvIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpReferenceIdeal (hUpReferenceIdeal := hUpReferenceIdeal)
    ∧ quiescent_In (hIn := hIn)
    ∧ quiescent_InIdeal (hInIdeal := hInIdeal)
    ∧ quiescent_InReferenceIdeal (hInReferenceIdeal := hInReferenceIdeal)
    ∧ quiescent_Out (hOut := hOut)
    ∧ quiescent_OutIdeal (hOutIdeal := hOutIdeal)
    ∧ quiescent_OutReferenceIdeal (hOutReferenceIdeal := hOutReferenceIdeal)
    ∧ quiescent_Down (hDown := hDown)
    ∧ quiescent_DownIdeal (hDownIdeal := hDownIdeal)
    ∧ quiescent_DownReferenceIdeal (hDownReferenceIdeal := hDownReferenceIdeal)
    ∧ quiescent_Mod (hMod := hMod)
    ∧ quiescent_ModIdeal (hModIdeal := hModIdeal)
    ∧ quiescent_ModReferenceIdeal (hModReferenceIdeal := hModReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpReferenceIdeal (hUpIdeal := hUpIdeal) (hUpReferenceIdeal := hUpReferenceIdeal)
    ∧ preserves_In_InIdeal
    ∧ algebraic_InIdeal_InReferenceIdeal (hInIdeal := hInIdeal) (hInReferenceIdeal := hInReferenceIdeal)
    ∧ preserves_Out_OutIdeal
    ∧ algebraic_OutIdeal_OutReferenceIdeal (hOutIdeal := hOutIdeal) (hOutReferenceIdeal := hOutReferenceIdeal)
    ∧ preserves_Down_DownIdeal
    ∧ algebraic_DownIdeal_DownReferenceIdeal (hDownIdeal := hDownIdeal) (hDownReferenceIdeal := hDownReferenceIdeal)
    ∧ preserves_Mod_ModIdeal
    ∧ algebraic_ModIdeal_ModReferenceIdeal (hModIdeal := hModIdeal) (hModReferenceIdeal := hModReferenceIdeal)
    ∧ preserves_Qkv_QkvIdeal
-- ==== Kernel.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S8x128 : Shape := ⟨2, ![8, 128]⟩
abbrev S5632x2048 : Shape := ⟨2, ![5632, 2048]⟩
abbrev S2048x2048 : Shape := ⟨2, ![2048, 2048]⟩
abbrev S_ : Shape := ⟨0, ![]⟩
abbrev S2x4096x8x192 : Shape := ⟨4, ![2, 4096, 8, 192]⟩
abbrev S2x8x192x4096 : Shape := ⟨4, ![2, 8, 192, 4096]⟩
abbrev S2x4096x1x64 : Shape := ⟨4, ![2, 4096, 1, 64]⟩
abbrev S2x8x4096x192 : Shape := ⟨4, ![2, 8, 4096, 192]⟩
abbrev S2x16x256x8x128 : Shape := ⟨5, ![2, 16, 256, 8, 128]⟩
abbrev S2x8x16x128x256 : Shape := ⟨5, ![2, 8, 16, 128, 256]⟩
abbrev S2x8x16x16x256 : Shape := ⟨5, ![2, 8, 16, 16, 256]⟩
abbrev S2x8x16x144x256 : Shape := ⟨5, ![2, 8, 16, 144, 256]⟩
abbrev S8x128x1 : Shape := ⟨3, ![8, 128, 1]⟩
abbrev S8192x1024 : Shape := ⟨2, ![8192, 1024]⟩
abbrev S1x2x192x1024 : Shape := ⟨4, ![1, 2, 192, 1024]⟩
abbrev S1x2x4096x192 : Shape := ⟨4, ![1, 2, 4096, 192]⟩
abbrev S1x2x16x144x256 : Shape := ⟨5, ![1, 2, 16, 144, 256]⟩
abbrev S2x128x1 : Shape := ⟨3, ![2, 128, 1]⟩
abbrev S176x2048 : Shape := ⟨2, ![176, 2048]⟩
abbrev S64x2048 : Shape := ⟨2, ![64, 2048]⟩
abbrev S1024x256 : Shape := ⟨2, ![1024, 256]⟩
abbrev S2x1x1024 : Shape := ⟨3, ![2, 1, 1024]⟩
abbrev S2x144x1024 : Shape := ⟨3, ![2, 144, 1024]⟩
abbrev S256x1024 : Shape := ⟨2, ![256, 1024]⟩
abbrev S1x1x256x192 : Shape := ⟨4, ![1, 1, 256, 192]⟩
abbrev S256x192 : Shape := ⟨2, ![256, 192]⟩
abbrev S1x1x192x1024 : Shape := ⟨4, ![1, 1, 192, 1024]⟩
abbrev S192x1024 : Shape := ⟨2, ![192, 1024]⟩
abbrev S1x1x192x768 : Shape := ⟨4, ![1, 1, 192, 768]⟩
abbrev S192x768 : Shape := ⟨2, ![192, 768]⟩
abbrev S256x768 : Shape := ⟨2, ![256, 768]⟩
abbrev S1024 : Shape := ⟨1, ![1024]⟩
abbrev S1x1024 : Shape := ⟨2, ![1, 1024]⟩
abbrev S1x1x1x144x256 : Shape := ⟨5, ![1, 1, 1, 144, 256]⟩
abbrev S144x256 : Shape := ⟨2, ![144, 256]⟩
abbrev S144x1024 : Shape := ⟨2, ![144, 1024]⟩
abbrev S1x144x1024 : Shape := ⟨3, ![1, 144, 1024]⟩
abbrev S1x1x1024 : Shape := ⟨3, ![1, 1, 1024]⟩
abbrev S1x1x192x512 : Shape := ⟨4, ![1, 1, 192, 512]⟩
abbrev S192x512 : Shape := ⟨2, ![192, 512]⟩
abbrev S256x512 : Shape := ⟨2, ![256, 512]⟩
abbrev S1x1x768 : Shape := ⟨3, ![1, 1, 768]⟩
abbrev S1x768 : Shape := ⟨2, ![1, 768]⟩
abbrev S768 : Shape := ⟨1, ![768]⟩
abbrev S1x144x768 : Shape := ⟨3, ![1, 144, 768]⟩
abbrev S144x768 : Shape := ⟨2, ![144, 768]⟩
abbrev S1x1x192x256 : Shape := ⟨4, ![1, 1, 192, 256]⟩
abbrev S192x256 : Shape := ⟨2, ![192, 256]⟩
abbrev S256x256 : Shape := ⟨2, ![256, 256]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S1x128x1024 : Shape := ⟨3, ![1, 128, 1024]⟩
abbrev S128x1024 : Shape := ⟨2, ![128, 1024]⟩
abbrev S1x128x1 : Shape := ⟨3, ![1, 128, 1]⟩
abbrev S128x1 : Shape := ⟨2, ![128, 1]⟩
abbrev S1024x128 : Shape := ⟨2, ![1024, 128]⟩

abbrev nBuf : Space → Nat
  | .hbm => 32
  | .vmem => 21
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S8x128, .f32⟩
  | .hbm, ⟨6, _⟩ => ⟨S5632x2048, .f32⟩
  | .hbm, ⟨7, _⟩ => ⟨S2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x4096x8x192, .f32⟩
  | .hbm, ⟨13, _⟩ => ⟨S2x4096x8x192, .f32⟩
  | .hbm, ⟨14, _⟩ => ⟨S2x4096x8x192, .f32⟩
  | .hbm, ⟨15, _⟩ => ⟨S2x4096x8x192, .bf16⟩
  | .hbm, ⟨16, _⟩ => ⟨S2x8x192x4096, .bf16⟩
  | .hbm, ⟨17, _⟩ => ⟨S2x4096x1x64, .f32⟩
  | .hbm, ⟨18, _⟩ => ⟨S2x4096x8x64, .f32⟩
  | .hbm, ⟨19, _⟩ => ⟨S2x4096x8x192, .f32⟩
  | .hbm, ⟨20, _⟩ => ⟨S2x4096x8x192, .bf16⟩
  | .hbm, ⟨21, _⟩ => ⟨S2x8x4096x192, .bf16⟩
  | .hbm, ⟨22, _⟩ => ⟨S2x16x256x8x128, .f32⟩
  | .hbm, ⟨23, _⟩ => ⟨S2x8x16x128x256, .f32⟩
  | .hbm, ⟨24, _⟩ => ⟨S_, .f32⟩
  | .hbm, ⟨25, _⟩ => ⟨S2x8x16x16x256, .f32⟩
  | .hbm, ⟨26, _⟩ => ⟨S2x8x16x144x256, .f32⟩
  | .hbm, ⟨27, _⟩ => ⟨S2x8x16x144x256, .bf16⟩
  | .hbm, ⟨28, _⟩ => ⟨S8x128x1, .f32⟩
  | .hbm, ⟨29, _⟩ => ⟨S8192x1024, .bf16⟩
  | .hbm, ⟨30, _⟩ => ⟨S5632x2048, .bf16⟩
  | .hbm, ⟨31, _⟩ => ⟨S2048x2048, .bf16⟩
  | .local _ .vmem, ⟨0, _⟩ => ⟨S1x2x192x1024, .bf16⟩
  | .local _ .vmem, ⟨1, _⟩ => ⟨S1x2x192x1024, .bf16⟩
  | .local _ .vmem, ⟨2, _⟩ => ⟨S1x2x4096x192, .bf16⟩
  | .local _ .vmem, ⟨3, _⟩ => ⟨S1x2x4096x192, .bf16⟩
  | .local _ .vmem, ⟨4, _⟩ => ⟨S1x2x16x144x256, .bf16⟩
  | .local _ .vmem, ⟨5, _⟩ => ⟨S1x2x16x144x256, .bf16⟩
  | .local _ .vmem, ⟨6, _⟩ => ⟨S2x128x1, .f32⟩
  | .local _ .vmem, ⟨7, _⟩ => ⟨S2x128x1, .f32⟩
  | .local _ .vmem, ⟨8, _⟩ => ⟨S176x2048, .f32⟩
  | .local _ .vmem, ⟨9, _⟩ => ⟨S176x2048, .f32⟩
  | .local _ .vmem, ⟨10, _⟩ => ⟨S64x2048, .f32⟩
  | .local _ .vmem, ⟨11, _⟩ => ⟨S64x2048, .f32⟩
  | .local _ .vmem, ⟨12, _⟩ => ⟨S1024x256, .bf16⟩
  | .local _ .vmem, ⟨13, _⟩ => ⟨S1024x256, .bf16⟩
  | .local _ .vmem, ⟨14, _⟩ => ⟨S176x2048, .bf16⟩
  | .local _ .vmem, ⟨15, _⟩ => ⟨S176x2048, .bf16⟩
  | .local _ .vmem, ⟨16, _⟩ => ⟨S64x2048, .bf16⟩
  | .local _ .vmem, ⟨17, _⟩ => ⟨S64x2048, .bf16⟩
  | .local _ .vmem, ⟨18, _⟩ => ⟨S2x1x1024, .f32⟩
  | .local _ .vmem, ⟨19, _⟩ => ⟨S2x144x1024, .f32⟩
  | .local _ .vmem, ⟨20, _⟩ => ⟨S256x1024, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_0 : BitVec 32 := 4#32
  let v2 : BitVec 32 := Scalar.muli v1 c4_i32_0
  let arg2 : BitVec 32 := BitVec.ofNat 32 (i 2).val
  let v3 : BitVec 32 := Scalar.addi v2 arg2
  let c32_i32 : BitVec 32 := 32#32
  let v4 : BitVec 1 := Scalar.cmpi .slt v3 c32_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_0 : BitVec 32 := 4#32
  let v2 : BitVec 32 := Scalar.muli v1 c4_i32_0
  let arg2 : BitVec 32 := BitVec.ofNat 32 (i 2).val
  let v3 : BitVec 32 := Scalar.addi v2 arg2
  let c32_i32_1 : BitVec 32 := 32#32
  let v7 : BitVec 1 := Scalar.cmpi .slt v3 c32_i32_1
  let v8 : BitVec 32 := Scalar.extui v7
  let c0_i32_2 : BitVec 32 := 0#32
  let v9 : BitVec 1 := Scalar.cmpi .ne v8 c0_i32_2
  v9

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  ![v4.toNat, c0_i32.toNat]

abbrev stage0_0 : Fin 2 → Memref sig .tc .vmem S1x2x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S176x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S8x128 : Shape := ⟨2, ![8, 128]⟩
abbrev S5632x2048 : Shape := ⟨2, ![5632, 2048]⟩
abbrev S2048x2048 : Shape := ⟨2, ![2048, 2048]⟩
abbrev S2x8x4096x4096 : Shape := ⟨4, ![2, 8, 4096, 4096]⟩
abbrev S2x4096x4096x8 : Shape := ⟨4, ![2, 4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x8x128 : Shape := ⟨4, ![1, 1, 8, 128]⟩
abbrev S8192x1024 : Shape := ⟨2, ![8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S8x128, .f32⟩
  | .hbm, ⟨6, _⟩ => ⟨S5632x2048, .f32⟩
  | .hbm, ⟨7, _⟩ => ⟨S2048x2048, .f32⟩
  | .hbm, ⟨8, _⟩ => ⟨S2x8x4096x4096, .f32⟩
  | .hbm, ⟨9, _⟩ => ⟨S2x4096x4096x8, .f32⟩
  | .hbm, ⟨10, _⟩ => ⟨S2x8x4096x4096, .f32⟩
  | .hbm, ⟨11, _⟩ => ⟨S2x8x4096x4096, .f32⟩
  | .hbm, ⟨12, _⟩ => ⟨S_, .f32⟩
  | .hbm, ⟨13, _⟩ => ⟨S2x8x4096x4096, .f32⟩
  | .hbm, ⟨14, _⟩ => ⟨S2x8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x1x4096x4096, .i1⟩
  | .hbm, ⟨22, _⟩ => ⟨S_, .f32⟩
  | .hbm, ⟨23, _⟩ => ⟨S_, .f32⟩
  | .hbm, ⟨24, _⟩ => ⟨S2x8x4096x4096, .i1⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S_, .f32⟩
  | .hbm, ⟨30, _⟩ => ⟨S2x8x4096, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S2x8x4096x1, .f32⟩
  | .hbm, ⟨39, _⟩ => ⟨S2x8x4096x4096, .f32⟩
  | .hbm, ⟨40, _⟩ => ⟨S2x8x4096x4096, .f32⟩
  | .hbm, ⟨41, _⟩ => ⟨S2x8x128x4096, .f32⟩
  | .hbm, ⟨42, _⟩ => ⟨S2x4096x8x128, .f32⟩
  | .hbm, ⟨43, _⟩ => ⟨S2x4096x8x128, .f32⟩
  | .hbm, ⟨44, _⟩ => ⟨S_, .f32⟩
  | .hbm, ⟨45, _⟩ => ⟨S2x4096x8, .f32⟩
  | .hbm, ⟨46, _⟩ => ⟨S2x4096x8x1, .f32⟩
  | .hbm, ⟨47, _⟩ => ⟨S_, .f32⟩
  | .hbm, ⟨48, _⟩ => ⟨S2x4096x8x1, .f32⟩
  | .hbm, ⟨49, _⟩ => ⟨S2x4096x8x1, .f32⟩
  | .hbm, ⟨50, _⟩ => ⟨S_, .f32⟩
  | .hbm, ⟨51, _⟩ => ⟨S2x4096x8x1, .f32⟩
  | .hbm, ⟨52, _⟩ => ⟨S2x4096x8x1, .f32⟩
  | .hbm, ⟨53, _⟩ => ⟨S2x4096x8x1, .f32⟩
  | .hbm, ⟨54, _⟩ => ⟨S2x4096x8x128, .f32⟩
  | .hbm, ⟨55, _⟩ => ⟨S2x4096x8x128, .f32⟩
  | .hbm, ⟨56, _⟩ => ⟨S1x1x8x128, .f32⟩
  | .hbm, ⟨57, _⟩ => ⟨S2x4096x8x128, .f32⟩
  | .hbm, ⟨58, _⟩ => ⟨S2x4096x8x128, .f32⟩
  | .hbm, ⟨59, _⟩ => ⟨S8192x1024, .f32⟩
  | .hbm, ⟨60, _⟩ => ⟨S8192x1024, .bf16⟩
  | .hbm, ⟨61, _⟩ => ⟨S5632x2048, .bf16⟩
  | .hbm, ⟨62, _⟩ => ⟨S2048x2048, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Up.lean ====
abbrev S2x4096x2048 : Shape := ⟨3, ![2, 4096, 2048]⟩
abbrev S2048x11264 : Shape := ⟨2, ![2048, 11264]⟩
abbrev S3x11264 : Shape := ⟨2, ![3, 11264]⟩
abbrev S11264 : Shape := ⟨1, ![11264]⟩
abbrev S8192x2048 : Shape := ⟨2, ![8192, 2048]⟩
abbrev S1x11264 : Shape := ⟨2, ![1, 11264]⟩
abbrev S8192x5632 : Shape := ⟨2, ![8192, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1032x512 : Shape := ⟨2, ![1032, 512]⟩
abbrev S8x512 : Shape := ⟨2, ![8, 512]⟩

abbrev nBuf : Space → Nat
  | .hbm => 8
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S8192x2048, .f32⟩
  | .hbm, ⟨5, _⟩ => ⟨S8192x2048, .bf16⟩
  | .hbm, ⟨6, _⟩ => ⟨S1x11264, .f32⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1032x512, .f32⟩
  | .local _ .vmem, ⟨17, _⟩ => ⟨S1032x512, .f32⟩
  | .local _ .vmem, ⟨18, _⟩ => ⟨S2048x512, .bf16⟩
  | .local _ .vmem, ⟨19, _⟩ => ⟨S2048x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpReferenceIdeal.lean ====
abbrev S2x4096x2048 : Shape := ⟨3, ![2, 4096, 2048]⟩
abbrev S2048x11264 : Shape := ⟨2, ![2048, 11264]⟩
abbrev S3x11264 : Shape := ⟨2, ![3, 11264]⟩
abbrev S11264 : Shape := ⟨1, ![11264]⟩
abbrev S2x4096x11264 : Shape := ⟨3, ![2, 4096, 11264]⟩
abbrev S_ : Shape := ⟨0, ![]⟩
abbrev S2x4098x11264 : Shape := ⟨3, ![2, 4098, 11264]⟩
abbrev S1x11264 : Shape := ⟨2, ![1, 11264]⟩
abbrev S1x1x11264 : Shape := ⟨3, ![1, 1, 11264]⟩
abbrev S2x4096x5632 : Shape := ⟨3, ![2, 4096, 5632]⟩
abbrev S8192x5632 : Shape := ⟨2, ![8192, 5632]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S2x4096x11264, .f32⟩
  | .hbm, ⟨5, _⟩ => ⟨S_, .i32⟩
  | .hbm, ⟨6, _⟩ => ⟨S_, .f32⟩
  | .hbm, ⟨7, _⟩ => ⟨S2x4098x11264, .f32⟩
  | .hbm, ⟨8, _⟩ => ⟨S1x11264, .f32⟩
  | .hbm, ⟨9, _⟩ => ⟨S11264, .f32⟩
  | .hbm, ⟨10, _⟩ => ⟨S2x4096x11264, .f32⟩
  | .hbm, ⟨11, _⟩ => ⟨S1x1x11264, .f32⟩
  | .hbm, ⟨12, _⟩ => ⟨S2x4096x11264, .f32⟩
  | .hbm, ⟨13, _⟩ => ⟨S2x4096x11264, .f32⟩
  | .hbm, ⟨14, _⟩ => ⟨S1x1x11264, .f32⟩
  | .hbm, ⟨15, _⟩ => ⟨S2x4096x11264, .f32⟩
  | .hbm, ⟨16, _⟩ => ⟨S2x4096x11264, .f32⟩
  | .hbm, ⟨17, _⟩ => ⟨S1x11264, .f32⟩
  | .hbm, ⟨18, _⟩ => ⟨S11264, .f32⟩
  | .hbm, ⟨19, _⟩ => ⟨S2x4096x11264, .f32⟩
  | .hbm, ⟨20, _⟩ => ⟨S1x1x11264, .f32⟩
  | .hbm, ⟨21, _⟩ => ⟨S2x4096x11264, .f32⟩
  | .hbm, ⟨22, _⟩ => ⟨S2x4096x11264, .f32⟩
  | .hbm, ⟨23, _⟩ => ⟨S2x4096x11264, .f32⟩
  | .hbm, ⟨24, _⟩ => ⟨S1x11264, .f32⟩
  | .hbm, ⟨25, _⟩ => ⟨S11264, .f32⟩
  | .hbm, ⟨26, _⟩ => ⟨S2x4096x11264, .f32⟩
  | .hbm, ⟨27, _⟩ => ⟨S1x1x11264, .f32⟩
  | .hbm, ⟨28, _⟩ => ⟨S2x4096x11264, .f32⟩
  | .hbm, ⟨29, _⟩ => ⟨S2x4096x11264, .f32⟩
  | .hbm, ⟨30, _⟩ => ⟨S2x4096x11264, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S_, .f32⟩
  | .hbm, ⟨39, _⟩ => ⟨S2x4096x5632, .f32⟩
  | .hbm, ⟨40, _⟩ => ⟨S2x4096x5632, .f32⟩
  | .hbm, ⟨41, _⟩ => ⟨S2x4096x5632, .f32⟩
  | .hbm, ⟨42, _⟩ => ⟨S2x4096x5632, .f32⟩
  | .hbm, ⟨43, _⟩ => ⟨S8192x5632, .f32⟩
  | .hbm, ⟨44, _⟩ => ⟨S8192x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== In.lean ====
abbrev S2x4096x2048 : Shape := ⟨3, ![2, 4096, 2048]⟩
abbrev S2x6x2048 : Shape := ⟨3, ![2, 6, 2048]⟩
abbrev S2048 : Shape := ⟨1, ![2048]⟩
abbrev S2048x4096 : Shape := ⟨2, ![2048, 4096]⟩
abbrev S8192x2048 : Shape := ⟨2, ![8192, 2048]⟩
abbrev S1x2048 : Shape := ⟨2, ![1, 2048]⟩
abbrev S8192x4096 : Shape := ⟨2, ![8192, 4096]⟩
abbrev S8192x256 : Shape := ⟨2, ![8192, 256]⟩
abbrev S512x2048 : Shape := ⟨2, ![512, 2048]⟩
abbrev S1x6x2048 : Shape := ⟨3, ![1, 6, 2048]⟩
abbrev S512x4096 : Shape := ⟨2, ![512, 4096]⟩
abbrev S512x256 : Shape := ⟨2, ![512, 256]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S2048x1024 : Shape := ⟨2, ![2048, 1024]⟩
abbrev S256x1024 : Shape := ⟨2, ![256, 1024]⟩
abbrev S256x256 : Shape := ⟨2, ![256, 256]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x6x2048, .f32⟩
  | .hbm, ⟨2, _⟩ => ⟨S2048, .f32⟩
  | .hbm, ⟨3, _⟩ => ⟨S2048x4096, .f32⟩
  | .hbm, ⟨4, _⟩ => ⟨S8192x2048, .f32⟩
  | .hbm, ⟨5, _⟩ => ⟨S2048x4096, .bf16⟩
  | .hbm, ⟨6, _⟩ => ⟨S1x2048, .f32⟩
  | .hbm, ⟨7, _⟩ => ⟨S8192x4096, .bf16⟩
  | .hbm, ⟨8, _⟩ => ⟨S8192x256, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x4096, .bf16⟩
  | .local _ .vmem, ⟨6, _⟩ => ⟨S512x4096, .bf16⟩
  | .local _ .vmem, ⟨7, _⟩ => ⟨S512x4096, .bf16⟩
  | .local _ .vmem, ⟨8, _⟩ => ⟨S512x256, .f32⟩
  | .local _ .vmem, ⟨9, _⟩ => ⟨S512x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InReferenceIdeal.lean ====
abbrev S2x4096x2048 : Shape := ⟨3, ![2, 4096, 2048]⟩
abbrev S2x6x2048 : Shape := ⟨3, ![2, 6, 2048]⟩
abbrev S2048 : Shape := ⟨1, ![2048]⟩
abbrev S2048x4096 : Shape := ⟨2, ![2048, 4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x2048 : Shape := ⟨2, ![2, 2048]⟩
abbrev S2x4096x4096 : Shape := ⟨3, ![2, 4096, 4096]⟩
abbrev S8192x4096 : Shape := ⟨2, ![8192, 4096]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x6x2048, .f32⟩
  | .hbm, ⟨2, _⟩ => ⟨S2048, .f32⟩
  | .hbm, ⟨3, _⟩ => ⟨S2048x4096, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x1x2048, .f32⟩
  | .hbm, ⟨21, _⟩ => ⟨S2x2048, .f32⟩
  | .hbm, ⟨22, _⟩ => ⟨S2x1x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x4096x2048, .f32⟩
  | .hbm, ⟨27, _⟩ => ⟨S2x4096x2048, .f32⟩
  | .hbm, ⟨28, _⟩ => ⟨S2x1x2048, .f32⟩
  | .hbm, ⟨29, _⟩ => ⟨S2x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x4096, .f32⟩
  | .hbm, ⟨34, _⟩ => ⟨S8192x4096, .f32⟩
  | .hbm, ⟨35, _⟩ => ⟨S8192x4096, .bf16⟩
  | .hbm, ⟨36, _⟩ => ⟨S8192x256, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Out.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2x6x2048 : Shape := ⟨3, ![2, 6, 2048]⟩
abbrev S2048 : Shape := ⟨1, ![2048]⟩
abbrev S8192x1024 : Shape := ⟨2, ![8192, 1024]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩
abbrev S1x6x2048 : Shape := ⟨3, ![1, 6, 2048]⟩
abbrev S1024x2048 : Shape := ⟨2, ![1024, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2x6x2048, .f32⟩
  | .hbm, ⟨5, _⟩ => ⟨S2048, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S2048x2048, .bf16⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x6x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2x6x2048 : Shape := ⟨3, ![2, 6, 2048]⟩
abbrev S2048 : Shape := ⟨1, ![2048]⟩
abbrev S2x1x2048 : Shape := ⟨3, ![2, 1, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2x6x2048, .f32⟩
  | .hbm, ⟨5, _⟩ => ⟨S2048, .f32⟩
  | .hbm, ⟨6, _⟩ => ⟨S2x4096x2048, .f32⟩
  | .hbm, ⟨7, _⟩ => ⟨S2x4096x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S1x1x2048, .f32⟩
  | .hbm, ⟨28, _⟩ => ⟨S2x4096x2048, .f32⟩
  | .hbm, ⟨29, _⟩ => ⟨S2x4096x2048, .f32⟩
  | .hbm, ⟨30, _⟩ => ⟨S2x1x2048, .f32⟩
  | .hbm, ⟨31, _⟩ => ⟨S2x2048, .f32⟩
  | .hbm, ⟨32, _⟩ => ⟨S2x1x2048, .f32⟩
  | .hbm, ⟨33, _⟩ => ⟨S_, .f32⟩
  | .hbm, ⟨34, _⟩ => ⟨S2x1x2048, .f32⟩
  | .hbm, ⟨35, _⟩ => ⟨S2x1x2048, .f32⟩
  | .hbm, ⟨36, _⟩ => ⟨S2x4096x2048, .f32⟩
  | .hbm, ⟨37, _⟩ => ⟨S2x4096x2048, .f32⟩
  | .hbm, ⟨38, _⟩ => ⟨S2x1x2048, .f32⟩
  | .hbm, ⟨39, _⟩ => ⟨S2x2048, .f32⟩
  | .hbm, ⟨40, _⟩ => ⟨S2x1x2048, .f32⟩
  | .hbm, ⟨41, _⟩ => ⟨S2x4096x2048, .f32⟩
  | .hbm, ⟨42, _⟩ => ⟨S2x4096x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Down.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x6x2048 : Shape := ⟨3, ![2, 6, 2048]⟩
abbrev S2048 : Shape := ⟨1, ![2048]⟩
abbrev S8192x5632 : Shape := ⟨2, ![8192, 5632]⟩
abbrev S8192x2048 : Shape := ⟨2, ![8192, 2048]⟩
abbrev S1x2048 : Shape := ⟨2, ![1, 2048]⟩
abbrev S512x5632 : Shape := ⟨2, ![512, 5632]⟩
abbrev S512x2048 : Shape := ⟨2, ![512, 2048]⟩
abbrev S1x6x2048 : Shape := ⟨3, ![1, 6, 2048]⟩
abbrev S4 : Shape := ⟨1, ![4]⟩
abbrev S1 : Shape := ⟨1, ![1]⟩
abbrev S_ : Shape := ⟨0, ![]⟩
abbrev S1408x2048 : Shape := ⟨2, ![1408, 2048]⟩
abbrev S256x1408 : Shape := ⟨2, ![256, 1408]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x6x2048, .f32⟩
  | .hbm, ⟨4, _⟩ => ⟨S2048, .f32⟩
  | .hbm, ⟨5, _⟩ => ⟨S8192x5632, .f32⟩
  | .hbm, ⟨6, _⟩ => ⟨S8192x5632, .bf16⟩
  | .hbm, ⟨7, _⟩ => ⟨S5632x2048, .bf16⟩
  | .hbm, ⟨8, _⟩ => ⟨S8192x2048, .f32⟩
  | .hbm, ⟨9, _⟩ => ⟨S1x2048, .f32⟩
  | .hbm, ⟨10, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S5632x2048, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownReferenceIdeal.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x6x2048 : Shape := ⟨3, ![2, 6, 2048]⟩
abbrev S2048 : Shape := ⟨1, ![2048]⟩
abbrev S2x1x2048 : Shape := ⟨3, ![2, 1, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x6x2048, .f32⟩
  | .hbm, ⟨4, _⟩ => ⟨S2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x2048, .f32⟩
  | .hbm, ⟨24, _⟩ => ⟨S2x4096x2048, .f32⟩
  | .hbm, ⟨25, _⟩ => ⟨S1x1x2048, .f32⟩
  | .hbm, ⟨26, _⟩ => ⟨S2x4096x2048, .f32⟩
  | .hbm, ⟨27, _⟩ => ⟨S2x4096x2048, .f32⟩
  | .hbm, ⟨28, _⟩ => ⟨S8192x2048, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Mod.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Qkv.lean ====
abbrev S2x4096x4096 : Shape := ⟨3, ![2, 4096, 4096]⟩
abbrev S2x4096x64 : Shape := ⟨3, ![2, 4096, 64]⟩
abbrev S2x4096 : Shape := ⟨2, ![2, 4096]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S2x4096x32 : Shape := ⟨3, ![2, 4096, 32]⟩
abbrev S_ : Shape := ⟨0, ![]⟩
abbrev S2x4096x128 : Shape := ⟨3, ![2, 4096, 128]⟩
abbrev S2x4096x256 : Shape := ⟨3, ![2, 4096, 256]⟩
abbrev S32 : Shape := ⟨1, ![32]⟩
abbrev S32x1 : Shape := ⟨2, ![32, 1]⟩
abbrev S512x8x192 : Shape := ⟨3, ![512, 8, 192]⟩
abbrev S512x8x64 : Shape := ⟨3, ![512, 8, 64]⟩
abbrev S512x8x128 : Shape := ⟨3, ![512, 8, 128]⟩
abbrev S512x8x32 : Shape := ⟨3, ![512, 8, 32]⟩
abbrev S512x8x256 : Shape := ⟨3, ![512, 8, 256]⟩
abbrev S8x512x256 : Shape := ⟨3, ![8, 512, 256]⟩
abbrev S8192x4096 : Shape := ⟨2, ![8192, 4096]⟩
abbrev S8192x256 : Shape := ⟨2, ![8192, 256]⟩
abbrev S8x1x1024 : Shape := ⟨3, ![8, 1, 1024]⟩
abbrev S1x512 : Shape := ⟨2, ![1, 512]⟩
abbrev S1x256 : Shape := ⟨2, ![1, 256]⟩
abbrev S2x8x192x4096 : Shape := ⟨4, ![2, 8, 192, 4096]⟩
abbrev S2x8x4096x192 : Shape := ⟨4, ![2, 8, 4096, 192]⟩
abbrev S2x8x16x144x256 : Shape := ⟨5, ![2, 8, 16, 144, 256]⟩
abbrev S1024x512 : Shape := ⟨2, ![1024, 512]⟩
abbrev S1024x256 : Shape := ⟨2, ![1024, 256]⟩
abbrev S1x1x1024 : Shape := ⟨3, ![1, 1, 1024]⟩
abbrev S1x8x192x1024 : Shape := ⟨4, ![1, 8, 192, 1024]⟩
abbrev S1x8x1024x192 : Shape := ⟨4, ![1, 8, 1024, 192]⟩
abbrev S1x8x4x144x256 : Shape := ⟨5, ![1, 8, 4, 144, 256]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S32x1024 : Shape := ⟨2, ![32, 1024]⟩
abbrev S128x1024 : Shape := ⟨2, ![128, 1024]⟩
abbrev S1x512x256 : Shape := ⟨3, ![1, 512, 256]⟩
abbrev S512x256 : Shape := ⟨2, ![512, 256]⟩
abbrev S1x1x128x1024 : Shape := ⟨4, ![1, 1, 128, 1024]⟩
abbrev S64x1024 : Shape := ⟨2, ![64, 1024]⟩
abbrev S1x1x64x1024 : Shape := ⟨4, ![1, 1, 64, 1024]⟩
abbrev S256x256 : Shape := ⟨2, ![256, 256]⟩
abbrev S1x1x1024x128 : Shape := ⟨4, ![1, 1, 1024, 128]⟩
abbrev S1024x64 : Shape := ⟨2, ![1024, 64]⟩
abbrev S1x1x1024x64 : Shape := ⟨4, ![1, 1, 1024, 64]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩

abbrev nBuf : Space → Nat
  | .hbm => 42
  | .vmem => 24
  | .smem => 0
  | _ => 0

abbrev bufTy : (tb : Table) → Fin (tcTables nBuf tb) → BufTy
  | .hbm, ⟨0, _⟩ => ⟨S2x4096x4096, .f32⟩
  | .hbm, ⟨1, _⟩ => ⟨S2x4096x64, .f32⟩
  | .hbm, ⟨2, _⟩ => ⟨S2x4096, .i32⟩
  | .hbm, ⟨3, _⟩ => ⟨S512, .f32⟩
  | .hbm, ⟨4, _⟩ => ⟨S256, .f32⟩
  | .hbm, ⟨5, _⟩ => ⟨S512x1536, .f32⟩
  | .hbm, ⟨6, _⟩ => ⟨S256x2048, .f32⟩
  | .hbm, ⟨7, _⟩ => ⟨S2x4096x32, .f32⟩
  | .hbm, ⟨8, _⟩ => ⟨S2x4096x32, .f32⟩
  | .hbm, ⟨9, _⟩ => ⟨S2x4096x32, .f32⟩
  | .hbm, ⟨10, _⟩ => ⟨S2x4096x64, .f32⟩
  | .hbm, ⟨11, _⟩ => ⟨S_, .f32⟩
  | .hbm, ⟨12, _⟩ => ⟨S2x4096x128, .f32⟩
  | .hbm, ⟨13, _⟩ => ⟨S2x4096x256, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32x1, .f32⟩
  | .hbm, ⟨23, _⟩ => ⟨S512x8x192, .f32⟩
  | .hbm, ⟨24, _⟩ => ⟨S512x8x64, .f32⟩
  | .hbm, ⟨25, _⟩ => ⟨S512x8x128, .f32⟩
  | .hbm, ⟨26, _⟩ => ⟨S512x8x32, .f32⟩
  | .hbm, ⟨27, _⟩ => ⟨S512x8x32, .f32⟩
  | .hbm, ⟨28, _⟩ => ⟨S512x8x32, .f32⟩
  | .hbm, ⟨29, _⟩ => ⟨S512x8x64, .f32⟩
  | .hbm, ⟨30, _⟩ => ⟨S512x8x256, .f32⟩
  | .hbm, ⟨31, _⟩ => ⟨S8x512x256, .f32⟩
  | .hbm, ⟨32, _⟩ => ⟨S8x512x256, .bf16⟩
  | .hbm, ⟨33, _⟩ => ⟨S8192x4096, .f32⟩
  | .hbm, ⟨34, _⟩ => ⟨S8192x4096, .bf16⟩
  | .hbm, ⟨35, _⟩ => ⟨S8192x256, .f32⟩
  | .hbm, ⟨36, _⟩ => ⟨S8x1x1024, .i32⟩
  | .hbm, ⟨37, _⟩ => ⟨S1x512, .f32⟩
  | .hbm, ⟨38, _⟩ => ⟨S1x256, .f32⟩
  | .hbm, ⟨39, _⟩ => ⟨S2x8x192x4096, .bf16⟩
  | .hbm, ⟨40, _⟩ => ⟨S2x8x4096x192, .bf16⟩
  | .hbm, ⟨41, _⟩ => ⟨S2x8x16x144x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1x1x1024, .i32⟩
  | .local _ .vmem, ⟨7, _⟩ => ⟨S1x1x1024, .i32⟩
  | .local _ .vmem, ⟨8, _⟩ => ⟨S32x1, .f32⟩
  | .local _ .vmem, ⟨9, _⟩ => ⟨S1x512, .f32⟩
  | .local _ .vmem, ⟨10, _⟩ => ⟨S1x256, .f32⟩
  | .local _ .vmem, ⟨11, _⟩ => ⟨S8x512x256, .bf16⟩
  | .local _ .vmem, ⟨12, _⟩ => ⟨S256x2048, .f32⟩
  | .local _ .vmem, ⟨13, _⟩ => ⟨S1x8x192x1024, .bf16⟩
  | .local _ .vmem, ⟨14, _⟩ => ⟨S1x8x192x1024, .bf16⟩
  | .local _ .vmem, ⟨15, _⟩ => ⟨S1x8x1024x192, .bf16⟩
  | .local _ .vmem, ⟨16, _⟩ => ⟨S1x8x1024x192, .bf16⟩
  | .local _ .vmem, ⟨17, _⟩ => ⟨S1x8x4x144x256, .bf16⟩
  | .local _ .vmem, ⟨18, _⟩ => ⟨S1x8x4x144x256, .bf16⟩
  | .local _ .vmem, ⟨19, _⟩ => ⟨S1024x512, .bf16⟩
  | .local _ .vmem, ⟨20, _⟩ => ⟨S1024x256, .bf16⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_11 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, arg1.toNat, v26.toNat, c0_i32_10.toNat, c0_i32_11.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x192x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x4x144x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvReferenceIdeal.lean ====
abbrev S2x4096x4096 : Shape := ⟨3, ![2, 4096, 4096]⟩
abbrev S2x4096x64 : Shape := ⟨3, ![2, 4096, 64]⟩
abbrev S2x4096 : Shape := ⟨2, ![2, 4096]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S2x4096x512 : Shape := ⟨3, ![2, 4096, 512]⟩
abbrev S2x4096x256 : Shape := ⟨3, ![2, 4096, 256]⟩
abbrev S_ : Shape := ⟨0, ![]⟩
abbrev S2x4096x1 : Shape := ⟨3, ![2, 4096, 1]⟩
abbrev S1x1x512 : Shape := ⟨3, ![1, 1, 512]⟩
abbrev S2x4096x1536 : Shape := ⟨3, ![2, 4096, 1536]⟩
abbrev S2x4096x8x192 : Shape := ⟨4, ![2, 4096, 8, 192]⟩
abbrev S2x4096x8x128 : Shape := ⟨4, ![2, 4096, 8, 128]⟩
abbrev S2x4096x8x64 : Shape := ⟨4, ![2, 4096, 8, 64]⟩
abbrev S32 : Shape := ⟨1, ![32]⟩
abbrev S1x1x32 : Shape := ⟨3, ![1, 1, 32]⟩
abbrev S2x4096x32 : Shape := ⟨3, ![2, 4096, 32]⟩
abbrev S2x4096x1x32 : Shape := ⟨4, ![2, 4096, 1, 32]⟩
abbrev S2x4096x8x32 : Shape := ⟨4, ![2, 4096, 8, 32]⟩
abbrev S1x1x256 : Shape := ⟨3, ![1, 1, 256]⟩
abbrev S2x4096x2048 : Shape := ⟨3, ![2, 4096, 2048]⟩
abbrev S2x4096x8x256 : Shape := ⟨4, ![2, 4096, 8, 256]⟩
abbrev S2x4096x1x64 : Shape := ⟨4, ![2, 4096, 1, 64]⟩
abbrev S2x4096x8x16 : Shape := ⟨4, ![2, 4096, 8, 16]⟩
abbrev S2x4096x8x144 : Shape := ⟨4, ![2, 4096, 8, 144]⟩
abbrev S2x8x192x4096 : Shape := ⟨4, ![2, 8, 192, 4096]⟩
abbrev S2x8x4096x192 : Shape := ⟨4, ![2, 8, 4096, 192]⟩
abbrev S2x16x256x8x144 : Shape := ⟨5, ![2, 16, 256, 8, 144]⟩
abbrev S2x8x16x144x256 : Shape := ⟨5, ![2, 8, 16, 144, 256]⟩

abbrev nBuf : Space → Nat
  | .hbm => 121
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x64, .f32⟩
  | .hbm, ⟨2, _⟩ => ⟨S2x4096, .i32⟩
  | .hbm, ⟨3, _⟩ => ⟨S512, .f32⟩
  | .hbm, ⟨4, _⟩ => ⟨S256, .f32⟩
  | .hbm, ⟨5, _⟩ => ⟨S512x1536, .f32⟩
  | .hbm, ⟨6, _⟩ => ⟨S256x2048, .f32⟩
  | .hbm, ⟨7, _⟩ => ⟨S2x4096x512, .f32⟩
  | .hbm, ⟨8, _⟩ => ⟨S2x4096x256, .f32⟩
  | .hbm, ⟨9, _⟩ => ⟨S2x4096x512, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x512, .f32⟩
  | .hbm, ⟨21, _⟩ => ⟨S2x4096x512, .f32⟩
  | .hbm, ⟨22, _⟩ => ⟨S1x1x512, .f32⟩
  | .hbm, ⟨23, _⟩ => ⟨S2x4096x512, .f32⟩
  | .hbm, ⟨24, _⟩ => ⟨S2x4096x512, .f32⟩
  | .hbm, ⟨25, _⟩ => ⟨S2x4096x1536, .f32⟩
  | .hbm, ⟨26, _⟩ => ⟨S2x4096x8x192, .f32⟩
  | .hbm, ⟨27, _⟩ => ⟨S2x4096x8x128, .f32⟩
  | .hbm, ⟨28, _⟩ => ⟨S2x4096x8x64, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S2x4096, .f32⟩
  | .hbm, ⟨38, _⟩ => ⟨S2x4096x1, .f32⟩
  | .hbm, ⟨39, _⟩ => ⟨S1x1x32, .f32⟩
  | .hbm, ⟨40, _⟩ => ⟨S2x4096x32, .f32⟩
  | .hbm, ⟨41, _⟩ => ⟨S2x4096x32, .f32⟩
  | .hbm, ⟨42, _⟩ => ⟨S2x4096x32, .f32⟩
  | .hbm, ⟨43, _⟩ => ⟨S2x4096x1x32, .f32⟩
  | .hbm, ⟨44, _⟩ => ⟨S2x4096x1x32, .f32⟩
  | .hbm, ⟨45, _⟩ => ⟨S2x4096x1x32, .f32⟩
  | .hbm, ⟨46, _⟩ => ⟨S2x4096x8x32, .f32⟩
  | .hbm, ⟨47, _⟩ => ⟨S2x4096x8x32, .f32⟩
  | .hbm, ⟨48, _⟩ => ⟨S2x4096x8x32, .f32⟩
  | .hbm, ⟨49, _⟩ => ⟨S2x4096x8x32, .f32⟩
  | .hbm, ⟨50, _⟩ => ⟨S2x4096x8x32, .f32⟩
  | .hbm, ⟨51, _⟩ => ⟨S2x4096x8x32, .f32⟩
  | .hbm, ⟨52, _⟩ => ⟨S2x4096x8x32, .f32⟩
  | .hbm, ⟨53, _⟩ => ⟨S2x4096x8x32, .f32⟩
  | .hbm, ⟨54, _⟩ => ⟨S2x4096x8x32, .f32⟩
  | .hbm, ⟨55, _⟩ => ⟨S2x4096x8x32, .f32⟩
  | .hbm, ⟨56, _⟩ => ⟨S2x4096x8x32, .f32⟩
  | .hbm, ⟨57, _⟩ => ⟨S2x4096x8x32, .f32⟩
  | .hbm, ⟨58, _⟩ => ⟨S2x4096x8x64, .f32⟩
  | .hbm, ⟨59, _⟩ => ⟨S2x4096x8x192, .f32⟩
  | .hbm, ⟨60, _⟩ => ⟨S2x4096x256, .f32⟩
  | .hbm, ⟨61, _⟩ => ⟨S_, .f32⟩
  | .hbm, ⟨62, _⟩ => ⟨S2x4096, .f32⟩
  | .hbm, ⟨63, _⟩ => ⟨S2x4096x1, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S_, .f32⟩
  | .hbm, ⟨68, _⟩ => ⟨S2x4096x1, .f32⟩
  | .hbm, ⟨69, _⟩ => ⟨S2x4096x1, .f32⟩
  | .hbm, ⟨70, _⟩ => ⟨S2x4096x1, .f32⟩
  | .hbm, ⟨71, _⟩ => ⟨S2x4096x256, .f32⟩
  | .hbm, ⟨72, _⟩ => ⟨S2x4096x256, .f32⟩
  | .hbm, ⟨73, _⟩ => ⟨S1x1x256, .f32⟩
  | .hbm, ⟨74, _⟩ => ⟨S2x4096x256, .f32⟩
  | .hbm, ⟨75, _⟩ => ⟨S2x4096x256, .f32⟩
  | .hbm, ⟨76, _⟩ => ⟨S2x4096x2048, .f32⟩
  | .hbm, ⟨77, _⟩ => ⟨S2x4096x8x256, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S32, .f32⟩
  | .hbm, ⟨86, _⟩ => ⟨S2x4096, .f32⟩
  | .hbm, ⟨87, _⟩ => ⟨S2x4096x1, .f32⟩
  | .hbm, ⟨88, _⟩ => ⟨S1x1x32, .f32⟩
  | .hbm, ⟨89, _⟩ => ⟨S2x4096x32, .f32⟩
  | .hbm, ⟨90, _⟩ => ⟨S2x4096x32, .f32⟩
  | .hbm, ⟨91, _⟩ => ⟨S2x4096x32, .f32⟩
  | .hbm, ⟨92, _⟩ => ⟨S2x4096x32, .f32⟩
  | .hbm, ⟨93, _⟩ => ⟨S2x4096x32, .f32⟩
  | .hbm, ⟨94, _⟩ => ⟨S2x4096x32, .f32⟩
  | .hbm, ⟨95, _⟩ => ⟨S2x4096x32, .f32⟩
  | .hbm, ⟨96, _⟩ => ⟨S2x4096x32, .f32⟩
  | .hbm, ⟨97, _⟩ => ⟨S2x4096x32, .f32⟩
  | .hbm, ⟨98, _⟩ => ⟨S2x4096x32, .f32⟩
  | .hbm, ⟨99, _⟩ => ⟨S2x4096x32, .f32⟩
  | .hbm, ⟨100, _⟩ => ⟨S2x4096x32, .f32⟩
  | .hbm, ⟨101, _⟩ => ⟨S2x4096x32, .f32⟩
  | .hbm, ⟨102, _⟩ => ⟨S2x4096x64, .f32⟩
  | .hbm, ⟨103, _⟩ => ⟨S2x4096x1x64, .f32⟩
  | .hbm, ⟨104, _⟩ => ⟨S2x4096x8x64, .f32⟩
  | .hbm, ⟨105, _⟩ => ⟨S2x4096x8x128, .f32⟩
  | .hbm, ⟨106, _⟩ => ⟨S2x4096x8x192, .f32⟩
  | .hbm, ⟨107, _⟩ => ⟨S2x4096x8x128, .f32⟩
  | .hbm, ⟨108, _⟩ => ⟨S_, .f32⟩
  | .hbm, ⟨109, _⟩ => ⟨S2x4096x8x16, .f32⟩
  | .hbm, ⟨110, _⟩ => ⟨S2x4096x8x144, .f32⟩
  | .hbm, ⟨111, _⟩ => ⟨S_, .f32⟩
  | .hbm, ⟨112, _⟩ => ⟨S2x4096x8x192, .f32⟩
  | .hbm, ⟨113, _⟩ => ⟨S2x4096x8x192, .f32⟩
  | .hbm, ⟨114, _⟩ => ⟨S2x8x192x4096, .f32⟩
  | .hbm, ⟨115, _⟩ => ⟨S2x8x192x4096, .bf16⟩
  | .hbm, ⟨116, _⟩ => ⟨S2x8x4096x192, .f32⟩
  | .hbm, ⟨117, _⟩ => ⟨S2x8x4096x192, .bf16⟩
  | .hbm, ⟨118, _⟩ => ⟨S2x16x256x8x144, .f32⟩
  | .hbm, ⟨119, _⟩ => ⟨S2x8x16x144x256, .f32⟩
  | .hbm, ⟨120, _⟩ => ⟨S2x8x16x144x256, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_7 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_9 : Ref sig .tc := ⟨.hbm, 108, rfl⟩
abbrev main_v91 : Ref sig .tc := ⟨.hbm, 109, rfl⟩
abbrev main_v92 : Ref sig .tc := ⟨.hbm, 110, rfl⟩
abbrev main_cst_10 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== Proof.Steps.lean ====
/- The arithmetic of one grid point of the attention kernel, written once for any number of columns. A point visits the
   key blocks of its query block in order, and for every key block the two heads in order; `step` is one such visit, `state`
   the two scratch buffers after `n` visits, as the lists of rectangles written so far. -/
module

public import proofs.«01_k».proof.Proof.Gen.KernelIdeal.Frame.RunE
public import Idealize.ShloMosaic.Lib.MatmulPlain

@[expose] public section

noncomputable section

namespace Cert.KernelIdeal.Flash

open Idealize.ShloMosaic Idealize.ShloMosaic.TcCoe Idealize.SL.Sem Cert.KernelIdeal.Gen

variable {F : FTy → Type} [FloatOps F]

/-! ## Shape facts at any width -/

theorem bits_lt : FTy.bits .bf16 < FTy.bits .f32 := by decide

theorem cast_drop2 (a b : ℕ) : (⟨4, ![1, 1, a, b]⟩ : Shape).ShapeCasts ⟨2, ![a, b]⟩ := by
  simp [Shape.ShapeCasts, Shape.numel, Fin.prod_univ_succ]
theorem cast_drop3 (a b : ℕ) : (⟨5, ![1, 1, 1, a, b]⟩ : Shape).ShapeCasts ⟨2, ![a, b]⟩ := by
  simp [Shape.ShapeCasts, Shape.numel, Fin.prod_univ_succ]
theorem cast_drop1 (a b : ℕ) : (⟨3, ![1, a, b]⟩ : Shape).ShapeCasts ⟨2, ![a, b]⟩ := by
  simp [Shape.ShapeCasts, Shape.numel, Fin.prod_univ_succ]
theorem cast_add1 (a b : ℕ) : (⟨2, ![a, b]⟩ : Shape).ShapeCasts ⟨3, ![1, a, b]⟩ := by
  simp [Shape.ShapeCasts, Shape.numel, Fin.prod_univ_succ]
theorem cast_row (a : ℕ) : (⟨1, ![a]⟩ : Shape).ShapeCasts ⟨2, ![1, a]⟩ := by
  simp [Shape.ShapeCasts, Shape.numel, Fin.prod_univ_succ]
theorem bcast_row (a b : ℕ) : (⟨2, ![1, b]⟩ : Shape).Broadcasts ⟨2, ![a, b]⟩ :=
  ⟨le_rfl, fun x => by
    match x with
    | ⟨0, _⟩ => exact .inl rfl
    | ⟨1, _⟩ => exact .inr fun _ => rfl⟩
theorem reduces_rows (a b : ℕ) : (⟨2, ![a, b]⟩ : Shape).Reduces [0] ⟨1, ![b]⟩ :=
  ⟨rfl, Nat.one_pos, fun x => by
    match x with
    | ⟨0, _⟩ => rfl⟩

/-! ## What a point computes from what it reads -/

/-- Scores of one key block against the last `W` query columns. -/
def scores {W : ℕ} (k : Vec F ⟨4, ![1, 1, 256, 192]⟩ .bf16) (q : Vec F ⟨4, ![1, 1, 192, W]⟩ .bf16) : FVec F ⟨2, ![256, W]⟩ .f32 :=
  matmul (DotDims.plain 256 192 W) none (shapeCast ⟨2, ![256, 192]⟩ k (cast_drop2 _ _)) (shapeCast ⟨2, ![192, W]⟩ q (cast_drop2 _ _))
    (constant ⟨2, ![256, W]⟩ .f32 0x00000000#32)

/-- The largest score of each column of a block. -/
def colMax {W : ℕ} (s : FVec F ⟨2, ![256, W]⟩ .f32) : FVec F ⟨2, ![1, W]⟩ .f32 :=
  shapeCast ⟨2, ![1, W]⟩ (multiReduction .maximumf [0] ⟨1, ![W]⟩ s 0xFF800000#32 (reduces_rows _ _) (.inl rfl) rfl) (cast_row _)

/-- The weighted sum of a block's value rows (`v` transposed, with the rows of ones), the weights `2 ^ (s - m)`. -/
def weighted {W : ℕ} (v : Vec F ⟨5, ![1, 1, 1, 144, 256]⟩ .bf16) (s : FVec F ⟨2, ![256, W]⟩ .f32) (m : FVec F ⟨2, ![1, W]⟩ .f32) :
    FVec F ⟨2, ![144, W]⟩ .f32 :=
  matmul (DotDims.plain 144 256 W) none (shapeCast ⟨2, ![144, 256]⟩ v (cast_drop3 _ _))
    (truncf .bf16 (exp2 (subf s (broadcastTo ⟨2, ![256, W]⟩ m (bcast_row _ _)))) bits_lt)
    (constant ⟨2, ![144, W]⟩ .f32 0x00000000#32)

/-- The running maximum after a block. -/
def newMax {W : ℕ} (s : FVec F ⟨2, ![256, W]⟩ .f32) (mp : Vec F ⟨3, ![1, 1, W]⟩ .f32) : FVec F ⟨2, ![1, W]⟩ .f32 :=
  maximumf (shapeCast ⟨2, ![1, W]⟩ mp (cast_drop1 _ _)) (colMax s)

/-- The running weighted sum after a block: the old one rescaled to the new maximum, plus the block's. -/
def newAcc {W : ℕ} (v : Vec F ⟨5, ![1, 1, 1, 144, 256]⟩ .bf16) (s : FVec F ⟨2, ![256, W]⟩ .f32) (mp : Vec F ⟨3, ![1, 1, W]⟩ .f32)
    (ap : Vec F ⟨3, ![1, 144, W]⟩ .f32) : FVec F ⟨2, ![144, W]⟩ .f32 :=
  addf (mulf (broadcastTo ⟨2, ![144, W]⟩ (exp2 (subf (shapeCast ⟨2, ![1, W]⟩ mp (cast_drop1 _ _)) (newMax s mp))) (bcast_row _ _))
      (shapeCast ⟨2, ![144, W]⟩ ap (cast_drop1 _ _)))
    (weighted v s (newMax s mp))

/-! ## The scratch buffers -/

/-- What a point reads of its windows: the key block, the last `W` columns of the queries, the value block, and the first
    `W` columns of the bias. -/
structure Reads (F : FTy → Type) where
  k : Fin 2 → Fin 16 → Vec F ⟨4, ![1, 1, 256, 192]⟩ .bf16
  q : Fin 2 → (o W : ℕ) → o + W ≤ 1024 → Vec F ⟨4, ![1, 1, 192, W]⟩ .bf16
  v : Fin 2 → Fin 16 → Vec F ⟨5, ![1, 1, 1, 144, 256]⟩ .bf16
  bias : (W : ℕ) → W ≤ 1024 → Vec F ⟨2, ![256, W]⟩ .f32

/-- The pieces written so far into the buffer of maxima and into the accumulator. -/
abbrev State (F : FTy → Type) : Type :=
  List (View.Piece (Elt F) S2x1x1024 .f32) × List (View.Piece (Elt F) S2x144x1024 .f32)

theorem inb_m (h : Fin 2) (o W : ℕ) (hw : o + W ≤ 1024) (a : Fin 3) : (![h.val, 0, o] : Fin 3 → ℕ) a + (![1, 1, W] : Fin 3 → ℕ) a ≤ S2x1x1024.size a := by
  have := h.isLt
  match a with
  | ⟨0, _⟩ => show h.val + 1 ≤ 2; omega
  | ⟨1, _⟩ => show 0 + 1 ≤ 1; omega
  | ⟨2, _⟩ => exact hw
theorem inb_a (h : Fin 2) (r n o W : ℕ) (hn : r + n ≤ 144) (hw : o + W ≤ 1024) (a : Fin 3) :
    (![h.val, r, o] : Fin 3 → ℕ) a + (![1, n, W] : Fin 3 → ℕ) a ≤ S2x144x1024.size a := by
  have := h.isLt
  match a with
  | ⟨0, _⟩ => show h.val + 1 ≤ 2; omega
  | ⟨1, _⟩ => exact hn
  | ⟨2, _⟩ => exact hw

/-- The columns from `o` on of one head, in the buffer of maxima. -/
abbrev rectM (h : Fin 2) (o W : ℕ) (hw : o + W ≤ 1024) : Rect S2x1x1024 := Rect.unit ![h.val, 0, o] ![1, 1, W] (inb_m h o W hw)
/-- The `n` rows from `r` on, and the columns from `o` on, of one head in the accumulator. -/
abbrev rectA (h : Fin 2) (r n o W : ℕ) (hn : r + n ≤ 144) (hw : o + W ≤ 1024) : Rect S2x144x1024 :=
  Rect.unit ![h.val, r, o] ![1, n, W] (inb_a h r n o W hn hw)

section
variable (vm : View sig .tc .vmem S2x1x1024 .f32) (va : View sig .tc .vmem S2x144x1024 .f32) (R : Reads F)

/-- The first visit of a head: key block 0, over all the columns. -/
def first (h : Fin 2) (s : FVec F ⟨2, ![256, 1024]⟩ .f32) (σ : State F) : State F :=
  (⟨rectM h 0 1024 le_rfl, shapeCast ⟨3, ![1, 1, 1024]⟩ (colMax s) (cast_add1 _ _)⟩ :: σ.1,
   ⟨rectA h 0 144 0 1024 le_rfl le_rfl, shapeCast ⟨3, ![1, 144, 1024]⟩ (weighted (R.v h 0) s (colMax s)) (cast_add1 _ _)⟩ :: σ.2)

/-- A later visit: key block `b` over the columns from `o` on, of the maxima and sums that the earlier visits left. -/
def later (h : Fin 2) (b : Fin 16) (o W : ℕ) (hw : o + W ≤ 1024) (s : FVec F ⟨2, ![256, W]⟩ .f32) (σ : State F) : State F :=
  (⟨rectM h o W hw, shapeCast ⟨3, ![1, 1, W]⟩ (newMax s (vm.readCov σ.1 (rectM h o W hw).toLoadRect)) (cast_add1 _ _)⟩ :: σ.1,
   ⟨rectA h 0 144 o W le_rfl hw, shapeCast ⟨3, ![1, 144, W]⟩
      (newAcc (R.v h b) s (vm.readCov σ.1 (rectM h o W hw).toLoadRect) (va.readCov σ.2 (rectA h 0 144 o W le_rfl hw).toLoadRect))
      (cast_add1 _ _)⟩ :: σ.2)

/-- The scores of a visit: with the bias where the block meets the diagonal. -/
def blockScores (h : Fin 2) (b : Fin 16) (o W : ℕ) (hw : o + W ≤ 1024) (masked : Bool) : FVec F ⟨2, ![256, W]⟩ .f32 :=
  bif masked then addf (scores (R.k h b) (R.q h o W hw)) (R.bias W (by omega)) else scores (R.k h b) (R.q h o W hw)

/-- The first column that key block `b` of query block `q` reaches. -/
abbrev place (q b : ℕ) : ℕ := (b - 4 * q) % 4 * 256

/-- One visit: head `h`, key block `b` of query block `q`. -/
def visit (q : ℕ) (h : Fin 2) (b : Fin 16) (σ : State F) : State F :=
  bif Nat.beq b.val 0 then first R h (blockScores R h 0 0 1024 le_rfl (Nat.ble (4 * q) 0)) σ
  else
    later vm va R h b (place q b.val) (1024 - place q b.val) (by unfold place; omega)
      (blockScores R h b (place q b.val) (1024 - place q b.val) (by unfold place; omega) (Nat.ble (4 * q) b.val)) σ

/-- The visit numbered `n`: head `n % 2`, key block `n / 2`. -/
def step (q n : ℕ) (σ : State F) : State F :=
  visit vm va R q ⟨n % 2, Nat.mod_lt _ (by decide)⟩ ⟨n / 2 % 16, Nat.mod_lt _ (by decide)⟩ σ

/-- The buffers after `n` visits. -/
def state (q n : ℕ) : State F := Nat.rec ([], []) (fun n σ => step vm va R q n σ) n

end

/-! ## The rows that leave the point -/

/-- A head's output rows. -/
def outRows (num : Vec F ⟨3, ![1, 128, 1024]⟩ .f32) (den : Vec F ⟨3, ![1, 1, 1024]⟩ .f32) (g : Vec F ⟨3, ![1, 128, 1]⟩ .f32) :
    FVec F ⟨2, ![1024, 128]⟩ .bf16 :=
  k0_pay466 num den g

theorem inb_o (o : ℕ) (ho : o + 128 ≤ 256) (a : Fin 2) : (![0, o] : Fin 2 → ℕ) a + (![1024, 128] : Fin 2 → ℕ) a ≤ S1024x256.size a := by
  match a with
  | ⟨0, _⟩ => exact le_rfl
  | ⟨1, _⟩ => exact ho

/-- The two pieces of the output block, one a head, from the accumulator `A` and the gains. -/
def outPieces (va : View sig .tc .vmem S2x144x1024 .f32) (g : Fin 2 → Vec F ⟨3, ![1, 128, 1]⟩ .f32)
    (A : List (View.Piece (Elt F) S2x144x1024 .f32)) : List (View.Piece (Elt F) S1024x256 .bf16) :=
  [⟨Rect.unit ![0, 128] ![1024, 128] (inb_o 128 (by decide)),
      outRows (va.readCov A (rectA 1 0 128 0 1024 (by decide) le_rfl).toLoadRect)
        (va.readCov A (rectA 1 128 1 0 1024 (by decide) le_rfl).toLoadRect) (g 1)⟩,
   ⟨Rect.unit ![0, 0] ![1024, 128] (inb_o 0 (by decide)),
      outRows (va.readCov A (rectA 0 0 128 0 1024 (by decide) le_rfl).toLoadRect)
        (va.readCov A (rectA 0 128 1 0 1024 (by decide) le_rfl).toLoadRect) (g 0)⟩]

/-! ## What a point reads, from the contents of its windows -/

theorem inb_k (h : Fin 2) (b : Fin 16) (a : Fin 4) :
    (![0, h.val, b.val * 256, 0] : Fin 4 → ℕ) a + (![1, 1, 256, 192] : Fin 4 → ℕ) a ≤ S1x2x4096x192.size a := by
  have := h.isLt; have := b.isLt
  match a with
  | ⟨0, _⟩ => exact le_rfl
  | ⟨1, _⟩ => show h.val + 1 ≤ 2; omega
  | ⟨2, _⟩ => show b.val * 256 + 256 ≤ 4096; omega
  | ⟨3, _⟩ => exact le_rfl
theorem inb_q (h : Fin 2) (o W : ℕ) (hw : o + W ≤ 1024) (a : Fin 4) :
    (![0, h.val, 0, o] : Fin 4 → ℕ) a + (![1, 1, 192, W] : Fin 4 → ℕ) a ≤ S1x2x192x1024.size a := by
  have := h.isLt
  match a with
  | ⟨0, _⟩ => exact le_rfl
  | ⟨1, _⟩ => show h.val + 1 ≤ 2; omega
  | ⟨2, _⟩ => exact le_rfl
  | ⟨3, _⟩ => exact hw
theorem inb_v (h : Fin 2) (b : Fin 16) (a : Fin 5) :
    (![0, h.val, b.val, 0, 0] : Fin 5 → ℕ) a + (![1, 1, 1, 144, 256] : Fin 5 → ℕ) a ≤ S1x2x16x144x256.size a := by
  have := h.isLt; have := b.isLt
  match a with
  | ⟨0, _⟩ => exact le_rfl
  | ⟨1, _⟩ => show h.val + 1 ≤ 2; omega
  | ⟨2, _⟩ => show b.val + 1 ≤ 16; omega
  | ⟨3, _⟩ => exact le_rfl
  | ⟨4, _⟩ => exact le_rfl
theorem inb_b (W : ℕ) (hw : W ≤ 1024) (a : Fin 2) : (![0, 0] : Fin 2 → ℕ) a + (![256, W] : Fin 2 → ℕ) a ≤ S256x1024.size a := by
  match a with
  | ⟨0, _⟩ => exact le_rfl
  | ⟨1, _⟩ => show 0 + W ≤ 1024; omega
theorem inb_g (h : Fin 2) (a : Fin 3) : (![h.val, 0, 0] : Fin 3 → ℕ) a + (![1, 128, 1] : Fin 3 → ℕ) a ≤ S2x128x1.size a := by
  have := h.isLt
  match a with
  | ⟨0, _⟩ => show h.val + 1 ≤ 2; omega
  | ⟨1, _⟩ => exact le_rfl
  | ⟨2, _⟩ => exact le_rfl

/-- A key block of one head. -/
abbrev rectK (h : Fin 2) (b : Fin 16) : Rect S1x2x4096x192 := Rect.unit ![0, h.val, b.val * 256, 0] ![1, 1, 256, 192] (inb_k h b)
/-- The columns from `o` on of the queries of one head. -/
abbrev rectQ (h : Fin 2) (o W : ℕ) (hw : o + W ≤ 1024) : Rect S1x2x192x1024 := Rect.unit ![0, h.val, 0, o] ![1, 1, 192, W] (inb_q h o W hw)
/-- A value block of one head. -/
abbrev rectV (h : Fin 2) (b : Fin 16) : Rect S1x2x16x144x256 := Rect.unit ![0, h.val, b.val, 0, 0] ![1, 1, 1, 144, 256] (inb_v h b)
/-- The first columns of the bias. -/
abbrev rectB (W : ℕ) (hw : W ≤ 1024) : Rect S256x1024 := Rect.unit ![0, 0] ![256, W] (inb_b W hw)
/-- The gains of one head. -/
abbrev rectG (h : Fin 2) : Rect S2x128x1 := Rect.unit ![h.val, 0, 0] ![1, 128, 1] (inb_g h)

section
variable (arg3 : Memref sig .tc .vmem S1x2x192x1024 .bf16) (harg3 : arg3.IsWhole) (arg4 : Memref sig .tc .vmem S1x2x4096x192 .bf16) (harg4 : arg4.IsWhole)
  (arg5 : Memref sig .tc .vmem S1x2x16x144x256 .bf16) (harg5 : arg5.IsWhole) (arg6 : Memref sig .tc .vmem S2x128x1 .f32) (harg6 : arg6.IsWhole)
  (x0 : Vec F S1x2x192x1024 .bf16) (x1 : Vec F S1x2x4096x192 .bf16) (x2 : Vec F S1x2x16x144x256 .bf16) (x3 : Vec F S2x128x1 .f32)

/-- The reads of a point whose windows hold the queries `x0`, the keys `x1` and the values `x2`, the bias being `bias`. -/
def reads (bias : (W : ℕ) → W ≤ 1024 → Vec F ⟨2, ![256, W]⟩ .f32) : Reads F where
  k h b := View.readAt (Elt F) arg4.view (rectK h b).toLoadRect (harg4.unread x1)
  q h o W hw := View.readAt (Elt F) arg3.view (rectQ h o W hw).toLoadRect (harg3.unread x0)
  v h b := View.readAt (Elt F) arg5.view (rectV h b).toLoadRect (harg5.unread x2)
  bias := bias

/-- The gain of a head. -/
def gain (h : Fin 2) : Vec F ⟨3, ![1, 128, 1]⟩ .f32 :=
  View.readAt (Elt F) arg6.view (rectG h).toLoadRect (harg6.unread x3)

end

/-- The bias read from a buffer that holds it. -/
def biasKept (arg14 : Memref sig .tc .vmem S256x1024 .f32) (harg14 : arg14.IsWhole) (xs2 : Vec F S256x1024 .f32) (W : ℕ) (hw : W ≤ 1024) :
    Vec F ⟨2, ![256, W]⟩ .f32 :=
  View.readAt (Elt F) arg14.view (rectB W hw).toLoadRect (harg14.unread xs2)

/-- The bias read at the point that writes it. -/
def biasMade (arg14 : Memref sig .tc .vmem S256x1024 .f32) (W : ℕ) (hw : W ≤ 1024) : Vec F ⟨2, ![256, W]⟩ .f32 :=
  arg14.view.readCov [⟨rectB 1024 le_rfl, k0_pay465⟩] (rectB W hw).toLoadRect

end Cert.KernelIdeal.Flash

end
-- ==== Proof.Online.lean ====
/- The arithmetic of a softmax taken block by block, on the extended reals. -/
module

public import Idealize.ShloMosaic.PureOps.Ideal.Laws
public import Idealize.ShloMosaic.Lib.ValueIdxCore

@[expose] public section

noncomputable section

namespace Cert.Online

open Idealize.ShloMosaic
open scoped BigOperators

/-! ## Powers of two of nonpositive differences -/

/-- A power of two is nonnegative. -/
theorem exp2_nonneg (x : EReal) : 0 ≤ Ideal.exp2 x := by
  induction x using EReal.rec with
  | bot => simp
  | top => simp
  | coe r => rw [Ideal.exp2_coe]; exact_mod_cast Real.rpow_nonneg (by norm_num) r

/-- A power of two of `a - b` is not infinite when `a ≤ b`. -/
theorem exp2_sub_ne_top {a b : EReal} (h : a ≤ b) : Ideal.exp2 (a - b) ≠ ⊤ := by
  induction a using EReal.rec with
  | bot => simp
  | top => obtain rfl : b = ⊤ := top_le_iff.mp h; simp [EReal.sub_top]
  | coe r =>
    induction b using EReal.rec with
    | bot => exact absurd h (by simp)
    | top => simp [EReal.sub_top]
    | coe t => rw [← EReal.coe_sub, Ideal.exp2_coe]; exact EReal.coe_ne_top _

/-- The powers of two of two successive differences multiply, downwards. -/
theorem exp2_sub_mul {x a b : EReal} (hxa : x ≤ a) (hab : a ≤ b) :
    Ideal.exp2 (a - b) * Ideal.exp2 (x - a) = Ideal.exp2 (x - b) := by
  induction b using EReal.rec with
  | bot =>
    obtain rfl : a = ⊥ := le_bot_iff.mp hab
    obtain rfl : x = ⊥ := le_bot_iff.mp hxa
    simp
  | top => simp [EReal.sub_top]
  | coe t =>
    induction a using EReal.rec with
    | bot => obtain rfl : x = ⊥ := le_bot_iff.mp hxa; simp
    | top => exact absurd hab (by simp)
    | coe r =>
      induction x using EReal.rec with
      | bot => simp
      | top => exact absurd hxa (by simp)
      | coe y =>
        rw [← EReal.coe_sub, ← EReal.coe_sub, ← EReal.coe_sub, Ideal.exp2_coe, Ideal.exp2_coe, Ideal.exp2_coe, ← EReal.coe_mul]
        congr 1
        show (2 : ℝ) ^ (r - t) * (2 : ℝ) ^ (y - r) = (2 : ℝ) ^ (y - t)
        rw [← Real.rpow_add (by norm_num)]
        congr 1; ring

/-- A finite nonnegative factor distributes over a finite sum. -/
theorem mul_sum {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert i s hi ih => rw [Finset.sum_insert hi, Finset.sum_insert hi, EReal.left_distrib_of_nonneg_of_ne_top h0 ht, ih]

/-! ## The recursion over blocks of 256 keys -/

/-- The running maximum after block `n`. -/
def runMax (s : ℕ → Fin 256 → EReal) : ℕ → EReal
  | 0 => Finset.univ.sup (s 0)
  | n + 1 => max (runMax s n) (Finset.univ.sup (s (n + 1)))

/-- The running sum after block `n`, rescaled at every block to the new maximum. -/
def runSum (s v : ℕ → Fin 256 → EReal) : ℕ → EReal
  | 0 => ∑ k, v 0 k * Ideal.exp2 (s 0 k - runMax s 0)
  | n + 1 => Ideal.exp2 (runMax s n - runMax s (n + 1)) * runSum s v n
      + ∑ k, v (n + 1) k * Ideal.exp2 (s (n + 1) k - runMax s (n + 1))

/-- The running maximum grows. -/
theorem runMax_le_succ (s : ℕ → Fin 256 → EReal) (n : ℕ) : runMax s n ≤ runMax s (n + 1) := le_max_left _ _

/-- A score of a block visited is at most the running maximum. -/
theorem le_runMax (s : ℕ → Fin 256 → EReal) : ∀ n i, i ≤ n → ∀ k, s i k ≤ runMax s n
  | 0, i, h, k => by obtain rfl : i = 0 := by omega
                     exact Finset.le_sup (Finset.mem_univ k)
  | n + 1, i, h, k => by
    rcases Nat.lt_or_ge n i with h' | h'
    · obtain rfl : i = n + 1 := by omega
      exact (Finset.le_sup (f := s (n + 1)) (Finset.mem_univ k)).trans (le_max_right _ _)
    · exact (le_runMax s n i h' k).trans (runMax_le_succ s n)

/-- The running maximum is the least bound of the scores visited. -/
theorem runMax_le (s : ℕ → Fin 256 → EReal) {b : EReal} : ∀ n, (∀ i, i ≤ n → ∀ k, s i k ≤ b) → runMax s n ≤ b
  | 0, h => Finset.sup_le fun k _ => h 0 le_rfl k
  | n + 1, h => max_le (runMax_le s n fun i hi k => h i (by omega) k) (Finset.sup_le fun k _ => h (n + 1) le_rfl k)

/-- The running sum is the sum over all the keys visited, of their values weighted against the last maximum. -/
theorem runSum_eq (s v : ℕ → Fin 256 → EReal) : ∀ n,
    runSum s v n = ∑ i ∈ Finset.range (n + 1), ∑ k, v i k * Ideal.exp2 (s i k - runMax s n)
  | 0 => by simp [runSum]
  | n + 1 => by
    rw [runSum, runSum_eq s v n, Finset.sum_range_succ _ (n + 1),
      mul_sum _ _ (exp2_nonneg _) (exp2_sub_ne_top (runMax_le_succ s n))]
    congr 1
    refine Finset.sum_congr rfl fun i hi => ?_
    rw [mul_sum _ _ (exp2_nonneg _) (exp2_sub_ne_top (runMax_le_succ s n))]
    refine Finset.sum_congr rfl fun k _ => ?_
    rw [mul_left_comm, exp2_sub_mul (le_runMax s n i (by simpa using Nat.lt_succ_iff.mp (Finset.mem_range.mp hi)) k) (runMax_le_succ s n)]

/-- Blocks whose scores are all `⊥` add nothing, so the sum may run over more blocks than were visited. -/
theorem runSum_eq_of_bot (s v : ℕ → Fin 256 → EReal) {n N : ℕ} (hN : n < N) (hbot : ∀ i, n < i → ∀ k, s i k = ⊥) :
    runSum s v n = ∑ i ∈ Finset.range N, ∑ k, v i k * Ideal.exp2 (s i k - runMax s n) := by
  rw [runSum_eq]
  refine Finset.sum_subset (Finset.range_subset_range.mpr hN) fun i _ hi => Finset.sum_eq_zero fun k _ => ?_
  rw [hbot i (by simpa using hi) k]; simp

/-! ## A change of base -/

/-- Multiplying by a positive real is monotone. -/
theorem mul_mono_coe {a : ℝ} (ha : 0 < a) : Monotone fun x : EReal => (a : EReal) * x := fun _ _ h =>
  mul_le_mul_of_nonneg_left h (by exact_mod_cast ha.le)

/-- `2 ^ (a / log 2 * (x - y)) = exp (a * (x - y))`. -/
theorem exp2_scaled {a b : ℝ} (ha : 0 < a) (hb : b * Real.log 2 = a) (x y : EReal) :
    Ideal.exp2 (b * x - b * y) = Ideal.exp (a * x - a * y) := by
  have hl : 0 < Real.log 2 := Real.log_pos (by norm_num)
  have hb0 : 0 < b := by
    by_contra h
    have : b * Real.log 2 ≤ 0 := mul_nonpos_of_nonpos_of_nonneg (not_lt.mp h) hl.le
    linarith
  induction x using EReal.rec with
  | bot => rw [EReal.coe_mul_bot_of_pos hb0, EReal.coe_mul_bot_of_pos ha]; simp
  | top =>
    rw [EReal.coe_mul_top_of_pos hb0, EReal.coe_mul_top_of_pos ha]
    induction y using EReal.rec with
    | bot => rw [EReal.coe_mul_bot_of_pos hb0, EReal.coe_mul_bot_of_pos ha]; simp
    | top => rw [EReal.coe_mul_top_of_pos hb0, EReal.coe_mul_top_of_pos ha]; simp [EReal.sub_top]
    | coe t => rw [← EReal.coe_mul, ← EReal.coe_mul, EReal.top_sub_coe, EReal.top_sub_coe]; simp
  | coe r =>
    induction y using EReal.rec with
    | bot => rw [EReal.coe_mul_bot_of_pos hb0, EReal.coe_mul_bot_of_pos ha, ← EReal.coe_mul, ← EReal.coe_mul, EReal.coe_sub_bot, EReal.coe_sub_bot]; simp
    | top => rw [EReal.coe_mul_top_of_pos hb0, EReal.coe_mul_top_of_pos ha]; simp [EReal.sub_top]
    | coe t =>
      rw [← EReal.coe_mul, ← EReal.coe_mul, ← EReal.coe_mul, ← EReal.coe_mul, ← EReal.coe_sub, ← EReal.coe_sub, Ideal.exp2_coe, Ideal.exp_coe]
      congr 1
      show (2 : ℝ) ^ (b * r - b * t) = _
      rw [Real.rpow_def_of_pos (by norm_num), ← hb]
      congr 1; ring

/-! ## Dividing by the sum of the weights -/

/-- Exponentials are nonnegative. -/
theorem exp_nonneg (x : EReal) : 0 ≤ Ideal.exp x := by
  induction x using EReal.rec with
  | bot => simp
  | top => simp
  | coe r => rw [Ideal.exp_coe]; exact_mod_cast (Real.exp_pos r).le

/-- The exponential of `a - b` is not infinite when `a ≤ b`. -/
theorem exp_sub_ne_top {a b : EReal} (h : a ≤ b) : Ideal.exp (a - b) ≠ ⊤ := by
  induction a using EReal.rec with
  | bot => simp
  | top => obtain rfl : b = ⊤ := top_le_iff.mp h; simp [EReal.sub_top]
  | coe r =>
    induction b using EReal.rec with
    | bot => exact absurd h (by simp)
    | top => simp [EReal.sub_top]
    | coe t => rw [← EReal.coe_sub, Ideal.exp_coe]; exact EReal.coe_ne_top _

/-- Finite sums of nonnegative reals are nonnegative reals. -/
theorem sum_real {ι : Type*} (s : Finset ι) (e : ι → EReal) (h0 : ∀ i, 0 ≤ e i) (ht : ∀ i, e i ≠ ⊤) :
    ∃ r : ℝ, 0 ≤ r ∧ ∑ i ∈ s, e i = (r : EReal) := by
  classical
  induction s using Finset.induction_on with
  | empty => exact ⟨0, le_rfl, by simp⟩
  | insert i s hi ih =>
    obtain ⟨r, hr, h⟩ := ih
    refine ⟨(e i).toReal + r, add_nonneg (EReal.toReal_nonneg (h0 i)) hr, ?_⟩
    rw [Finset.sum_insert hi, h, EReal.coe_add,
      EReal.coe_toReal (ht i) (ne_bot_of_gt (lt_of_lt_of_le EReal.bot_lt_zero (h0 i)))]

/-- With a positive sum of weights, dividing the weights first and the weighted sum afterwards agree. -/
theorem sum_div_mul {ι : Type*} (s : Finset ι) (e v : ι → EReal) {r : ℝ} (hr : 0 < r) :
    ∑ i ∈ s, Ideal.div (e i) (r : EReal) * v i = Ideal.div (∑ i ∈ s, v i * e i) (r : EReal) := by
  have h1 : (0 : ℝ) ≤ 1 / r := by positivity
  rw [Ideal.div_coe hr.ne', mul_comm, mul_sum _ _ (by exact_mod_cast h1) (EReal.coe_ne_top _)]
  refine Finset.sum_congr rfl fun i _ => ?_
  rw [Ideal.div_coe hr.ne', mul_right_comm, mul_comm, mul_comm (v i)]

/-! ## Root-mean-square scaling where the sum of the weights is zero -/

/-- Zero or infinite. -/
def Extreme (x : EReal) : Prop := x = 0 ∨ x = ⊤ ∨ x = ⊥

theorem Extreme.add {x y : EReal} (hx : Extreme x) (hy : Extreme y) : Extreme (x + y) := by
  rcases hx with rfl | rfl | rfl <;> rcases hy with rfl | rfl | rfl <;> simp [Extreme]

theorem Extreme.sum {ι : Type*} (s : Finset ι) (f : ι → EReal) (h : ∀ i, Extreme (f i)) : Extreme (∑ i ∈ s, f i) := by
  classical
  induction s using Finset.induction_on with
  | empty => exact .inl rfl
  | insert i s hi ih => rw [Finset.sum_insert hi]; exact (h i).add ih

theorem Extreme.bot_mul (x : EReal) : Extreme (⊥ * x) := by
  induction x using EReal.rec with
  | bot => exact .inr (.inl (by simp))
  | top => exact .inr (.inr (by simp))
  | coe r =>
    rcases lt_trichotomy r 0 with h | h | h
    · exact .inr (.inl (EReal.bot_mul_coe_of_neg h))
    · subst h; exact .inl (by simp)
    · exact .inr (.inr (EReal.bot_mul_coe_of_pos h))

theorem Extreme.sq_nonneg {x : EReal} (h : Extreme x) : 0 ≤ x * x := by
  rcases h with rfl | rfl | rfl <;> simp

/-- A vector of zeros and infinities is scaled to zero. -/
theorem rms_extreme {n : ℕ} (o : Fin n → EReal) (h : ∀ d, Extreme (o d)) {c ε : ℝ} (hc : 0 < c) (d : Fin n) :
    o d * Ideal.rsqrt (Ideal.div (∑ d, o d * o d) (c : EReal) + (ε : EReal)) = 0 := by
  by_cases hz : ∀ d, o d = 0
  · rw [hz d, zero_mul]
  · push Not at hz
    obtain ⟨d', hd'⟩ := hz
    have htop : o d' * o d' = ⊤ := by
      rcases h d' with h0 | h0 | h0
      · exact absurd h0 hd'
      · rw [h0]; simp
      · rw [h0]; simp
    have hs : ∑ d, o d * o d = ⊤ :=
      top_le_iff.mp (htop ▸ Finset.single_le_sum (f := fun d => o d * o d) (fun i _ => (h i).sq_nonneg) (Finset.mem_univ d'))
    have hc' : (0 : ℝ) < 1 / c := by positivity
    rw [hs, Ideal.div_coe hc.ne', EReal.top_mul_coe_of_pos hc', EReal.top_add_coe, Ideal.rsqrt_top, mul_zero]

end Cert.Online

end
-- ==== Proof.Column.lean ====
/- What one visit of a grid point does to one column of the scratch buffers, on the extended reals. -/
module

public import proofs.«01_k».proof.Proof.Steps
public import proofs.«01_k».proof.Proof.Online
public import Idealize.ShloMosaic.Lib.Pipeline.ValueKit
public import Idealize.ShloMosaic.Lib.ValueLayout
public import Idealize.ShloMosaic.Lib.ValueIdx

@[expose] public section

noncomputable section

namespace Cert.KernelIdeal.Flash

open Idealize.ShloMosaic hiding ix0 ix1 ix2 ix3 ix4 ix5 addf_apply mulf_apply subf_apply divf_apply maximumf_apply constant_apply truncf_apply
open Idealize.ShloMosaic.TcCoe Idealize.ShloMosaic.ValueIdx Idealize.SL.Sem Cert.KernelIdeal.Gen Cert.Online
open scoped BigOperators

/-! ## Unit axes -/

theorem drop2_apply {α : Type} {a b : ℕ} (x : (⟨4, ![1, 1, a, b]⟩ : Shape).Idx → α) (h) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])
theorem drop3_apply {α : Type} {a b : ℕ} (x : (⟨5, ![1, 1, 1, a, b]⟩ : Shape).Idx → α) (h) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add])

/-! ## The arithmetic of a visit, entry by entry -/

theorem ofBits_neg_inf : Ideal.ofBits .f32 0xFF800000#32 = ⊥ := by simp [Ideal.ofBits, Ideal.ieee]

theorem scores_apply {W : ℕ} (k : Vec Ideal ⟨4, ![1, 1, 256, 192]⟩ .bf16) (q : Vec Ideal ⟨4, ![1, 1, 192, W]⟩ .bf16)
    (κ : Fin 256) (j : Fin W) :
    scores k q (ix2 κ j) = ∑ d : Fin 192, k (ix4 (0 : Fin 1) (0 : Fin 1) κ d) * q (ix4 (0 : Fin 1) (0 : Fin 1) d j) := by
  rw [scores]
  refine (Ideal.matmul_plain_apply _ _ _ _ κ j).trans ?_
  rw [constant_apply, Ideal.ofBits_zero_f32, zero_add]
  exact Finset.sum_congr rfl fun d _ => by rw [drop2_apply, drop2_apply]

theorem colMax_apply {W : ℕ} (s : FVec Ideal ⟨2, ![256, W]⟩ .f32) (u : Fin 1) (j : Fin W) :
    colMax s (ix2 u j) = Finset.univ.sup fun κ : Fin 256 => s (ix2 κ j) := by
  rw [colMax, shapeCast_a_1a_apply]
  refine (Ideal.multiReduction_maximumf_single _ _ _ _ _ _).trans ?_
  rw [Ideal.ofBits_def, ofBits_neg_inf]
  refine congrArg (fun f : Fin 256 → EReal => (Finset.univ : Finset (Fin 256)).fold max ⊥ f) (funext fun κ => congrArg s ?_)
  funext a
  match a with
  | ⟨0, _⟩ => rfl
  | ⟨1, _⟩ => rfl

theorem weighted_apply {W : ℕ} (v : Vec Ideal ⟨5, ![1, 1, 1, 144, 256]⟩ .bf16) (s : FVec Ideal ⟨2, ![256, W]⟩ .f32)
    (m : FVec Ideal ⟨2, ![1, W]⟩ .f32) (r : Fin 144) (j : Fin W) :
    weighted v s m (ix2 r j)
      = ∑ κ : Fin 256, v (ix5 (0 : Fin 1) (0 : Fin 1) (0 : Fin 1) r κ) * Ideal.exp2 (s (ix2 κ j) - m (ix2 (0 : Fin 1) j)) := by
  rw [weighted]
  refine (Ideal.matmul_plain_apply _ _ _ _ r j).trans ?_
  rw [constant_apply, Ideal.ofBits_zero_f32, zero_add]
  refine Finset.sum_congr rfl fun κ _ => ?_
  rw [drop3_apply, truncf_apply]
  show _ * Ideal.exp2 (s (ix2 κ j) - broadcastTo ⟨2, ![256, W]⟩ m _ (ix2 κ j)) = _
  rw [broadcastTo_1b_ab_apply]

theorem newMax_apply {W : ℕ} (s : FVec Ideal ⟨2, ![256, W]⟩ .f32) (mp : Vec Ideal ⟨3, ![1, 1, W]⟩ .f32) (u : Fin 1) (j : Fin W) :
    newMax s mp (ix2 u j) = max (mp (ix3 (0 : Fin 1) u j)) (Finset.univ.sup fun κ : Fin 256 => s (ix2 κ j)) := by
  rw [newMax, maximumf_apply, shapeCast_1ab_ab_apply, colMax_apply]

theorem newAcc_apply {W : ℕ} (v : Vec Ideal ⟨5, ![1, 1, 1, 144, 256]⟩ .bf16) (s : FVec Ideal ⟨2, ![256, W]⟩ .f32)
    (mp : Vec Ideal ⟨3, ![1, 1, W]⟩ .f32) (ap : Vec Ideal ⟨3, ![1, 144, W]⟩ .f32) (r : Fin 144) (j : Fin W) :
    newAcc v s mp ap (ix2 r j)
      = Ideal.exp2 (mp (ix3 (0 : Fin 1) (0 : Fin 1) j) - max (mp (ix3 (0 : Fin 1) (0 : Fin 1) j)) (Finset.univ.sup fun κ : Fin 256 => s (ix2 κ j)))
            * ap (ix3 (0 : Fin 1) r j)
        + ∑ κ : Fin 256, v (ix5 (0 : Fin 1) (0 : Fin 1) (0 : Fin 1) r κ)
            * Ideal.exp2 (s (ix2 κ j) - max (mp (ix3 (0 : Fin 1) (0 : Fin 1) j)) (Finset.univ.sup fun κ : Fin 256 => s (ix2 κ j))) := by
  rw [newAcc, addf_apply, mulf_apply, broadcastTo_1b_ab_apply, shapeCast_1ab_ab_apply, weighted_apply, newMax_apply]
  congr 2
  show Ideal.exp2 (shapeCast ⟨2, ![1, W]⟩ mp _ (ix2 0 j) - newMax s mp (ix2 0 j)) = _
  rw [shapeCast_1ab_ab_apply, newMax_apply]

/-! ## The scratch buffers, entry by entry -/

/-- The entry of the buffer of maxima at a head and a column. -/
def mAt (σ : State Ideal) (h : Fin 2) (c : Fin 1024) : EReal := View.canon (Val := Elt Ideal) σ.1 (ix3 h (0 : Fin 1) c)
/-- The entry of the accumulator at a head, a row and a column. -/
def aAt (σ : State Ideal) (h : Fin 2) (r : Fin 144) (c : Fin 1024) : EReal := View.canon (Val := Elt Ideal) σ.2 (ix3 h r c)

theorem rectM_emb (h : Fin 2) (o W : ℕ) (hw : o + W ≤ 1024) (j : Fin W) :
    (rectM h o W hw).emb (ix3 (0 : Fin 1) (0 : Fin 1) j) = ix3 h (0 : Fin 1) (⟨o + j.val, by omega⟩ : Fin 1024) := by
  funext a
  apply Fin.ext
  match a with
  | ⟨0, _⟩ => show h.val + 1 * 0 = h.val; omega
  | ⟨1, _⟩ => show 0 + 1 * 0 = 0; omega
  | ⟨2, _⟩ => show o + 1 * j.val = o + j.val; omega

theorem rectA_emb (h : Fin 2) (r n o W : ℕ) (hn : r + n ≤ 144) (hw : o + W ≤ 1024) (i : Fin n) (j : Fin W) :
    (rectA h r n o W hn hw).emb (ix3 (0 : Fin 1) i j) = ix3 h (⟨r + i.val, by omega⟩ : Fin 144) (⟨o + j.val, by omega⟩ : Fin 1024) := by
  funext a
  apply Fin.ext
  match a with
  | ⟨0, _⟩ => show h.val + 1 * 0 = h.val; omega
  | ⟨1, _⟩ => show r + 1 * i.val = r + i.val; omega
  | ⟨2, _⟩ => show o + 1 * j.val = o + j.val; omega

theorem readM_apply (vm : View sig .tc .vmem S2x1x1024 .f32) (σ : State Ideal) (h : Fin 2) (o W : ℕ) (hw : o + W ≤ 1024) (j : Fin W) :
    vm.readCov (Val := Elt Ideal) σ.1 (rectM h o W hw).toLoadRect (ix3 (0 : Fin 1) (0 : Fin 1) j) = mAt σ h ⟨o + j.val, by omega⟩ := by
  rw [View.readCov_eq_canon']
  exact congrArg (View.canon (Val := Elt Ideal) σ.1) (rectM_emb h o W hw j)

theorem readA_apply (va : View sig .tc .vmem S2x144x1024 .f32) (σ : State Ideal) (h : Fin 2) (r n o W : ℕ) (hn : r + n ≤ 144)
    (hw : o + W ≤ 1024) (i : Fin n) (j : Fin W) :
    va.readCov (Val := Elt Ideal) σ.2 (rectA h r n o W hn hw).toLoadRect (ix3 (0 : Fin 1) i j) = aAt σ h ⟨r + i.val, by omega⟩ ⟨o + j.val, by omega⟩ := by
  rw [View.readCov_eq_canon']
  exact congrArg (View.canon (Val := Elt Ideal) σ.2) (rectA_emb h r n o W hn hw i j)

/-- A write to the maxima seen at a column it covers … -/
theorem canonM_in (h : Fin 2) (o W : ℕ) (hw : o + W ≤ 1024) (w : Vec Ideal ⟨3, ![1, 1, W]⟩ .f32)
    (L : List (View.Piece (Elt Ideal) S2x1x1024 .f32)) (c : Fin 1024) (j : Fin W) (hj : o + j.val = c.val) :
    View.canon (Val := Elt Ideal) (⟨rectM h o W hw, w⟩ :: L) (ix3 h (0 : Fin 1) c) = w (ix3 (0 : Fin 1) (0 : Fin 1) j) := by
  have e : (ix3 h (0 : Fin 1) c : S2x1x1024.Idx) = (rectM h o W hw).emb (ix3 (0 : Fin 1) (0 : Fin 1) j) := by
    rw [rectM_emb]; congr 1; exact Fin.ext hj.symm
  rw [e]; exact View.canon_cons_emb (rectM h o W hw) w L _

/-- … and at one that it does not. -/
theorem canonM_out (h : Fin 2) (o W : ℕ) (hw : o + W ≤ 1024) (w : Vec Ideal ⟨3, ![1, 1, W]⟩ .f32)
    (L : List (View.Piece (Elt Ideal) S2x1x1024 .f32)) (h' : Fin 2) (c : Fin 1024) (hc : h' ≠ h ∨ c.val < o) :
    View.canon (Val := Elt Ideal) (⟨rectM h o W hw, w⟩ :: L) (ix3 h' (0 : Fin 1) c) = View.canon (Val := Elt Ideal) L (ix3 h' (0 : Fin 1) c) := by
  refine View.canon_cons_of_not_mem _ L fun hm => ?_
  have hm := (Rect.mem_set_unit (inb := inb_m h o W hw)).mp hm
  rcases hc with hc | hc
  · have h0 : h.val ≤ h'.val ∧ h'.val < h.val + 1 := hm 0
    exact hc (Fin.ext (by omega))
  · have h2 : o ≤ c.val ∧ c.val < o + W := hm 2
    omega

/-- A write to the accumulator seen at a column it covers … -/
theorem canonA_in (h : Fin 2) (o W : ℕ) (hw : o + W ≤ 1024) (w : Vec Ideal ⟨3, ![1, 144, W]⟩ .f32)
    (L : List (View.Piece (Elt Ideal) S2x144x1024 .f32)) (r : Fin 144) (c : Fin 1024) (j : Fin W) (hj : o + j.val = c.val) :
    View.canon (Val := Elt Ideal) (⟨rectA h 0 144 o W le_rfl hw, w⟩ :: L) (ix3 h r c) = w (ix3 (0 : Fin 1) r j) := by
  have e : (ix3 h r c : S2x144x1024.Idx) = (rectA h 0 144 o W le_rfl hw).emb (ix3 (0 : Fin 1) r j) := by
    rw [rectA_emb]; congr 1
    · exact Fin.ext (Nat.zero_add _).symm
    · exact Fin.ext hj.symm
  rw [e]; exact View.canon_cons_emb (rectA h 0 144 o W le_rfl hw) w L _

/-- … and at one that it does not. -/
theorem canonA_out (h : Fin 2) (o W : ℕ) (hw : o + W ≤ 1024) (w : Vec Ideal ⟨3, ![1, 144, W]⟩ .f32)
    (L : List (View.Piece (Elt Ideal) S2x144x1024 .f32)) (h' : Fin 2) (r : Fin 144) (c : Fin 1024) (hc : h' ≠ h ∨ c.val < o) :
    View.canon (Val := Elt Ideal) (⟨rectA h 0 144 o W le_rfl hw, w⟩ :: L) (ix3 h' r c) = View.canon (Val := Elt Ideal) L (ix3 h' r c) := by
  refine View.canon_cons_of_not_mem _ L fun hm => ?_
  have hm := (Rect.mem_set_unit (inb := inb_a h 0 144 o W le_rfl hw)).mp hm
  rcases hc with hc | hc
  · have h0 : h.val ≤ h'.val ∧ h'.val < h.val + 1 := hm 0
    exact hc (Fin.ext (by omega))
  · have h2 : o ≤ c.val ∧ c.val < o + W := hm 2
    omega

section
variable (vm : View sig .tc .vmem S2x1x1024 .f32) (va : View sig .tc .vmem S2x144x1024 .f32) (R : Reads Ideal)

theorem first_other (h h' : Fin 2) (hh : h' ≠ h) (s) (σ : State Ideal) (r : Fin 144) (c : Fin 1024) :
    mAt (first R h s σ) h' c = mAt σ h' c ∧ aAt (first R h s σ) h' r c = aAt σ h' r c :=
  ⟨canonM_out h 0 1024 le_rfl _ _ h' c (.inl hh), canonA_out h 0 1024 le_rfl _ _ h' r c (.inl hh)⟩

theorem first_self (h : Fin 2) (s) (σ : State Ideal) (r : Fin 144) (c : Fin 1024) :
    mAt (first R h s σ) h c = Finset.univ.sup (fun κ : Fin 256 => s (ix2 κ c))
    ∧ aAt (first R h s σ) h r c
        = ∑ κ : Fin 256, R.v h 0 (ix5 (0 : Fin 1) (0 : Fin 1) (0 : Fin 1) r κ)
            * Ideal.exp2 (s (ix2 κ c) - Finset.univ.sup fun κ : Fin 256 => s (ix2 κ c)) := by
  constructor
  · refine (canonM_in h 0 1024 le_rfl _ _ c c (Nat.zero_add _)).trans ?_
    rw [shapeCast_ab_1ab_apply, colMax_apply]
  · refine (canonA_in h 0 1024 le_rfl _ _ r c c (Nat.zero_add _)).trans ?_
    rw [shapeCast_ab_1ab_apply, weighted_apply]
    simp only [colMax_apply]

theorem later_other (h : Fin 2) (b : Fin 16) (o W : ℕ) (hw : o + W ≤ 1024) (s) (σ : State Ideal) (h' : Fin 2) (r : Fin 144) (c : Fin 1024)
    (hc : h' ≠ h ∨ c.val < o) :
    mAt (later vm va R h b o W hw s σ) h' c = mAt σ h' c ∧ aAt (later vm va R h b o W hw s σ) h' r c = aAt σ h' r c :=
  ⟨canonM_out h o W hw _ _ h' c hc, canonA_out h o W hw _ _ h' r c hc⟩

theorem later_self (h : Fin 2) (b : Fin 16) (o W : ℕ) (hw : o + W ≤ 1024) (s) (σ : State Ideal) (r : Fin 144) (c : Fin 1024) (j : Fin W)
    (hj : o + j.val = c.val) :
    mAt (later vm va R h b o W hw s σ) h c = max (mAt σ h c) (Finset.univ.sup fun κ : Fin 256 => s (ix2 κ j))
    ∧ aAt (later vm va R h b o W hw s σ) h r c
        = Ideal.exp2 (mAt σ h c - max (mAt σ h c) (Finset.univ.sup fun κ : Fin 256 => s (ix2 κ j))) * aAt σ h r c
          + ∑ κ : Fin 256, R.v h b (ix5 (0 : Fin 1) (0 : Fin 1) (0 : Fin 1) r κ)
              * Ideal.exp2 (s (ix2 κ j) - max (mAt σ h c) (Finset.univ.sup fun κ : Fin 256 => s (ix2 κ j))) := by
  have ec : (⟨o + j.val, by omega⟩ : Fin 1024) = c := Fin.ext hj
  have er : (⟨0 + r.val, by omega⟩ : Fin 144) = r := Fin.ext (Nat.zero_add _)
  constructor
  · refine (canonM_in h o W hw _ _ c j hj).trans ?_
    rw [shapeCast_ab_1ab_apply, newMax_apply, readM_apply, ec]
  · refine (canonA_in h o W hw _ _ r c j hj).trans ?_
    rw [shapeCast_ab_1ab_apply, newAcc_apply, readM_apply, readA_apply, ec, er]

/-! ## The scores with their mask -/

/-- The reads of a point whose keys are `K`, queries `Q` and values `V`, the bias being the causal one. -/
structure ReadsAre (K : Fin 2 → Fin 16 → Fin 256 → Fin 192 → EReal) (Q : Fin 2 → Fin 192 → Fin 1024 → EReal)
    (V : Fin 2 → Fin 16 → Fin 144 → Fin 256 → EReal) : Prop where
  k : ∀ h b κ d, R.k h b (ix4 (0 : Fin 1) (0 : Fin 1) κ d) = K h b κ d
  q : ∀ h o W (hw : o + W ≤ 1024) d (j : Fin W), R.q h o W hw (ix4 (0 : Fin 1) (0 : Fin 1) d j) = Q h d ⟨o + j.val, by omega⟩
  v : ∀ h b r κ, R.v h b (ix5 (0 : Fin 1) (0 : Fin 1) (0 : Fin 1) r κ) = V h b r κ
  bias : ∀ W (hw : W ≤ 1024) (κ : Fin 256) (j : Fin W), R.bias W hw (ix2 κ j) = if κ.val ≤ j.val then (0 : EReal) else ⊥

variable (K : Fin 2 → Fin 16 → Fin 256 → Fin 192 → EReal) (Q : Fin 2 → Fin 192 → Fin 1024 → EReal)
  (V : Fin 2 → Fin 16 → Fin 144 → Fin 256 → EReal)

/-- Key block `b` as a number below 16. -/
abbrev blk (b : ℕ) : Fin 16 := ⟨b % 16, Nat.mod_lt _ (by decide)⟩

/-- The causal score of key `κ` of block `b` against column `c` of query block `q`. -/
def sc (q : ℕ) (h : Fin 2) (c : Fin 1024) (b : ℕ) (κ : Fin 256) : EReal :=
  if b * 256 + κ.val ≤ q * 1024 + c.val then ∑ d, K h (blk b) κ d * Q h d c else ⊥

/-- The values of key block `b`. -/
def vl (h : Fin 2) (r : Fin 144) (b : ℕ) (κ : Fin 256) : EReal := V h (blk b) r κ

variable {R K Q V}

theorem blockScores_apply (hR : ReadsAre R K Q V) (q b : ℕ) (hb : b < 4 * (q + 1)) (h : Fin 2) (bb : Fin 16) (hbb : bb = blk b) (o W : ℕ)
    (hw : o + W ≤ 1024) (ho : o = place q b) (κ : Fin 256) (j : Fin W) (c : Fin 1024) (hj : o + j.val = c.val) :
    blockScores R h bb o W hw (Nat.ble (4 * q) b) (ix2 κ j) = sc K Q q h c b κ := by
  have ec : (⟨o + j.val, by omega⟩ : Fin 1024) = c := Fin.ext hj
  have es : scores (R.k h bb) (R.q h o W hw) (ix2 κ j) = ∑ d, K h (blk b) κ d * Q h d c := by
    rw [scores_apply]
    refine Finset.sum_congr rfl fun d _ => ?_
    rw [hR.k, hR.q, ec, hbb]
  have hκ := κ.isLt
  unfold place at ho
  cases hm : Nat.ble (4 * q) b with
  | true =>
    have hm := Nat.le_of_ble_eq_true hm
    show addf (scores (R.k h bb) (R.q h o W hw)) (R.bias W (by omega)) (ix2 κ j) = _
    rw [addf_apply, es, hR.bias, sc]
    by_cases hle : κ.val ≤ j.val
    · rw [if_pos hle, if_pos (by omega), add_zero]
    · rw [if_neg hle, if_neg (by omega), EReal.add_bot]
  | false =>
    have hm : ¬ 4 * q ≤ b := fun h => by rw [Nat.ble_eq_true_of_le h] at hm; cases hm
    show scores (R.k h bb) (R.q h o W hw) (ix2 κ j) = _
    rw [es, sc, if_pos (by omega)]

/-! ## The buffers after all the visits of a block -/

/-- The visit numbered `2 * b + h` is head `h`'s of key block `b`. -/
theorem step_eq (q b : ℕ) (hb : b < 16) (h : Fin 2) (σ : State Ideal) :
    step vm va R q (2 * b + h.val) σ = visit vm va R q h ⟨b, hb⟩ σ := by
  have hh := h.isLt
  have e1 : (⟨(2 * b + h.val) % 2, Nat.mod_lt _ (by decide)⟩ : Fin 2) = h := Fin.ext (by show (2 * b + h.val) % 2 = h.val; omega)
  have e2 : (⟨(2 * b + h.val) / 2 % 16, Nat.mod_lt _ (by decide)⟩ : Fin 16) = ⟨b, hb⟩ :=
    Fin.ext (by show (2 * b + h.val) / 2 % 16 = b; omega)
  unfold step
  rw [e1, e2]

/-- One visit of head `h`, key block `b`: the column goes one block further in the recursion, unless it was finished. -/
theorem visit_self (hR : ReadsAre R K Q V) (q b : ℕ) (hq : q < 4) (hb : b < 4 * (q + 1)) (h : Fin 2) (σ : State Ideal) (r : Fin 144) (c : Fin 1024)
    (hσ : b = 0 ∨ (mAt σ h c = runMax (sc K Q q h c) (min (b - 1) (4 * q + c.val / 256))
      ∧ aAt σ h r c = runSum (sc K Q q h c) (vl V h r) (min (b - 1) (4 * q + c.val / 256)))) :
    mAt (visit vm va R q h ⟨b, by omega⟩ σ) h c = runMax (sc K Q q h c) (min b (4 * q + c.val / 256))
      ∧ aAt (visit vm va R q h ⟨b, by omega⟩ σ) h r c = runSum (sc K Q q h c) (vl V h r) (min b (4 * q + c.val / 256)) := by
  have hc := c.isLt
  unfold visit
  rcases b with _ | b
  · have hs : ∀ κ : Fin 256, blockScores R h 0 0 1024 le_rfl (Nat.ble (4 * q) 0) (ix2 κ c) = sc K Q q h c 0 κ := fun κ =>
      blockScores_apply hR q 0 hb h 0 rfl 0 1024 le_rfl (by unfold place; omega) κ c c (Nat.zero_add _)
    have hf := first_self R h (blockScores R h 0 0 1024 le_rfl (Nat.ble (4 * q) 0)) σ r c
    simp only [hs, hR.v] at hf
    rw [Nat.zero_min]
    exact hf
  · have hne : Nat.beq (⟨b + 1, by omega⟩ : Fin 16).val 0 = false := rfl
    rw [hne, cond_false]
    obtain ⟨hm, ha⟩ := hσ.resolve_left (by omega)
    rw [Nat.add_sub_cancel] at hm ha
    have ebb : (⟨b + 1, by omega⟩ : Fin 16) = blk (b + 1) := Fin.ext (by show b + 1 = (b + 1) % 16; omega)
    have hw : place q (b + 1) + (1024 - place q (b + 1)) ≤ 1024 := by unfold place; omega
    generalize hS : blockScores R h ⟨b + 1, by omega⟩ (place q (b + 1)) (1024 - place q (b + 1)) hw (Nat.ble (4 * q) (b + 1)) = S
    by_cases ho : c.val < place q (b + 1)
    · obtain ⟨h1, h2⟩ := later_other vm va R h ⟨b + 1, by omega⟩ (place q (b + 1)) (1024 - place q (b + 1)) hw S σ h r c (.inr ho)
      have e3 : min b (4 * q + c.val / 256) = min (b + 1) (4 * q + c.val / 256) := by unfold place at ho; omega
      rw [← e3]
      exact ⟨h1.trans hm, h2.trans ha⟩
    · obtain ⟨j, hj⟩ : ∃ j : Fin (1024 - place q (b + 1)), place q (b + 1) + j.val = c.val :=
        ⟨⟨c.val - place q (b + 1), by omega⟩, by show place q (b + 1) + (c.val - place q (b + 1)) = c.val; omega⟩
      obtain ⟨h1, h2⟩ := later_self vm va R h ⟨b + 1, by omega⟩ (place q (b + 1)) (1024 - place q (b + 1)) hw S σ r c j hj
      have hs : ∀ κ : Fin 256, S (ix2 κ j) = sc K Q q h c (b + 1) κ := fun κ => by
        rw [← hS]; exact blockScores_apply hR q (b + 1) hb h _ ebb _ _ _ rfl κ _ c hj
      have e3 : min b (4 * q + c.val / 256) = b := by unfold place at ho; omega
      have e4 : min (b + 1) (4 * q + c.val / 256) = b + 1 := by unfold place at ho; omega
      rw [e3] at hm ha
      rw [e4]
      have hv : ∀ κ, R.v h ⟨b + 1, by omega⟩ (ix5 (0 : Fin 1) (0 : Fin 1) (0 : Fin 1) r κ) = vl V h r (b + 1) κ := fun κ => by
        rw [hR.v, vl, ebb]
      simp only [hs, hv, hm, ha] at h1 h2
      exact ⟨h1, h2⟩

/-- A visit of one head leaves the other head's columns alone. -/
theorem visit_other (q : ℕ) (b : Fin 16) (h h' : Fin 2) (hh : h' ≠ h) (σ : State Ideal) (r : Fin 144) (c : Fin 1024) :
    mAt (visit vm va R q h b σ) h' c = mAt σ h' c ∧ aAt (visit vm va R q h b σ) h' r c = aAt σ h' r c := by
  unfold visit
  cases Nat.beq b.val 0 with
  | true => exact first_other R h h' hh _ σ r c
  | false => exact later_other vm va R h _ _ _ _ _ σ h' r c (.inl hh)

/-- Both heads' visits of one key block. -/
theorem visit_both (hR : ReadsAre R K Q V) (q b : ℕ) (hq : q < 4) (hb : b < 4 * (q + 1)) (σ : State Ideal) (r : Fin 144) (c : Fin 1024)
    (hσ : b = 0 ∨ ∀ h, (mAt σ h c = runMax (sc K Q q h c) (min (b - 1) (4 * q + c.val / 256))
      ∧ aAt σ h r c = runSum (sc K Q q h c) (vl V h r) (min (b - 1) (4 * q + c.val / 256)))) (h : Fin 2) :
    mAt (visit vm va R q 1 ⟨b, by omega⟩ (visit vm va R q 0 ⟨b, by omega⟩ σ)) h c = runMax (sc K Q q h c) (min b (4 * q + c.val / 256))
      ∧ aAt (visit vm va R q 1 ⟨b, by omega⟩ (visit vm va R q 0 ⟨b, by omega⟩ σ)) h r c
          = runSum (sc K Q q h c) (vl V h r) (min b (4 * q + c.val / 256)) := by
  match h with
  | ⟨0, _⟩ =>
    obtain ⟨h1, h2⟩ := visit_other vm va (R := R) q ⟨b, by omega⟩ 1 0 (by decide) (visit vm va R q 0 ⟨b, by omega⟩ σ) r c
    obtain ⟨h3, h4⟩ := visit_self vm va hR q b hq hb 0 σ r c (hσ.imp id fun h => h 0)
    exact ⟨h1.trans h3, h2.trans h4⟩
  | ⟨1, _⟩ =>
    obtain ⟨h1, h2⟩ := visit_other vm va (R := R) q ⟨b, by omega⟩ 0 1 (by decide) σ r c
    exact visit_self vm va hR q b hq hb 1 _ r c (hσ.imp id fun h => ⟨h1.trans (h 1).1, h2.trans (h 1).2⟩)

/-- After both heads' visits of key block `b` every column holds the recursion's values for that block, or for the last block that
    reaches the column. -/
theorem state_eq (hR : ReadsAre R K Q V) (q : ℕ) (hq : q < 4) (r : Fin 144) (c : Fin 1024) : ∀ b, b < 4 * (q + 1) → ∀ h : Fin 2,
    mAt (state vm va R q (2 * b + 2)) h c = runMax (sc K Q q h c) (min b (4 * q + c.val / 256))
      ∧ aAt (state vm va R q (2 * b + 2)) h r c = runSum (sc K Q q h c) (vl V h r) (min b (4 * q + c.val / 256)) := by
  intro b
  induction b with
  | zero =>
    intro hb h
    show mAt (step vm va R q (2 * 0 + (1 : Fin 2).val) (step vm va R q (2 * 0 + (0 : Fin 2).val) ([], []))) h c = _ ∧
      aAt (step vm va R q (2 * 0 + (1 : Fin 2).val) (step vm va R q (2 * 0 + (0 : Fin 2).val) ([], []))) h r c = _
    rw [step_eq vm va q 0 (by omega), step_eq vm va q 0 (by omega)]
    exact visit_both vm va hR q 0 hq hb ([], []) r c (.inl rfl) h
  | succ b ih =>
    intro hb h
    show mAt (step vm va R q (2 * (b + 1) + (1 : Fin 2).val) (step vm va R q (2 * (b + 1) + (0 : Fin 2).val) (state vm va R q (2 * b + 2)))) h c = _ ∧
      aAt (step vm va R q (2 * (b + 1) + (1 : Fin 2).val) (step vm va R q (2 * (b + 1) + (0 : Fin 2).val) (state vm va R q (2 * b + 2)))) h r c = _
    rw [step_eq vm va q (b + 1) (by omega), step_eq vm va q (b + 1) (by omega)]
    exact visit_both vm va hR q (b + 1) hq hb _ r c (.inr (ih (by omega))) h

/-- What the buffers hold at the point's end: the recursion at the last block that reaches the column. -/
theorem final_eq (hR : ReadsAre R K Q V) (q : ℕ) (hq : q < 4) (h : Fin 2) (r : Fin 144) (c : Fin 1024) :
    aAt (state vm va R q (8 * (q + 1))) h r c = runSum (sc K Q q h c) (vl V h r) (4 * q + c.val / 256) := by
  have hc := c.isLt
  have e : 8 * (q + 1) = 2 * (4 * q + 3) + 2 := by omega
  rw [e, (state_eq vm va hR q hq r c (4 * q + 3) (by omega) h).2, min_eq_right (by omega)]

end

end Cert.KernelIdeal.Flash

end
-- ==== Proof.Rows.lean ====
/- The rows that leave a grid point, entry by entry: quotient of numerator and denominator, scaled by its root mean square over
   the head's 128 entries, and by the gain. -/
module

public import proofs.«01_k».proof.Proof.Column
public import Idealize.ShloMosaic.Lib.Pointwise

@[expose] public section

noncomputable section

namespace Cert.KernelIdeal.Flash

section
open Idealize.ShloMosaic Idealize.ShloMosaic.TcCoe Idealize.SL.Sem Cert.KernelIdeal.Gen
open scoped BigOperators

/-- The written row of a column, with the index functions of the library's rewriting of vector expressions. -/
theorem rows_at (num : Vec Ideal ⟨3, ![1, 128, 1024]⟩ .f32) (den : Vec Ideal ⟨3, ![1, 1, 1024]⟩ .f32) (g : Vec Ideal ⟨3, ![1, 128, 1]⟩ .f32)
    (c : Fin 1024) (d : Fin 128) :
    k0_pay466 (F := Ideal) num den g (ix2 c d)
      = Ideal.div (num (ix3 0 d c)) (den (ix3 0 0 c))
          * Ideal.rsqrt (Ideal.div (∑ e : Fin 128, Ideal.div (num (ix3 0 e c)) (den (ix3 0 0 c)) * Ideal.div (num (ix3 0 e c)) (den (ix3 0 0 c)))
              (Ideal.ofBits .f32 0x43000000#32) + Ideal.ofBits .f32 0x358637BD#32)
          * g (ix3 0 d 0) := by
  pointwise [k0_pay466]

/-- The bias before it is stored: zero up to the diagonal, minus infinity beyond. -/
theorem bias_at (κ : Fin 256) (j : Fin 1024) : k0_pay465 (F := Ideal) (ix2 κ j) = if κ.val ≤ j.val then (0 : EReal) else ⊥ := by
  pointwise [k0_pay465]
  rw [WordCmp.cmpi_sle_ofNat (by omega) (by omega)]
  by_cases hj : κ.val ≤ j.val
  · rw [if_pos hj, decide_eq_true hj]; rfl
  · rw [if_neg hj, decide_eq_false hj]; exact ofBits_neg_inf

end

open Idealize.ShloMosaic hiding ix0 ix1 ix2 ix3 ix4 ix5 addf_apply mulf_apply subf_apply divf_apply maximumf_apply constant_apply truncf_apply
open Idealize.ShloMosaic.TcCoe Idealize.ShloMosaic.ValueIdx Idealize.SL.Sem Cert.KernelIdeal.Gen Cert.Online
open scoped BigOperators

/-- One entry of a scaled row `o`. -/
def scaled (o : Fin 128 → EReal) (g : EReal) (d : Fin 128) : EReal :=
  o d * Ideal.rsqrt (Ideal.div (∑ e, o e * o e) (Ideal.ofBits .f32 0x43000000#32) + Ideal.ofBits .f32 0x358637BD#32) * g

theorem outRows_apply (num : Vec Ideal ⟨3, ![1, 128, 1024]⟩ .f32) (den : Vec Ideal ⟨3, ![1, 1, 1024]⟩ .f32) (g : Vec Ideal ⟨3, ![1, 128, 1]⟩ .f32)
    (c : Fin 1024) (d : Fin 128) :
    outRows (F := Ideal) num den g (ix2 c d)
      = scaled (fun e => Ideal.div (num (ix3 (0 : Fin 1) e c)) (den (ix3 (0 : Fin 1) (0 : Fin 1) c))) (g (ix3 (0 : Fin 1) d (0 : Fin 1))) d :=
  rows_at num den g c d

/-- The block that the pieces make, at a row and a head's entry. -/
theorem outPieces_apply (va : View sig .tc .vmem S2x144x1024 .f32) (g : Fin 2 → Vec Ideal ⟨3, ![1, 128, 1]⟩ .f32) (σ : State Ideal)
    (c : Fin 1024) (h : Fin 2) (d : Fin 128) :
    View.canon (Val := Elt Ideal) (outPieces va g σ.2) (ix2 c (⟨h.val * 128 + d.val, by omega⟩ : Fin 256))
      = scaled (fun e => Ideal.div (aAt σ h ⟨e.val, by omega⟩ c) (aAt σ h 128 c)) (g h (ix3 (0 : Fin 1) d (0 : Fin 1))) d := by
  have hd := d.isLt
  have emb : ∀ (o : ℕ) (ho : o + 128 ≤ 256), (Rect.unit (s := S1024x256) ![0, o] ![1024, 128] (inb_o o ho)).emb (ix2 c d)
      = ix2 c (⟨o + d.val, by omega⟩ : Fin 256) := by
    intro o ho
    funext a
    refine Fin.ext ?_
    match a with
    | ⟨0, _⟩ => show 0 + 1 * c.val = c.val; omega
    | ⟨1, _⟩ => show o + 1 * d.val = o + d.val; omega
  have row : ∀ (h : Fin 2), outRows (F := Ideal) (va.readCov σ.2 (rectA h 0 128 0 1024 (by decide) le_rfl).toLoadRect)
        (va.readCov σ.2 (rectA h 128 1 0 1024 (by decide) le_rfl).toLoadRect) (g h) (ix2 c d)
      = scaled (fun e => Ideal.div (aAt σ h ⟨e.val, by omega⟩ c) (aAt σ h 128 c)) (g h (ix3 (0 : Fin 1) d (0 : Fin 1))) d := by
    intro h
    rw [outRows_apply]
    have hA : ∀ (e : Fin 128), va.readCov (Val := Elt Ideal) σ.2 (rectA h 0 128 0 1024 (by decide) le_rfl).toLoadRect (ix3 (0 : Fin 1) e c)
        = aAt σ h ⟨e.val, by omega⟩ c := by
      intro e
      rw [readA_apply]
      congr 1 <;> exact Fin.ext (Nat.zero_add _)
    have hB : va.readCov (Val := Elt Ideal) σ.2 (rectA h 128 1 0 1024 (by decide) le_rfl).toLoadRect (ix3 (0 : Fin 1) (0 : Fin 1) c)
        = aAt σ h 128 c := by
      rw [readA_apply]
      congr 1; exact Fin.ext (Nat.zero_add _)
    simp only [hA, hB]
  match h with
  | ⟨1, _⟩ =>
    have e : (ix2 c (⟨1 * 128 + d.val, by omega⟩ : Fin 256) : S1024x256.Idx)
        = (Rect.unit (s := S1024x256) ![0, 128] ![1024, 128] (inb_o 128 (by decide))).emb (ix2 c d) := by
      exact (emb 128 (by decide)).symm
    refine Eq.trans ?_ (row 1)
    exact (congrArg _ e).trans (View.canon_cons_emb (Rect.unit (s := S1024x256) ![0, 128] ![1024, 128] (inb_o 128 (by decide))) _ _ _)
  | ⟨0, _⟩ =>
    have e : (ix2 c (⟨0 * 128 + d.val, by omega⟩ : Fin 256) : S1024x256.Idx)
        = (Rect.unit (s := S1024x256) ![0, 0] ![1024, 128] (inb_o 0 (by decide))).emb (ix2 c d) := by
      exact (congrArg (fun n : Fin 256 => (ix2 c n : S1024x256.Idx)) (Fin.ext (by show 0 * 128 + d.val = 0 + d.val; omega))).trans (emb 0 (by decide)).symm
    refine Eq.trans ?_ (row 0)
    refine Eq.trans (View.canon_cons_of_not_mem _ _ fun hm => ?_) ?_
    · have h1 : 128 ≤ 0 * 128 + d.val ∧ 0 * 128 + d.val < 128 + 128 := (Rect.mem_set_unit (inb := inb_o 128 (by decide))).mp hm 1
      omega
    · exact (congrArg _ e).trans (View.canon_cons_emb (Rect.unit (s := S1024x256) ![0, 0] ![1024, 128] (inb_o 0 (by decide))) _ _ _)

end Cert.KernelIdeal.Flash

end
-- ==== Proof.Runs.lean ====
/- The five kinds of grid point: the output block each leaves is the one that `Flash.state` describes. Every statement compares the
   pieces which the run found with those of the recursion; the two are the same term once the definitions are unfolded. -/
module

public import proofs.«01_k».proof.Proof.Steps
public import Idealize.ShloMosaic.Lib.Pipeline.Regions

@[expose] public section

set_option maxRecDepth 16384

noncomputable section

namespace Cert.KernelIdeal.Flash

open Idealize.ShloMosaic Idealize.ShloMosaic.TcCoe Idealize.SL.Sem Cert.KernelIdeal.Gen

variable {F : FTy → Type} [FloatOps F]

variable (c : Dev nD) (i : grid0.Coords) (arg3 : Memref sig .tc .vmem S1x2x192x1024 .bf16) (harg3 : arg3.IsWhole)
    (arg4 : Memref sig .tc .vmem S1x2x4096x192 .bf16) (harg4 : arg4.IsWhole) (arg5 : Memref sig .tc .vmem S1x2x16x144x256 .bf16)
    (harg5 : arg5.IsWhole) (arg6 : Memref sig .tc .vmem S2x128x1 .f32) (harg6 : arg6.IsWhole)
    (arg7 : Memref sig .tc .vmem S176x2048 .f32) (harg7 : arg7.IsWhole) (arg8 : Memref sig .tc .vmem S64x2048 .f32) (harg8 : arg8.IsWhole)
    (arg9 : Memref sig .tc .vmem S1024x256 .bf16) (harg9 : arg9.IsWhole) (arg10 : Memref sig .tc .vmem S176x2048 .bf16)
    (harg10 : arg10.IsWhole) (arg11 : Memref sig .tc .vmem S64x2048 .bf16) (harg11 : arg11.IsWhole)
    (arg12 : Memref sig .tc .vmem S2x1x1024 .f32) (harg12 : arg12.IsWhole) (arg13 : Memref sig .tc .vmem S2x144x1024 .f32)
    (harg13 : arg13.IsWhole) (arg14 : Memref sig .tc .vmem S256x1024 .f32) (harg14 : arg14.IsWhole)
    (x0 : Vec F S1x2x192x1024 .bf16) (x1 : Vec F S1x2x4096x192 .bf16) (x2 : Vec F S1x2x16x144x256 .bf16) (x3 : Vec F S2x128x1 .f32)
    (x4 : Vec F S176x2048 .f32) (x5 : Vec F S64x2048 .f32) (xs2 : Vec F S256x1024 .f32)

/-- The very first point (query block 0; it also writes the bias): its output pieces are those of `state` after all its visits. -/
theorem out_A
    (hc0 : cond0_0 i) (hc1 : cond0_1 i) (hc2 : cond0_2 i) (hc3 : cond0_3 i) (hc4 : ¬cond0_4 i) (hc5 : ¬cond0_5 i) (hc6 : ¬cond0_6 i) :
    (kernelRun0_A c i arg3 harg3 arg4 harg4 arg5 harg5 arg6 harg6 arg7 harg7 arg8 harg8 arg9 harg9 arg10 harg10 arg11 harg11 arg12 harg12 arg13 harg13 arg14 harg14
        hc0 hc1 hc2 hc3 hc4 hc5 hc6 x0 x1 x2 x3 x4 x5).1
      = outPieces arg13.view (gain arg6 harg6 x3)
          (state arg12.view arg13.view (reads arg3 harg3 arg4 harg4 arg5 harg5 x0 x1 x2 (biasMade arg14)) 0 8).2 := by
  chain_rfl

/-- A point of query block 0 that finds the bias written: its output pieces are those of `state` after all its visits. -/
theorem out_E
    (hc0 : cond0_0 i) (hc1 : cond0_1 i) (hc2 : ¬cond0_2 i) (hc3 : cond0_3 i) (hc4 : ¬cond0_4 i) (hc5 : ¬cond0_5 i) (hc6 : ¬cond0_6 i) :
    (kernelRun0_E c i arg3 harg3 arg4 harg4 arg5 harg5 arg6 harg6 arg7 harg7 arg8 harg8 arg9 harg9 arg10 harg10 arg11 harg11 arg12 harg12 arg13 harg13 arg14 harg14
        hc0 hc1 hc2 hc3 hc4 hc5 hc6 x0 x1 x2 x3 x4 x5 xs2).1
      = outPieces arg13.view (gain arg6 harg6 x3)
          (state arg12.view arg13.view (reads arg3 harg3 arg4 harg4 arg5 harg5 x0 x1 x2 (biasKept arg14 harg14 xs2)) 0 8).2 := by
  chain_rfl

/-- A point of query block 1: its output pieces are those of `state` after all its visits. -/
theorem out_B
    (hc0 : cond0_0 i) (hc1 : cond0_1 i) (hc2 : ¬cond0_2 i) (hc3 : ¬cond0_3 i) (hc4 : cond0_4 i) (hc5 : ¬cond0_5 i) (hc6 : ¬cond0_6 i) :
    (kernelRun0_B c i arg3 harg3 arg4 harg4 arg5 harg5 arg6 harg6 arg7 harg7 arg8 harg8 arg9 harg9 arg10 harg10 arg11 harg11 arg12 harg12 arg13 harg13 arg14 harg14
        hc0 hc1 hc2 hc3 hc4 hc5 hc6 x0 x1 x2 x3 x4 x5 xs2).1
      = outPieces arg13.view (gain arg6 harg6 x3)
          (state arg12.view arg13.view (reads arg3 harg3 arg4 harg4 arg5 harg5 x0 x1 x2 (biasKept arg14 harg14 xs2)) 1 16).2 := by
  chain_rfl

/-- A point of query block 2: its output pieces are those of `state` after all its visits. -/
theorem out_C
    (hc0 : cond0_0 i) (hc1 : cond0_1 i) (hc2 : ¬cond0_2 i) (hc3 : ¬cond0_3 i) (hc4 : ¬cond0_4 i) (hc5 : cond0_5 i) (hc6 : ¬cond0_6 i) :
    (kernelRun0_C c i arg3 harg3 arg4 harg4 arg5 harg5 arg6 harg6 arg7 harg7 arg8 harg8 arg9 harg9 arg10 harg10 arg11 harg11 arg12 harg12 arg13 harg13 arg14 harg14
        hc0 hc1 hc2 hc3 hc4 hc5 hc6 x0 x1 x2 x3 x4 x5 xs2).1
      = outPieces arg13.view (gain arg6 harg6 x3)
          (state arg12.view arg13.view (reads arg3 harg3 arg4 harg4 arg5 harg5 x0 x1 x2 (biasKept arg14 harg14 xs2)) 2 24).2 := by
  chain_rfl

/-- A point of query block 3: its output pieces are those of `state` after all its visits. -/
theorem out_D
    (hc0 : cond0_0 i) (hc1 : cond0_1 i) (hc2 : ¬cond0_2 i) (hc3 : ¬cond0_3 i) (hc4 : ¬cond0_4 i) (hc5 : ¬cond0_5 i) (hc6 : cond0_6 i) :
    (kernelRun0_D c i arg3 harg3 arg4 harg4 arg5 harg5 arg6 harg6 arg7 harg7 arg8 harg8 arg9 harg9 arg10 harg10 arg11 harg11 arg12 harg12 arg13 harg13 arg14 harg14
        hc0 hc1 hc2 hc3 hc4 hc5 hc6 x0 x1 x2 x3 x4 x5 xs2).1
      = outPieces arg13.view (gain arg6 harg6 x3)
          (state arg12.view arg13.view (reads arg3 harg3 arg4 harg4 arg5 harg5 x0 x1 x2 (biasKept arg14 harg14 xs2)) 3 32).2 := by
  chain_rfl

end Cert.KernelIdeal.Flash

end
-- ==== Proof.Prepared.lean ====
/- The arrays that the operations before the call hand to it, entry by entry: queries scaled and transposed, keys with the
   shared rotary part appended, values transposed in blocks with rows of ones below them, the gains. -/
module

public import proofs.«01_k».proof.Proof.Gen.KernelIdeal.Value
public import Idealize.ShloMosaic.Lib.Pointwise
public import Idealize.ShloMosaic.Lib.Pipeline.Regions

@[expose] public section

set_option maxRecDepth 16384

noncomputable section

namespace Cert.KernelIdeal.Prep

open Idealize.ShloMosaic Idealize.ShloMosaic.TcCoe Idealize.SL.Sem Cert.KernelIdeal Cert.KernelIdeal.Gen
open scoped BigOperators

/-- The scale of the queries. -/
def scale : FVec Ideal S_ .f32 := Host.divf (constant S_ .f32 0x3D93CD3A#32) (Host.log (constant S_ .f32 0x40000000#32))

/-- The queries as the call reads them. -/
def queries (qn : FVec Ideal S2x4096x8x128 .f32) (qr : FVec Ideal S2x4096x8x64 .f32) : FVec Ideal S2x8x192x4096 .bf16 :=
  transpose S2x8x192x4096 [0, 2, 3, 1] (truncf .bf16 (mulf (concatenate S2x4096x8x192 3 [⟨S2x4096x8x128, qn⟩, ⟨S2x4096x8x64, qr⟩]
      concatenates_S2x4096x8x128_S2x4096x8x64_S2x4096x8x192_d3) (broadcastInDim S2x4096x8x192 ![] bcast_S_S2x4096x8x192 scale)) bitsLt_bf16_f32)
    transposes_S2x4096x8x192_S2x8x192x4096_0_2_3_1

/-- The keys as the call reads them. -/
def keys (kn : FVec Ideal S2x4096x8x128 .f32) (kr : FVec Ideal S2x4096x64 .f32) : FVec Ideal S2x8x4096x192 .bf16 :=
  transpose S2x8x4096x192 [0, 2, 1, 3] (truncf .bf16 (concatenate S2x4096x8x192 3 [⟨S2x4096x8x128, kn⟩, ⟨S2x4096x8x64,
      broadcastInDim S2x4096x8x64 ![0, 1, 2, 3] bcast_S2x4096x1x64_S2x4096x8x64_0_1_2_3
        (broadcastInDim S2x4096x1x64 ![0, 1, 3] bcast_S2x4096x64_S2x4096x1x64_0_1_3 kr)⟩]
      concatenates_S2x4096x8x128_S2x4096x8x64_S2x4096x8x192_d3) bitsLt_bf16_f32)
    transposes_S2x4096x8x192_S2x8x4096x192_0_2_1_3

/-- The values as the call reads them. -/
def values (v : FVec Ideal S2x4096x8x128 .f32) : FVec Ideal S2x8x16x144x256 .bf16 :=
  truncf .bf16 (concatenate S2x8x16x144x256 3 [⟨S2x8x16x128x256,
      transpose S2x8x16x128x256 [0, 3, 1, 4, 2] (shapeCast S2x16x256x8x128 v shapeCasts_S2x4096x8x128_S2x16x256x8x128)
        transposes_S2x16x256x8x128_S2x8x16x128x256_0_3_1_4_2⟩,
      ⟨S2x8x16x16x256, broadcastInDim S2x8x16x16x256 ![] bcast_S_S2x8x16x16x256 (constant S_ .f32 0x3F800000#32)⟩]
      concatenates_S2x8x16x128x256_S2x8x16x16x256_S2x8x16x144x256_d3) bitsLt_bf16_f32

/-- The gains as the call reads them. -/
def gains (g : FVec Ideal S8x128 .f32) : FVec Ideal S8x128x1 .f32 := shapeCast S8x128x1 g shapeCasts_S8x128_S8x128x1

variable (m : (ℓ : Loc nD τ sig) → Buf (Elt Ideal) ℓ) (c : Dev nD)

/-- The call's first operand. -/
theorem V_queries : V m c main_v6 = queries (m ((c.tc : Thread nD τ).loc main_arg0)) (m ((c.tc : Thread nD τ).loc main_arg1)) := by chain_rfl
/-- The call's second operand. -/
theorem V_keys : V m c main_v11 = keys (m ((c.tc : Thread nD τ).loc main_arg2)) (m ((c.tc : Thread nD τ).loc main_arg3)) := by chain_rfl
/-- The call's third operand. -/
theorem V_values : V m c main_v16 = values (m ((c.tc : Thread nD τ).loc main_arg4)) := by chain_rfl
/-- The call's fourth operand. -/
theorem V_gains : V m c main_v17 = gains (m ((c.tc : Thread nD τ).loc main_arg5)) := by chain_rfl

/-- A query, in its part without position. -/
theorem queries_nope (qn : FVec Ideal S2x4096x8x128 .f32) (qr : FVec Ideal S2x4096x8x64 .f32) (b : Fin 2) (h : Fin 8) (d : Fin 128) (t : Fin 4096) :
    queries qn qr (ix4 b h (⟨d.val, by omega⟩ : Fin 192) t) = qn (ix4 b t h d) * scale ix0 := by
  pointwise [queries]
/-- A query, in its rotary part. -/
theorem queries_rope (qn : FVec Ideal S2x4096x8x128 .f32) (qr : FVec Ideal S2x4096x8x64 .f32) (b : Fin 2) (h : Fin 8) (d : Fin 64) (t : Fin 4096) :
    queries qn qr (ix4 b h (⟨128 + d.val, by omega⟩ : Fin 192) t) = qr (ix4 b t h d) * scale ix0 := by
  pointwise [queries]
/-- A key, in its part without position. -/
theorem keys_nope (kn : FVec Ideal S2x4096x8x128 .f32) (kr : FVec Ideal S2x4096x64 .f32) (b : Fin 2) (h : Fin 8) (d : Fin 128) (t : Fin 4096) :
    keys kn kr (ix4 b h t (⟨d.val, by omega⟩ : Fin 192)) = kn (ix4 b t h d) := by
  pointwise [keys]
/-- A key, in its rotary part. -/
theorem keys_rope (kn : FVec Ideal S2x4096x8x128 .f32) (kr : FVec Ideal S2x4096x64 .f32) (b : Fin 2) (h : Fin 8) (d : Fin 64) (t : Fin 4096) :
    keys kn kr (ix4 b h t (⟨128 + d.val, by omega⟩ : Fin 192)) = kr (ix3 b t d) := by
  pointwise [keys]
/-- A value. -/
theorem values_val (v : FVec Ideal S2x4096x8x128 .f32) (b : Fin 2) (h : Fin 8) (j : Fin 16) (d : Fin 128) (κ : Fin 256) :
    values v (ix5 b h j (⟨d.val, by omega⟩ : Fin 144) κ) = v (ix4 b (⟨j.val * 256 + κ.val, by omega⟩ : Fin 4096) h d) := by
  pointwise [values]
/-- The row of ones. -/
theorem values_one (v : FVec Ideal S2x4096x8x128 .f32) (b : Fin 2) (h : Fin 8) (j : Fin 16) (κ : Fin 256) :
    values v (ix5 b h j (128 : Fin 144) κ) = 1 := by
  pointwise [values]
/-- A gain. -/
theorem gains_apply (g : FVec Ideal S8x128 .f32) (h : Fin 8) (d : Fin 128) : gains g (ix3 h d (0 : Fin 1)) = g (ix2 h d) := by
  pointwise [gains]

/-- The scale is the reference's scale over the natural logarithm of 2. -/
theorem scale_apply : scale ix0 = Ideal.div (Ideal.ofBits .f32 0x3D93CD3A#32) (Ideal.log (Ideal.ofBits .f32 0x40000000#32)) := by
  rfl

/-- The index maps of the windows. -/
theorem idx : ∀ t : Fin cfg0.N, win0_0.index t = ![t.val / 16, t.val / 4 % 4, 0, t.val % 4] ∧ win0_1.index t = ![t.val / 16, t.val / 4 % 4, 0, 0]
    ∧ win0_2.index t = ![t.val / 16, t.val / 4 % 4, 0, 0, 0] ∧ win0_3.index t = ![t.val / 4 % 4, 0, 0]
    ∧ win0_4.index t = ![t.val, 0] ∧ win0_5.index t = ![t.val, 0]
    ∧ win0_6.index t = ![t.val / 16 * 4 + t.val % 4, t.val / 4 % 4] ∧ win0_7.index t = ![t.val, 0] ∧ win0_8.index t = ![t.val, 0] :=
  (by decide +kernel : ∀ t : Fin grid0.N, _)

end Cert.KernelIdeal.Prep

end
-- ==== Proof.Blocks.lean ====
/- What a grid point leaves in its output block, in terms of the call's operands: the reads of a point seen through its windows,
   the bias that the first point writes and the others find, the block's rows. -/
module

public import proofs.«01_k».proof.Proof.Rows
public import proofs.«01_k».proof.Proof.Runs
public import proofs.«01_k».proof.Proof.Prepared
public import Idealize.ShloMosaic.Lib.Pipeline.ValueKit

@[expose] public section

set_option maxRecDepth 16384

noncomputable section

namespace Cert.KernelIdeal.Flash

open Idealize.ShloMosaic hiding ix0 ix1 ix2 ix3 ix4 ix5 addf_apply mulf_apply subf_apply divf_apply maximumf_apply constant_apply truncf_apply
open Idealize.ShloMosaic.TcCoe Idealize.ShloMosaic.ValueIdx Idealize.SL.Sem Cert.KernelIdeal.Gen Cert.Online
open scoped BigOperators

/-! ## The reads of a point, from the contents of its windows -/

section
variable (arg3 : Memref sig .tc .vmem S1x2x192x1024 .bf16) (harg3 : arg3.IsWhole) (arg4 : Memref sig .tc .vmem S1x2x4096x192 .bf16) (harg4 : arg4.IsWhole)
  (arg5 : Memref sig .tc .vmem S1x2x16x144x256 .bf16) (harg5 : arg5.IsWhole) (arg6 : Memref sig .tc .vmem S2x128x1 .f32) (harg6 : arg6.IsWhole)
  (arg14 : Memref sig .tc .vmem S256x1024 .f32) (harg14 : arg14.IsWhole)
  (x0 : Vec Ideal S1x2x192x1024 .bf16) (x1 : Vec Ideal S1x2x4096x192 .bf16) (x2 : Vec Ideal S1x2x16x144x256 .bf16) (x3 : Vec Ideal S2x128x1 .f32)

/-- A read of a whole buffer at a rectangle is the buffer's contents at the rectangle's place. -/
theorem read_at {s : Shape} {e : EltTy} (a : Memref sig .tc .vmem s e) (ha : a.IsWhole) (r : Rect s) (x : Vec Ideal s e) (j : r.shape.Idx) :
    View.readAt (Elt Ideal) a.view r.toLoadRect (ha.unread x) j = x (r.emb j) := by
  have h1 : View.readAt (Elt Ideal) a.view r.toLoadRect (ha.unread x) = _ := View.readAt_eq_ld a.view (ha.unread x) r
  rw [h1, Memref.IsWhole.read_unread]
  rfl

/-- The bias as a point of the grid finds it. -/
theorem biasKept_apply (W : ℕ) (hw : W ≤ 1024) (κ : Fin 256) (j : Fin W) :
    biasKept (F := Ideal) arg14 harg14 (k0_pay465 (F := Ideal)) W hw (ix2 κ j) = if κ.val ≤ j.val then (0 : EReal) else ⊥ := by
  refine (read_at arg14 harg14 (rectB W hw) _ (ix2 κ j)).trans (Eq.trans ?_ (bias_at κ ⟨j.val, by omega⟩))
  refine congrArg (k0_pay465 (F := Ideal)) (funext fun a => Fin.ext ?_)
  match a with
  | ⟨0, _⟩ => show 0 + 1 * κ.val = κ.val; omega
  | ⟨1, _⟩ => show 0 + 1 * j.val = j.val; omega

/-- The bias as the first point of the grid reads it back. -/
theorem biasMade_apply (W : ℕ) (hw : W ≤ 1024) (κ : Fin 256) (j : Fin W) :
    biasMade (F := Ideal) arg14 W hw (ix2 κ j) = if κ.val ≤ j.val then (0 : EReal) else ⊥ := by
  rw [biasMade, View.readCov_eq_canon']
  have e : (rectB W hw).toLoadRect.idx (ix2 κ j) = (rectB 1024 le_rfl).emb (ix2 κ (⟨j.val, by omega⟩ : Fin 1024)) := by
    funext a
    refine Fin.ext ?_
    match a with
    | ⟨0, _⟩ => rfl
    | ⟨1, _⟩ => rfl
  refine (congrArg (View.canon (Val := Elt Ideal) (s := S256x1024) (e := .f32) [⟨rectB 1024 le_rfl, k0_pay465 (F := Ideal)⟩]) e).trans ?_
  exact (View.canon_cons_emb (rectB 1024 le_rfl) _ _ _).trans (bias_at κ ⟨j.val, by omega⟩)

/-- The reads of a point whose windows hold `x0`, `x1` and `x2` and whose bias is the causal one. -/
theorem reads_are (bias : (W : ℕ) → W ≤ 1024 → Vec Ideal ⟨2, ![256, W]⟩ .f32)
    (hb : ∀ W (hw : W ≤ 1024) (κ : Fin 256) (j : Fin W), bias W hw (ix2 κ j) = if κ.val ≤ j.val then (0 : EReal) else ⊥) :
    ReadsAre (reads arg3 harg3 arg4 harg4 arg5 harg5 x0 x1 x2 bias)
      (fun h b κ d => x1 (ix4 (0 : Fin 1) h (⟨b.val * 256 + κ.val, by omega⟩ : Fin 4096) d))
      (fun h d c => x0 (ix4 (0 : Fin 1) h d c)) (fun h b r κ => x2 (ix5 (0 : Fin 1) h b r κ)) where
  k h b κ d := by
    refine (read_at arg4 harg4 (rectK h b) x1 (ix4 (0 : Fin 1) (0 : Fin 1) κ d)).trans ?_
    refine congrArg x1 (funext fun a => Fin.ext ?_)
    match a with
    | ⟨0, _⟩ => rfl
    | ⟨1, _⟩ => show h.val + 1 * 0 = h.val; omega
    | ⟨2, _⟩ => show b.val * 256 + 1 * κ.val = b.val * 256 + κ.val; omega
    | ⟨3, _⟩ => show 0 + 1 * d.val = d.val; omega
  q h o W hw d j := by
    refine (read_at arg3 harg3 (rectQ h o W hw) x0 (ix4 (0 : Fin 1) (0 : Fin 1) d j)).trans ?_
    refine congrArg x0 (funext fun a => Fin.ext ?_)
    match a with
    | ⟨0, _⟩ => rfl
    | ⟨1, _⟩ => show h.val + 1 * 0 = h.val; omega
    | ⟨2, _⟩ => show 0 + 1 * d.val = d.val; omega
    | ⟨3, _⟩ => show o + 1 * j.val = o + j.val; omega
  v h b r κ := by
    refine (read_at arg5 harg5 (rectV h b) x2 (ix5 (0 : Fin 1) (0 : Fin 1) (0 : Fin 1) r κ)).trans ?_
    refine congrArg x2 (funext fun a => Fin.ext ?_)
    match a with
    | ⟨0, _⟩ => rfl
    | ⟨1, _⟩ => show h.val + 1 * 0 = h.val; omega
    | ⟨2, _⟩ => show b.val + 1 * 0 = b.val; omega
    | ⟨3, _⟩ => show 0 + 1 * r.val = r.val; omega
    | ⟨4, _⟩ => show 0 + 1 * κ.val = κ.val; omega
  bias := hb

/-- A gain read by a point. -/
theorem gain_apply (h : Fin 2) (d : Fin 128) :
    gain (F := Ideal) arg6 harg6 x3 h (ix3 (0 : Fin 1) d (0 : Fin 1)) = x3 (ix3 h d (0 : Fin 1)) := by
  refine (read_at arg6 harg6 (rectG h) x3 (ix3 (0 : Fin 1) d (0 : Fin 1))).trans ?_
  refine congrArg x3 (funext fun a => Fin.ext ?_)
  match a with
  | ⟨0, _⟩ => show h.val + 1 * 0 = h.val; omega
  | ⟨1, _⟩ => show 0 + 1 * d.val = d.val; omega
  | ⟨2, _⟩ => rfl

/-- One entry of the block of a point of query block `q`, from the contents of its windows. -/
def entryOf (q : ℕ) (c : Fin 1024) (h : Fin 2) (d : Fin 128) : EReal :=
  let s := sc (fun h b κ d => x1 (ix4 (0 : Fin 1) h (⟨b.val * 256 + κ.val, by omega⟩ : Fin 4096) d)) (fun h d c => x0 (ix4 (0 : Fin 1) h d c)) q h c
  let v := vl (fun h b r κ => x2 (ix5 (0 : Fin 1) h b r κ)) h
  scaled (fun e => Ideal.div (runSum s (v ⟨e.val, by omega⟩) (4 * q + c.val / 256)) (runSum s (v 128) (4 * q + c.val / 256)))
    (x3 (ix3 h d (0 : Fin 1))) d

/-- The block made by the pieces of a point of query block `q`. -/
theorem pieces_entry (vm : View sig .tc .vmem S2x1x1024 .f32) (va : View sig .tc .vmem S2x144x1024 .f32)
    (bias : (W : ℕ) → W ≤ 1024 → Vec Ideal ⟨2, ![256, W]⟩ .f32)
    (hb : ∀ W (hw : W ≤ 1024) (κ : Fin 256) (j : Fin W), bias W hw (ix2 κ j) = if κ.val ≤ j.val then (0 : EReal) else ⊥)
    (q : ℕ) (hq : q < 4) (n : ℕ) (hn : n = 8 * (q + 1)) (c : Fin 1024) (h : Fin 2) (d : Fin 128) :
    View.canon (Val := Elt Ideal) (outPieces va (gain arg6 harg6 x3)
        (state vm va (reads arg3 harg3 arg4 harg4 arg5 harg5 x0 x1 x2 bias) q n).2) (ix2 c (⟨h.val * 128 + d.val, by omega⟩ : Fin 256))
      = entryOf x0 x1 x2 x3 q c h d := by
  subst hn
  have hR := reads_are arg3 harg3 arg4 harg4 arg5 harg5 x0 x1 x2 bias hb
  rw [outPieces_apply, gain_apply]
  simp only [final_eq vm va hR q hq]
  rfl

end

/-! ## The output block of each kind of point -/

section
variable (c : Dev nD) (i : grid0.Coords) (arg3 : Memref sig .tc .vmem S1x2x192x1024 .bf16) (harg3 : arg3.IsWhole)
    (arg4 : Memref sig .tc .vmem S1x2x4096x192 .bf16) (harg4 : arg4.IsWhole) (arg5 : Memref sig .tc .vmem S1x2x16x144x256 .bf16)
    (harg5 : arg5.IsWhole) (arg6 : Memref sig .tc .vmem S2x128x1 .f32) (harg6 : arg6.IsWhole)
    (arg7 : Memref sig .tc .vmem S176x2048 .f32) (harg7 : arg7.IsWhole) (arg8 : Memref sig .tc .vmem S64x2048 .f32) (harg8 : arg8.IsWhole)
    (arg9 : Memref sig .tc .vmem S1024x256 .bf16) (harg9 : arg9.IsWhole) (arg10 : Memref sig .tc .vmem S176x2048 .bf16)
    (harg10 : arg10.IsWhole) (arg11 : Memref sig .tc .vmem S64x2048 .bf16) (harg11 : arg11.IsWhole)
    (arg12 : Memref sig .tc .vmem S2x1x1024 .f32) (harg12 : arg12.IsWhole) (arg13 : Memref sig .tc .vmem S2x144x1024 .f32)
    (harg13 : arg13.IsWhole) (arg14 : Memref sig .tc .vmem S256x1024 .f32) (harg14 : arg14.IsWhole)
    (x0 : Vec Ideal S1x2x192x1024 .bf16) (x1 : Vec Ideal S1x2x4096x192 .bf16) (x2 : Vec Ideal S1x2x16x144x256 .bf16) (x3 : Vec Ideal S2x128x1 .f32)
    (x4 : Vec Ideal S176x2048 .f32) (x5 : Vec Ideal S64x2048 .f32) (xs2 : Vec Ideal S256x1024 .f32)

/-- The block of the first point. -/
theorem block_A (hc0 : cond0_0 i) (hc1 : cond0_1 i) (hc2 : cond0_2 i) (hc3 : cond0_3 i) (hc4 : ¬cond0_4 i) (hc5 : ¬cond0_5 i) (hc6 : ¬cond0_6 i)
    (r : Fin 1024) (h : Fin 2) (d : Fin 128) :
    out0_A_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 (ix2 r (⟨h.val * 128 + d.val, by omega⟩ : Fin 256)) = entryOf x0 x1 x2 x3 0 r h d := by
  have e : out0_A_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 = _ := View.read_writes_junk_eq_canon (Val := Elt Ideal) VO0_6 _
  rw [e, out_A c i arg3 harg3 arg4 harg4 arg5 harg5 arg6 harg6 arg7 harg7 arg8 harg8 arg9 harg9 arg10 harg10 arg11 harg11 arg12 harg12 arg13 harg13 arg14 harg14 x0 x1 x2 x3 x4 x5 hc0 hc1 hc2 hc3 hc4 hc5 hc6]
  exact pieces_entry arg3 harg3 arg4 harg4 arg5 harg5 arg6 harg6 x0 x1 x2 x3 arg12.view arg13.view _
    (biasMade_apply arg14) 0 (by decide) _ rfl r h d

/-- The block of a later point of query block 0. -/
theorem block_E (hc0 : cond0_0 i) (hc1 : cond0_1 i) (hc2 : ¬cond0_2 i) (hc3 : cond0_3 i) (hc4 : ¬cond0_4 i) (hc5 : ¬cond0_5 i) (hc6 : ¬cond0_6 i)
    (hx : xs2 = k0_pay465 (F := Ideal)) (r : Fin 1024) (h : Fin 2) (d : Fin 128) :
    out0_E_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 (ix2 r (⟨h.val * 128 + d.val, by omega⟩ : Fin 256)) = entryOf x0 x1 x2 x3 0 r h d := by
  have e : out0_E_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 = _ := View.read_writes_junk_eq_canon (Val := Elt Ideal) VO0_6 _
  rw [e, out_E c i arg3 harg3 arg4 harg4 arg5 harg5 arg6 harg6 arg7 harg7 arg8 harg8 arg9 harg9 arg10 harg10 arg11 harg11 arg12 harg12 arg13 harg13 arg14 harg14 x0 x1 x2 x3 x4 x5 xs2 hc0 hc1 hc2 hc3 hc4 hc5 hc6]
  exact pieces_entry arg3 harg3 arg4 harg4 arg5 harg5 arg6 harg6 x0 x1 x2 x3 arg12.view arg13.view _
    (hx ▸ biasKept_apply arg14 harg14) 0 (by decide) _ rfl r h d

/-- The block of a later point of query block 1. -/
theorem block_B (hc0 : cond0_0 i) (hc1 : cond0_1 i) (hc2 : ¬cond0_2 i) (hc3 : ¬cond0_3 i) (hc4 : cond0_4 i) (hc5 : ¬cond0_5 i) (hc6 : ¬cond0_6 i)
    (hx : xs2 = k0_pay465 (F := Ideal)) (r : Fin 1024) (h : Fin 2) (d : Fin 128) :
    out0_B_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 (ix2 r (⟨h.val * 128 + d.val, by omega⟩ : Fin 256)) = entryOf x0 x1 x2 x3 1 r h d := by
  have e : out0_B_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 = _ := View.read_writes_junk_eq_canon (Val := Elt Ideal) VO0_6 _
  rw [e, out_B c i arg3 harg3 arg4 harg4 arg5 harg5 arg6 harg6 arg7 harg7 arg8 harg8 arg9 harg9 arg10 harg10 arg11 harg11 arg12 harg12 arg13 harg13 arg14 harg14 x0 x1 x2 x3 x4 x5 xs2 hc0 hc1 hc2 hc3 hc4 hc5 hc6]
  exact pieces_entry arg3 harg3 arg4 harg4 arg5 harg5 arg6 harg6 x0 x1 x2 x3 arg12.view arg13.view _
    (hx ▸ biasKept_apply arg14 harg14) 1 (by decide) _ rfl r h d

/-- The block of a later point of query block 2. -/
theorem block_C (hc0 : cond0_0 i) (hc1 : cond0_1 i) (hc2 : ¬cond0_2 i) (hc3 : ¬cond0_3 i) (hc4 : ¬cond0_4 i) (hc5 : cond0_5 i) (hc6 : ¬cond0_6 i)
    (hx : xs2 = k0_pay465 (F := Ideal)) (r : Fin 1024) (h : Fin 2) (d : Fin 128) :
    out0_C_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 (ix2 r (⟨h.val * 128 + d.val, by omega⟩ : Fin 256)) = entryOf x0 x1 x2 x3 2 r h d := by
  have e : out0_C_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 = _ := View.read_writes_junk_eq_canon (Val := Elt Ideal) VO0_6 _
  rw [e, out_C c i arg3 harg3 arg4 harg4 arg5 harg5 arg6 harg6 arg7 harg7 arg8 harg8 arg9 harg9 arg10 harg10 arg11 harg11 arg12 harg12 arg13 harg13 arg14 harg14 x0 x1 x2 x3 x4 x5 xs2 hc0 hc1 hc2 hc3 hc4 hc5 hc6]
  exact pieces_entry arg3 harg3 arg4 harg4 arg5 harg5 arg6 harg6 x0 x1 x2 x3 arg12.view arg13.view _
    (hx ▸ biasKept_apply arg14 harg14) 2 (by decide) _ rfl r h d

/-- The block of a later point of query block 3. -/
theorem block_D (hc0 : cond0_0 i) (hc1 : cond0_1 i) (hc2 : ¬cond0_2 i) (hc3 : ¬cond0_3 i) (hc4 : ¬cond0_4 i) (hc5 : ¬cond0_5 i) (hc6 : cond0_6 i)
    (hx : xs2 = k0_pay465 (F := Ideal)) (r : Fin 1024) (h : Fin 2) (d : Fin 128) :
    out0_D_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 (ix2 r (⟨h.val * 128 + d.val, by omega⟩ : Fin 256)) = entryOf x0 x1 x2 x3 3 r h d := by
  have e : out0_D_6 c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 xs2 = _ := View.read_writes_junk_eq_canon (Val := Elt Ideal) VO0_6 _
  rw [e, out_D c i arg3 harg3 arg4 harg4 arg5 harg5 arg6 harg6 arg7 harg7 arg8 harg8 arg9 harg9 arg10 harg10 arg11 harg11 arg12 harg12 arg13 harg13 arg14 harg14 x0 x1 x2 x3 x4 x5 xs2 hc0 hc1 hc2 hc3 hc4 hc5 hc6]
  exact pieces_entry arg3 harg3 arg4 harg4 arg5 harg5 arg6 harg6 x0 x1 x2 x3 arg12.view arg13.view _
    (hx ▸ biasKept_apply arg14 harg14) 3 (by decide) _ rfl r h d

end

/-! ## The points -/

variable (m : (ℓ : Loc nD τ sig) → Buf (Elt Ideal) ℓ) (c : Dev nD)

/-- The scratch buffer that holds the bias, after a point. -/
def biasAfter (n : ℕ) (hn : n < cfg0.N) : Vec Ideal S256x1024 .f32 := (outsAt0 m c n hn).2.2.2

/-- The first point writes the causal bias. -/
theorem bias_A (t : Fin cfg0.N) (h2 : t.val % 32 = 0) (h3 : t.val % 4 = 0) (h4 : ¬t.val % 4 = 1) (h5 : ¬t.val % 4 = 2) (h6 : ¬t.val % 4 = 3) :
    biasAfter m c t.val t.isLt = k0_pay465 (F := Ideal) := by
  refine (congrArg (fun x => x.2.2.2) (outsAt0_A m c t h2 h3 h4 h5 h6)).trans ?_
  refine (View.read_writes_junk_eq_canon (Val := Elt Ideal) VS0_2 _).trans ?_
  exact View.canon_unit_zero (Val := Elt Ideal) (S := S256x1024) (funext fun a => by match a with | ⟨0, _⟩ => rfl | ⟨1, _⟩ => rfl) _ _

/-- A point of query block 0 leaves the bias as it was. -/
theorem bias_E (t : Fin cfg0.N) (h2 : ¬t.val % 32 = 0) (h3 : t.val % 4 = 0) (h4 : ¬t.val % 4 = 1) (h5 : ¬t.val % 4 = 2) (h6 : ¬t.val % 4 = 3) :
    biasAfter m c t.val t.isLt = biasAfter m c (t.val - 1) (Nat.lt_of_le_of_lt (Nat.sub_le _ _) t.isLt) :=
  congrArg (fun x => x.2.2.2) (outsAt0_E m c t h2 h3 h4 h5 h6)

/-- A point of query block 1 leaves the bias as it was. -/
theorem bias_B (t : Fin cfg0.N) (h2 : ¬t.val % 32 = 0) (h3 : ¬t.val % 4 = 0) (h4 : t.val % 4 = 1) (h5 : ¬t.val % 4 = 2) (h6 : ¬t.val % 4 = 3) :
    biasAfter m c t.val t.isLt = biasAfter m c (t.val - 1) (Nat.lt_of_le_of_lt (Nat.sub_le _ _) t.isLt) :=
  congrArg (fun x => x.2.2.2) (outsAt0_B m c t h2 h3 h4 h5 h6)

/-- A point of query block 2 leaves the bias as it was. -/
theorem bias_C (t : Fin cfg0.N) (h2 : ¬t.val % 32 = 0) (h3 : ¬t.val % 4 = 0) (h4 : ¬t.val % 4 = 1) (h5 : t.val % 4 = 2) (h6 : ¬t.val % 4 = 3) :
    biasAfter m c t.val t.isLt = biasAfter m c (t.val - 1) (Nat.lt_of_le_of_lt (Nat.sub_le _ _) t.isLt) :=
  congrArg (fun x => x.2.2.2) (outsAt0_C m c t h2 h3 h4 h5 h6)

/-- A point of query block 3 leaves the bias as it was. -/
theorem bias_D (t : Fin cfg0.N) (h2 : ¬t.val % 32 = 0) (h3 : ¬t.val % 4 = 0) (h4 : ¬t.val % 4 = 1) (h5 : ¬t.val % 4 = 2) (h6 : t.val % 4 = 3) :
    biasAfter m c t.val t.isLt = biasAfter m c (t.val - 1) (Nat.lt_of_le_of_lt (Nat.sub_le _ _) t.isLt) :=
  congrArg (fun x => x.2.2.2) (outsAt0_D m c t h2 h3 h4 h5 h6)

/-- Every point leaves the causal bias in its scratch buffer. -/
theorem bias_left (n : ℕ) (hn : n < cfg0.N) : biasAfter m c n hn = k0_pay465 (F := Ideal) := by
  induction n with
  | zero => exact bias_A m c ⟨0, hn⟩ (Nat.zero_mod _) (Nat.zero_mod _) (by show ¬ 0 % 4 = 1; decide) (by show ¬ 0 % 4 = 2; decide) (by show ¬ 0 % 4 = 3; decide)
  | succ n ih =>
    have hN : n + 1 < 32 := lt_of_lt_of_eq hn (show cfg0.N = 32 from N_0)
    have h2 : ¬ (n + 1) % 32 = 0 := by omega
    have ih := ih (Nat.lt_of_succ_lt hn)
    by_cases h3 : (n + 1) % 4 = 0
    · exact (bias_E m c ⟨n + 1, hn⟩ h2 h3 (by dsimp only; omega) (by dsimp only; omega) (by dsimp only; omega)).trans ih
    · by_cases h4 : (n + 1) % 4 = 1
      · exact (bias_B m c ⟨n + 1, hn⟩ h2 h3 h4 (by dsimp only; omega) (by dsimp only; omega)).trans ih
      · by_cases h5 : (n + 1) % 4 = 2
        · exact (bias_C m c ⟨n + 1, hn⟩ h2 h3 h4 h5 (by dsimp only; omega)).trans ih
        · exact (bias_D m c ⟨n + 1, hn⟩ h2 h3 h4 h5 (by dsimp only; omega)).trans ih

/-- The output block of a point. -/
def blockAfter (t : Fin cfg0.N) : Vec Ideal S1024x256 .bf16 := (outsAt0 m c t.val t.isLt).1

/-- The output block of the first point. -/
theorem rows_A (t : Fin cfg0.N) (h2 : t.val % 32 = 0) (h3 : t.val % 4 = 0) (h4 : ¬t.val % 4 = 1) (h5 : ¬t.val % 4 = 2) (h6 : ¬t.val % 4 = 3)
    (r : Fin 1024) (h : Fin 2) (d : Fin 128) :
    blockAfter m c t (ix2 r (⟨h.val * 128 + d.val, by omega⟩ : Fin 256))
      = entryOf (iblk m c 0 t) (iblk m c 1 t) (iblk m c 2 t) (iblk m c 3 t) 0 r h d := by
  refine (congrFun (congrArg Prod.fst (outsAt0_A m c t h2 h3 h4 h5 h6)) _).trans ?_
  dsimp only
  apply block_A

/-- The output block of a later point of query block 0. -/
theorem rows_E (t : Fin cfg0.N) (h2 : ¬t.val % 32 = 0) (h3 : t.val % 4 = 0) (h4 : ¬t.val % 4 = 1) (h5 : ¬t.val % 4 = 2) (h6 : ¬t.val % 4 = 3)
    (r : Fin 1024) (h : Fin 2) (d : Fin 128) :
    blockAfter m c t (ix2 r (⟨h.val * 128 + d.val, by omega⟩ : Fin 256))
      = entryOf (iblk m c 0 t) (iblk m c 1 t) (iblk m c 2 t) (iblk m c 3 t) 0 r h d := by
  refine (congrFun (congrArg Prod.fst (outsAt0_E m c t h2 h3 h4 h5 h6)) _).trans ?_
  dsimp only
  apply block_E
  exact bias_left m c (t.val - 1) _

/-- The output block of a later point of query block 1. -/
theorem rows_B (t : Fin cfg0.N) (h2 : ¬t.val % 32 = 0) (h3 : ¬t.val % 4 = 0) (h4 : t.val % 4 = 1) (h5 : ¬t.val % 4 = 2) (h6 : ¬t.val % 4 = 3)
    (r : Fin 1024) (h : Fin 2) (d : Fin 128) :
    blockAfter m c t (ix2 r (⟨h.val * 128 + d.val, by omega⟩ : Fin 256))
      = entryOf (iblk m c 0 t) (iblk m c 1 t) (iblk m c 2 t) (iblk m c 3 t) 1 r h d := by
  refine (congrFun (congrArg Prod.fst (outsAt0_B m c t h2 h3 h4 h5 h6)) _).trans ?_
  dsimp only
  apply block_B
  exact bias_left m c (t.val - 1) _

/-- The output block of a later point of query block 2. -/
theorem rows_C (t : Fin cfg0.N) (h2 : ¬t.val % 32 = 0) (h3 : ¬t.val % 4 = 0) (h4 : ¬t.val % 4 = 1) (h5 : t.val % 4 = 2) (h6 : ¬t.val % 4 = 3)
    (r : Fin 1024) (h : Fin 2) (d : Fin 128) :
    blockAfter m c t (ix2 r (⟨h.val * 128 + d.val, by omega⟩ : Fin 256))
      = entryOf (iblk m c 0 t) (iblk m c 1 t) (iblk m c 2 t) (iblk m c 3 t) 2 r h d := by
  refine (congrFun (congrArg Prod.fst (outsAt0_C m c t h2 h3 h4 h5 h6)) _).trans ?_
  dsimp only
  apply block_C
  exact bias_left m c (t.val - 1) _

/-- The output block of a later point of query block 3. -/
theorem rows_D (t : Fin cfg0.N) (h2 : ¬t.val % 32 = 0) (h3 : ¬t.val % 4 = 0) (h4 : ¬t.val % 4 = 1) (h5 : ¬t.val % 4 = 2) (h6 : t.val % 4 = 3)
    (r : Fin 1024) (h : Fin 2) (d : Fin 128) :
    blockAfter m c t (ix2 r (⟨h.val * 128 + d.val, by omega⟩ : Fin 256))
      = entryOf (iblk m c 0 t) (iblk m c 1 t) (iblk m c 2 t) (iblk m c 3 t) 3 r h d := by
  refine (congrFun (congrArg Prod.fst (outsAt0_D m c t h2 h3 h4 h5 h6)) _).trans ?_
  dsimp only
  apply block_D
  exact bias_left m c (t.val - 1) _

end Cert.KernelIdeal.Flash

end
-- ==== Proof.Operands.lean ====
/- The blocks that a grid point reads, as entries of the arguments. Point `t` has batch `t / 16`, heads `t / 4 % 4 * 2` and
   the next, query block `t % 4`. -/
module

public import proofs.«01_k».proof.Proof.Prepared
public import Idealize.ShloMosaic.Lib.Pipeline.ValueKit
public import Idealize.ShloMosaic.Lib.Pipeline.ValueKit.Point

@[expose] public section

set_option maxRecDepth 16384

noncomputable section

namespace Cert.KernelIdeal.Prep

open Idealize.ShloMosaic Idealize.ShloMosaic.TcCoe Idealize.SL.Sem Cert.KernelIdeal Cert.KernelIdeal.Gen
open scoped BigOperators

variable (m : (ℓ : Loc nD τ sig) → Buf (Elt Ideal) ℓ) (c : Dev nD) (t : Fin cfg0.N)

/-- The batch of a point. -/
def batch : Fin 2 := ⟨t.val / 16, by have : t.val < 32 := lt_of_lt_of_eq t.isLt N_0; omega⟩
/-- A head of a point. -/
def head (h : Fin 2) : Fin 8 := ⟨t.val / 4 % 4 * 2 + h.val, by omega⟩
/-- A query of a point. -/
def query (r : Fin 1024) : Fin 4096 := ⟨t.val % 4 * 1024 + r.val, by omega⟩

theorem block_queries (h : Fin 2) (d : Fin 192) (r : Fin 1024) :
    iblk m c 0 t (ix4 (0 : Fin 1) h d r) = V m c main_v6 (ix4 (batch t) (head t h) d (query t r)) := by
  blk_ext [iblk, idx t, batch, head, query]
theorem block_keys (h : Fin 2) (k : Fin 4096) (d : Fin 192) :
    iblk m c 1 t (ix4 (0 : Fin 1) h k d) = V m c main_v11 (ix4 (batch t) (head t h) k d) := by
  blk_ext [iblk, idx t, batch, head, query]
theorem block_values (h : Fin 2) (b : Fin 16) (r : Fin 144) (κ : Fin 256) :
    iblk m c 2 t (ix5 (0 : Fin 1) h b r κ) = V m c main_v16 (ix5 (batch t) (head t h) b r κ) := by
  blk_ext [iblk, idx t, batch, head, query]
theorem block_gains (h : Fin 2) (d : Fin 128) :
    iblk m c 3 t (ix3 h d (0 : Fin 1)) = V m c main_v17 (ix3 (head t h) d (0 : Fin 1)) := by
  blk_ext [iblk, idx t, batch, head, query]

/-- The place of a row of the output block. -/
theorem block_out (r : Fin 1024) (h : Fin 2) (d : Fin 128) :
    ((cfg0.win 6).blk t).view.emb (ix2 r (⟨h.val * 128 + d.val, by omega⟩ : Fin 256))
      = ix2 (⟨(batch t).val * 4096 + (query t r).val, by have := (batch t).isLt; omega⟩ : Fin 8192)
          (⟨(head t h).val * 128 + d.val, by have := (head t h).isLt; omega⟩ : Fin 1024) := by
  blk_ext [idx t, batch, head, query]

end Cert.KernelIdeal.Prep

end
-- ==== Proof.RefValue.lean ====
/- The reference, entry by entry: the causal scores, their softmax over the keys, the weighted sum of the values, the
   root-mean-square scaling of each head. -/
module

public import proofs.«01_k».proof.Proof.Gen.ReferenceIdeal.Run
public import Idealize.ShloMosaic.Lib.Pointwise
public import Idealize.ShloMosaic.Lib.Pipeline.Regions

@[expose] public section

set_option maxRecDepth 16384

noncomputable section

namespace Cert.ReferenceIdeal.Attn

open Idealize.ShloMosaic Idealize.ShloMosaic.TcCoe Idealize.SL.Sem Cert.ReferenceIdeal Cert.ReferenceIdeal.Gen
open scoped BigOperators

/-- The mask: key position at most query position. -/
def mask : IVec S2x8x4096x4096 1 :=
  broadcastInDim S2x8x4096x4096 ![0, 1, 2, 3] bcast_S1x1x4096x4096_S2x8x4096x4096_0_1_2_3
    (broadcastInDim S1x1x4096x4096 ![2, 3] bcast_S4096x4096_S1x1x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))

/-- The scores before the mask. -/
def raw (qn : FVec Ideal S2x4096x8x128 .f32) (qr : FVec Ideal S2x4096x8x64 .f32) (kn : FVec Ideal S2x4096x8x128 .f32) (kr : FVec Ideal S2x4096x64 .f32) :
    FVec Ideal S2x8x4096x4096 .f32 :=
  mulf (addf (Host.dotGeneral dot_S2x4096x8x128_S2x4096x8x128_S2x8x4096x4096_3_3_1_1_02_02 none qn kn)
      (transpose S2x8x4096x4096 [0, 3, 2, 1] (Host.dotGeneral dot_S2x4096x64_S2x4096x8x64_S2x4096x4096x8_2_3_1_12_0_0 none kr qr)
        transposes_S2x4096x4096x8_S2x8x4096x4096_0_3_2_1))
    (broadcastInDim S2x8x4096x4096 ![] bcast_S_S2x8x4096x4096 (constant S_ .f32 0x3D93CD3A#32))

/-- The causal scores. -/
def masked (s : FVec Ideal S2x8x4096x4096 .f32) : FVec Ideal S2x8x4096x4096 .f32 :=
  select mask s (broadcastInDim S2x8x4096x4096 ![] bcast_S_S2x8x4096x4096 (id (constant S_ .f32 0xFF800000#32)))

/-- The largest score of each query. -/
def rowMax (s : FVec Ideal S2x8x4096x4096 .f32) : FVec Ideal S2x8x4096 .f32 :=
  maximumf (broadcastInDim S2x8x4096 ![] bcast_S_S2x8x4096 (constant S_ .f32 0xFF800000#32))
    (Host.reduce FloatOps.maximumf s (constant S_ .f32 0xFF800000#32) reducesTo_S2x8x4096x4096_S2x8x4096_d3 h_S_)

/-- The exponentials. -/
def expo (s : FVec Ideal S2x8x4096x4096 .f32) : FVec Ideal S2x8x4096x4096 .f32 :=
  Host.exp (subf s (broadcastInDim S2x8x4096x4096 ![0, 1, 2, 3] bcast_S2x8x4096x1_S2x8x4096x4096_0_1_2_3
    (broadcastInDim S2x8x4096x1 ![0, 1, 2] bcast_S2x8x4096_S2x8x4096x1_0_1_2 (rowMax s))))

/-- The weights. -/
def weights (e : FVec Ideal S2x8x4096x4096 .f32) : FVec Ideal S2x8x4096x4096 .f32 :=
  Host.divf e (broadcastInDim S2x8x4096x4096 ![0, 1, 2, 3] bcast_S2x8x4096x1_S2x8x4096x4096_0_1_2_3
    (broadcastInDim S2x8x4096x1 ![0, 1, 2] bcast_S2x8x4096_S2x8x4096x1_0_1_2
      (Host.reduceAdd e (constant S_ .f32 0x00000000#32) reducesTo_S2x8x4096x4096_S2x8x4096_d3 h_S_)))

/-- The heads' outputs. -/
def heads (v : FVec Ideal S2x4096x8x128 .f32) (p : FVec Ideal S2x8x4096x4096 .f32) : FVec Ideal S2x4096x8x128 .f32 :=
  transpose S2x4096x8x128 [0, 3, 1, 2] (Host.dotGeneral dot_S2x4096x8x128_S2x8x4096x4096_S2x8x128x4096_1_3_3_2_02_01 none v p)
    transposes_S2x8x128x4096_S2x4096x8x128_0_3_1_2

/-- The heads' outputs scaled by their root mean square, and by the gain. -/
def normed (o : FVec Ideal S2x4096x8x128 .f32) (g : FVec Ideal S8x128 .f32) : FVec Ideal S2x4096x8x128 .f32 :=
  mulf (mulf o (broadcastInDim S2x4096x8x128 ![0, 1, 2, 3] bcast_S2x4096x8x1_S2x4096x8x128_0_1_2_3
      (Host.rsqrt (addf (Host.divf (broadcastInDim S2x4096x8x1 ![0, 1, 2] bcast_S2x4096x8_S2x4096x8x1_0_1_2
          (Host.reduceAdd (mulf o o) (constant S_ .f32 0x00000000#32) reducesTo_S2x4096x8x128_S2x4096x8_d3 h_S_))
        (broadcastInDim S2x4096x8x1 ![] bcast_S_S2x4096x8x1 (constant S_ .f32 0x43000000#32)))
        (broadcastInDim S2x4096x8x1 ![] bcast_S_S2x4096x8x1 (constant S_ .f32 0x358637BD#32))))))
    (broadcastInDim S2x4096x8x128 ![0, 1, 2, 3] bcast_S1x1x8x128_S2x4096x8x128_0_1_2_3 (broadcastInDim S1x1x8x128 ![2, 3] bcast_S8x128_S1x1x8x128_2_3 g))

/-- The first result. -/
def out (o : FVec Ideal S2x4096x8x128 .f32) : FVec Ideal S8192x1024 .bf16 :=
  truncf .bf16 (shapeCast _ o shapeCasts_S2x4096x8x128_S8192x1024) bitsLt_bf16_f32

/-- The reference's first result is the composition of these stages. -/
theorem res_eq (m : (ℓ : Loc nD τ sig) → Buf (Elt Ideal) ℓ) (c : Dev nD) :
    Cert.ReferenceIdeal.Value.res_main_v41 m c
      = out (normed (heads (m ((c.tc : Thread nD τ).loc main_arg4)) (weights (expo (masked (raw (m ((c.tc : Thread nD τ).loc main_arg0))
          (m ((c.tc : Thread nD τ).loc main_arg1)) (m ((c.tc : Thread nD τ).loc main_arg2)) (m ((c.tc : Thread nD τ).loc main_arg3)))))))
          (m ((c.tc : Thread nD τ).loc main_arg5))) := by
  chain_rfl

theorem raw_apply (qn : FVec Ideal S2x4096x8x128 .f32) (qr : FVec Ideal S2x4096x8x64 .f32) (kn : FVec Ideal S2x4096x8x128 .f32)
    (kr : FVec Ideal S2x4096x64 .f32) (b : Fin 2) (h : Fin 8) (i j : Fin 4096) :
    raw qn qr kn kr (ix4 b h i j) = (∑ d : Fin 128, qn (ix4 b i h d) * kn (ix4 b j h d) + ∑ d : Fin 64, kr (ix3 b j d) * qr (ix4 b i h d))
      * Ideal.ofBits .f32 0x3D93CD3A#32 := by
  pointwise [raw]

theorem expo_apply (s : FVec Ideal S2x8x4096x4096 .f32) (b : Fin 2) (h : Fin 8) (i j : Fin 4096) :
    expo s (ix4 b h i j) = Ideal.exp (s (ix4 b h i j) - rowMax s (ix3 b h i)) := by
  pointwise [expo]

theorem weights_apply (e : FVec Ideal S2x8x4096x4096 .f32) (b : Fin 2) (h : Fin 8) (i j : Fin 4096) :
    weights e (ix4 b h i j) = Ideal.div (e (ix4 b h i j)) (∑ k : Fin 4096, e (ix4 b h i k)) := by
  pointwise [weights]

theorem heads_apply (v : FVec Ideal S2x4096x8x128 .f32) (p : FVec Ideal S2x8x4096x4096 .f32) (b : Fin 2) (i : Fin 4096) (h : Fin 8) (d : Fin 128) :
    heads v p (ix4 b i h d) = ∑ j : Fin 4096, v (ix4 b j h d) * p (ix4 b h i j) := by
  pointwise [heads]

theorem normed_apply (o : FVec Ideal S2x4096x8x128 .f32) (g : FVec Ideal S8x128 .f32) (b : Fin 2) (i : Fin 4096) (h : Fin 8) (d : Fin 128) :
    normed o g (ix4 b i h d) = o (ix4 b i h d) * Ideal.rsqrt (Ideal.div (∑ d : Fin 128, o (ix4 b i h d) * o (ix4 b i h d)) (Ideal.ofBits .f32 0x43000000#32)
      + Ideal.ofBits .f32 0x358637BD#32) * g (ix2 h d) := by
  pointwise [normed]

theorem out_apply (o : FVec Ideal S2x4096x8x128 .f32) (b : Fin 2) (i : Fin 4096) (h : Fin 8) (d : Fin 128) :
    out o (ix2 (⟨b.val * 4096 + i.val, by omega⟩ : Fin 8192) (⟨h.val * 128 + d.val, by omega⟩ : Fin 1024)) = o (ix4 b i h d) := by
  pointwise [out]

end Cert.ReferenceIdeal.Attn

end
-- ==== Proof.Equation.lean ====
/- Causal softmax attention and the kernel's way to it, for one query row of one head: scores scaled for powers of two against
   scores scaled for the exponential, weights normalised after the sum against before, then the root-mean-square scaling. -/
module

public import proofs.«01_k».proof.Proof.Online

@[expose] public section

noncomputable section

namespace Cert.Online

open Idealize.ShloMosaic
open scoped BigOperators

/-- One entry of a row divided by its root mean square, times a gain. -/
def rmsEntry (c ε : EReal) (o : Fin 128 → EReal) (g : EReal) (d : Fin 128) : EReal :=
  o d * Ideal.rsqrt (Ideal.div (∑ e, o e * o e) c + ε) * g

/-- A sum over the keys is a sum over the blocks and over the keys of a block. -/
theorem sum_blocks (f : ℕ → Fin 256 → EReal) :
    ∑ b ∈ Finset.range 16, ∑ κ, f b κ = ∑ j : Fin 4096, f (j.val / 256) ⟨j.val % 256, Nat.mod_lt _ (by decide)⟩ := by
  rw [Finset.sum_range, ← Fintype.sum_prod_type' (f := fun (b : Fin 16) κ => f b.val κ)]
  refine Fintype.sum_equiv (finProdFinEquiv (m := 16) (n := 256)) _ _ fun x => ?_
  obtain ⟨b, κ⟩ := x
  have e : (finProdFinEquiv (m := 16) (n := 256) (b, κ)).val = κ.val + 256 * b.val := rfl
  have h1 : (κ.val + 256 * b.val) / 256 = b.val := by omega
  have h2 : (κ.val + 256 * b.val) % 256 = κ.val := by omega
  show f b.val κ = f ((κ.val + 256 * b.val) / 256) ⟨(κ.val + 256 * b.val) % 256, _⟩
  simp only [h1, h2]

/-- A positive real factor passes through a maximum. -/
theorem mul_sup {n : ℕ} {a : ℝ} (ha : 0 < a) (t : Fin n → EReal) :
    (a : EReal) * Finset.univ.sup t = Finset.univ.sup fun j => (a : EReal) * t j :=
  Finset.apply_sup_eq_sup_comp_of_linearOrder (fun x : EReal => (a : EReal) * x) (mul_mono_coe ha) (EReal.coe_mul_bot_of_pos ha)

section
variable {α β : ℝ} (hα : 0 < α) (hβ : β * Real.log 2 = α) (i : Fin 4096) (T : Fin 4096 → EReal)
  (s : ℕ → Fin 256 → EReal)
  (hs : ∀ j : Fin 4096, s (j.val / 256) ⟨j.val % 256, Nat.mod_lt _ (by decide)⟩ = if j.val ≤ i.val then (β : EReal) * T j else ⊥)
  (hbot : ∀ b κ, i.val < b * 256 + κ.val → s b κ = ⊥)

/-- The products up to the query, minus infinity beyond. -/
def cut (j : Fin 4096) : EReal := if j.val ≤ i.val then T j else ⊥

include hα hβ

theorem beta_pos : 0 < β := by
  have hl : 0 < Real.log 2 := Real.log_pos (by norm_num)
  by_contra h
  have : β * Real.log 2 ≤ 0 := mul_nonpos_of_nonpos_of_nonneg (not_lt.mp h) hl.le
  linarith

theorem scaled_cut {a : ℝ} (ha : 0 < a) (j : Fin 4096) : (if j.val ≤ i.val then (a : EReal) * T j else ⊥) = (a : EReal) * cut i T j := by
  unfold cut
  split
  · rfl
  · exact (EReal.coe_mul_bot_of_pos ha).symm

include hs hbot

/-- The last running maximum is the largest score of the row. -/
theorem runMax_last : runMax s (i.val / 256) = (β : EReal) * Finset.univ.sup (cut i T) := by
  have hb := beta_pos hα hβ
  refine le_antisymm (runMax_le s _ fun b hb' κ => ?_) ?_
  · have hi := i.isLt
    have hκ := κ.isLt
    have e := hs ⟨b * 256 + κ.val, by omega⟩
    have h1 : (b * 256 + κ.val) / 256 = b := by omega
    have h2 : (b * 256 + κ.val) % 256 = κ.val := by omega
    simp only [h1, h2] at e
    rw [show s b κ = _ from e, scaled_cut hα hβ i T hb ⟨b * 256 + κ.val, by omega⟩]
    exact mul_mono_coe hb (Finset.le_sup (f := cut i T) (Finset.mem_univ _))
  · rw [mul_sup hb]
    refine Finset.sup_le fun j _ => ?_
    by_cases hj : j.val ≤ i.val
    · rw [← scaled_cut hα hβ i T hb j, ← hs j]
      exact le_runMax s _ _ (by omega) _
    · rw [← scaled_cut hα hβ i T hb j, if_neg hj]; exact bot_le

/-- The running sum after the last block, over all the keys, with the weights of the exponential. -/
theorem runSum_last (v : ℕ → Fin 256 → EReal) :
    runSum s v (i.val / 256) = ∑ j : Fin 4096, v (j.val / 256) ⟨j.val % 256, Nat.mod_lt _ (by decide)⟩
      * Ideal.exp ((α : EReal) * cut i T j - (α : EReal) * Finset.univ.sup (cut i T)) := by
  have hi := i.isLt
  rw [runSum_eq_of_bot s v (N := 16) (by omega) (fun b hb κ => hbot b κ (by omega)), sum_blocks fun b κ => v b κ * Ideal.exp2 (s b κ - runMax s (i.val / 256)),
    runMax_last hα hβ i T s hs hbot]
  refine Finset.sum_congr rfl fun j _ => ?_
  rw [hs, scaled_cut hα hβ i T (beta_pos hα hβ), exp2_scaled hα hβ]

/-- The row of a head: the kernel's quotient of sums, scaled, is the softmax's weighted sum, scaled. -/
theorem row_eq (v : Fin 128 → ℕ → Fin 256 → EReal) (one : ℕ → Fin 256 → EReal) (hone : ∀ b κ, one b κ = 1) (V : Fin 4096 → Fin 128 → EReal)
    (hv : ∀ e (j : Fin 4096), v e (j.val / 256) ⟨j.val % 256, Nat.mod_lt _ (by decide)⟩ = V j e)
    (S : Fin 4096 → EReal) (hS : ∀ j, S j = if j.val ≤ i.val then (α : EReal) * T j else ⊥) {c ε : ℝ} (hc : 0 < c) (g : EReal) (d : Fin 128) :
    rmsEntry c ε (fun e => Ideal.div (runSum s (v e) (i.val / 256)) (runSum s one (i.val / 256))) g d
      = rmsEntry c ε (fun e => ∑ j, V j e * Ideal.div (Ideal.exp (S j - Finset.univ.sup S)) (∑ k, Ideal.exp (S k - Finset.univ.sup S))) g d := by
  have hS' : S = fun j => (α : EReal) * cut i T j := funext fun j => (hS j).trans (scaled_cut hα hβ i T hα j)
  have hM : Finset.univ.sup S = (α : EReal) * Finset.univ.sup (cut i T) := by rw [hS', mul_sup hα]
  set E : Fin 4096 → EReal := fun j => Ideal.exp (S j - Finset.univ.sup S) with hE
  have hnum : ∀ e, runSum s (v e) (i.val / 256) = ∑ j, V j e * E j := fun e => by
    rw [runSum_last hα hβ i T s hs hbot]
    refine Finset.sum_congr rfl fun j _ => ?_
    rw [hv, hE, hM]
    simp only [hS']
  have hden : runSum s one (i.val / 256) = ∑ j, E j := by
    rw [runSum_last hα hβ i T s hs hbot]
    refine Finset.sum_congr rfl fun j _ => ?_
    rw [hone, one_mul, hE, hM]
    simp only [hS']
  have h0 : ∀ j, 0 ≤ E j := fun j => exp_nonneg _
  have ht : ∀ j, E j ≠ ⊤ := fun j => exp_sub_ne_top (Finset.le_sup (f := S) (Finset.mem_univ j))
  obtain ⟨r, hr, hsum⟩ := sum_real Finset.univ E h0 ht
  simp only [hnum, hden, hsum]
  rcases hr.lt_or_eq with hr | rfl
  · congr 1
    funext e
    rw [← sum_div_mul Finset.univ E (fun j => V j e) hr]
    exact Finset.sum_congr rfl fun j _ => mul_comm _ _
  · have hz : ∀ j, E j = 0 := fun j => (Finset.sum_eq_zero_iff_of_nonneg fun j _ => h0 j).mp (by rw [hsum]; rfl) j (Finset.mem_univ j)
    have hd : Ideal.div (0 : EReal) ((0 : ℝ) : EReal) = ⊥ := by simp [Ideal.div]
    have hz' : ∀ j, Ideal.exp (S j - Finset.univ.sup S) = 0 := hz
    simp only [hz, hz', mul_zero, Finset.sum_const_zero, hd]
    have h1 : ∀ e, Extreme (∑ j, V j e * ⊥) := fun e => Extreme.sum _ _ fun j => mul_comm (V j e) ⊥ ▸ Extreme.bot_mul _
    exact congrArg (· * g) ((rms_extreme (fun _ => ⊥) (fun _ => .inr (.inr rfl)) hc d).trans (rms_extreme _ h1 hc d).symm)

end

end Cert.Online

end
-- ==== Proof.RefMax.lean ====
/- The mask of the reference and the largest score of a query. -/
module
public import proofs.«01_k».proof.Proof.RefValue
public import proofs.«01_k».proof.Proof.Column
public import proofs.«01_k».proof.Proof.Equation
public import Idealize.ShloMosaic.Lib.KernelVsHost
@[expose] public section

noncomputable section
namespace Cert.ReferenceIdeal.Attn
open Idealize.ShloMosaic Idealize.ShloMosaic.TcCoe Idealize.SL.Sem Cert.ReferenceIdeal Cert.ReferenceIdeal.Gen
open scoped BigOperators

/-- The mask keeps the keys up to the query. -/
theorem mask_apply (b : Fin 2) (h : Fin 8) (i j : Fin 4096) : mask (ix4 b h i j) = if j.val ≤ i.val then 1#1 else 0#1 := by
  pointwise [mask]
  rw [WordCmp.cmpi_sle_ofNat (by omega) (by omega)]
  by_cases hj : j.val ≤ i.val
  · rw [if_pos hj, decide_eq_true hj]; rfl
  · rw [if_neg hj, decide_eq_false hj]; rfl

/-- A masked score. -/
theorem masked_apply (s : FVec Ideal S2x8x4096x4096 .f32) (b : Fin 2) (h : Fin 8) (i j : Fin 4096) :
    masked s (ix4 b h i j) = if j.val ≤ i.val then s (ix4 b h i j) else ⊥ := by
  pointwise [masked]
  rw [mask_apply]
  split
  · rfl
  · show (id (constant S_ .f32 0xFF800000#32) : FVec Ideal S_ .f32) ix0 = ⊥
    exact Cert.KernelIdeal.Flash.ofBits_neg_inf

/-- The keys are reduced away. -/
theorem reduces_keys : S2x8x4096x4096.Reduces [3] S2x8x4096 := by
  refine ⟨by decide, ?_⟩
  decide

/-- The maximum of a constant and an array, at an index. -/
theorem max_const (x : FVec Ideal S2x8x4096 .f32) (j : S2x8x4096.Idx) :
    maximumf (broadcastInDim S2x8x4096 ![] bcast_S_S2x8x4096 (constant S_ .f32 0xFF800000#32)) x j = max ⊥ (x j) :=
  congrArg (fun y : EReal => max y (x j)) Cert.KernelIdeal.Flash.ofBits_neg_inf

/-- The largest score of a query. -/
theorem rowMax_apply (s : FVec Ideal S2x8x4096x4096 .f32) (b : Fin 2) (h : Fin 8) (i : Fin 4096) :
    rowMax s (ix3 b h i) = Finset.univ.sup fun j : Fin 4096 => s (ix4 b h i j) := by
  rw [rowMax, max_const, bot_sup_eq]
  have h2 := congrFun (hostReduce_maximumf_eq_multiReduction s 0xFF800000#32 reducesTo_S2x8x4096x4096_S2x8x4096_d3 h_S_ reduces_keys
    (by decide) (by rfl)) (ix3 b h i)
  have h3 := h2.trans (Ideal.multiReduction_maximumf_single s 0xFF800000#32 reduces_keys (by decide) (by rfl) (ix3 b h i))
  have h4 : FloatOps.ofBits (F := Ideal) .f32 0xFF800000#32 = ⊥ := Cert.KernelIdeal.Flash.ofBits_neg_inf
  rw [h4] at h3
  refine h3.trans ?_
  refine congrArg (fun f : Fin 4096 → EReal => (Finset.univ : Finset (Fin 4096)).fold max ⊥ f) (funext fun κ => congrArg s ?_)
  funext a
  match a with
  | ⟨0, _⟩ => rfl
  | ⟨1, _⟩ => rfl
  | ⟨2, _⟩ => rfl
  | ⟨3, _⟩ => rfl

section
variable (qn : FVec Ideal S2x4096x8x128 .f32) (qr : FVec Ideal S2x4096x8x64 .f32) (kn : FVec Ideal S2x4096x8x128 .f32) (kr : FVec Ideal S2x4096x64 .f32)
  (v : FVec Ideal S2x4096x8x128 .f32) (g : FVec Ideal S8x128 .f32)

/-- The reference's first result, of the arguments. -/
def result : FVec Ideal S8192x1024 .bf16 := out (normed (heads v (weights (expo (masked (raw qn qr kn kr))))) g)

/-- The causal score of a key against a query. -/
def score (b : Fin 2) (h : Fin 8) (i j : Fin 4096) : EReal :=
  if j.val ≤ i.val then (∑ d : Fin 128, qn (ix4 b i h d) * kn (ix4 b j h d) + ∑ d : Fin 64, kr (ix3 b j d) * qr (ix4 b i h d))
      * Ideal.ofBits .f32 0x3D93CD3A#32 else ⊥

/-- One entry of the reference's first result. -/
theorem result_apply (b : Fin 2) (i : Fin 4096) (h : Fin 8) (d : Fin 128) :
    result qn qr kn kr v g (ix2 (⟨b.val * 4096 + i.val, by omega⟩ : Fin 8192) (⟨h.val * 128 + d.val, by omega⟩ : Fin 1024))
      = Cert.Online.rmsEntry (Ideal.ofBits .f32 0x43000000#32) (Ideal.ofBits .f32 0x358637BD#32)
          (fun e => ∑ j, v (ix4 b j h e) * Ideal.div (Ideal.exp (score qn qr kn kr b h i j - Finset.univ.sup (score qn qr kn kr b h i)))
            (∑ k, Ideal.exp (score qn qr kn kr b h i k - Finset.univ.sup (score qn qr kn kr b h i)))) (g (ix2 h d)) d := by
  have hs : ∀ j, masked (raw qn qr kn kr) (ix4 b h i j) = score qn qr kn kr b h i j := fun j => by
    rw [masked_apply, raw_apply]; rfl
  have hm : rowMax (masked (raw qn qr kn kr)) (ix3 b h i) = Finset.univ.sup (score qn qr kn kr b h i) := by
    rw [rowMax_apply]
    exact congrArg Finset.univ.sup (funext hs)
  rw [result, out_apply, normed_apply]
  simp only [heads_apply, weights_apply, expo_apply, hs, hm]
  rfl

end

end Cert.ReferenceIdeal.Attn
end
-- ==== Proof.Result.lean ====
/- The kernel's first result is the reference's, entry by entry. -/
module

public import proofs.«01_k».proof.Proof.Blocks
public import proofs.«01_k».proof.Proof.Operands
public import proofs.«01_k».proof.Proof.RefMax

@[expose] public section

set_option maxRecDepth 16384

noncomputable section

namespace Cert.KernelIdeal.Flash

open Idealize.ShloMosaic hiding ix0 ix1 ix2 ix3 ix4 ix5 addf_apply mulf_apply subf_apply divf_apply maximumf_apply constant_apply truncf_apply
open Idealize.ShloMosaic.TcCoe Idealize.ShloMosaic.ValueIdx Idealize.SL.Sem Cert.KernelIdeal.Gen Cert.Online Cert.KernelIdeal.Prep
open scoped BigOperators

/-- The reference's scale is a positive real number. -/
theorem scale_word : ∃ α : ℝ, 0 < α ∧ Ideal.ofBits .f32 0x3D93CD3A#32 = (α : EReal) := by
  refine ⟨_, ?_, by simp [Ideal.ofBits, Ideal.ieee]; rfl⟩
  norm_num

/-- The head's width, as the word of the mean. -/
theorem width_word : ∃ w : ℝ, 0 < w ∧ Ideal.ofBits .f32 0x43000000#32 = (w : EReal) := by
  refine ⟨_, ?_, by simp [Ideal.ofBits, Ideal.ieee]; rfl⟩
  norm_num

/-- The number added to the mean square. -/
theorem eps_word : ∃ ε : ℝ, Ideal.ofBits .f32 0x358637BD#32 = (ε : EReal) :=
  ⟨_, by simp [Ideal.ofBits, Ideal.ieee]; rfl⟩

/-- The word of 2. -/
theorem two_word : Ideal.ofBits .f32 0x40000000#32 = ((2 : ℝ) : EReal) := by
  simp [Ideal.ofBits, Ideal.ieee]
  rw [← EReal.coe_mul]
  norm_num

/-- The kernel's scale: the reference's over the logarithm of 2. -/
theorem scale_real {α : ℝ} (h : Ideal.ofBits .f32 0x3D93CD3A#32 = (α : EReal)) :
    ∃ β : ℝ, β * Real.log 2 = α ∧ scale Idealize.ShloMosaic.ix0 = (β : EReal) := by
  have hl : Real.log 2 ≠ 0 := (Real.log_pos (by norm_num)).ne'
  refine ⟨α * (1 / Real.log 2), by field_simp, ?_⟩
  have h2 : Ideal.log ((2 : ℝ) : EReal) = ((Real.log 2 : ℝ) : EReal) := by
    rw [Ideal.log_coe, if_neg (by norm_num)]
  rw [scale_apply, two_word, h, h2, Ideal.div_coe hl]
  push_cast
  rfl

/-- A sum over 192 features is that over the first 128 and that over the last 64. -/
theorem sum_parts (f : Fin 192 → EReal) :
    ∑ d, f d = ∑ d : Fin 128, f ⟨d.val, by omega⟩ + ∑ d : Fin 64, f ⟨128 + d.val, by omega⟩ :=
  Fin.sum_univ_add (a := 128) (b := 64) f

section
variable (qn : FVec Ideal S2x4096x8x128 .f32) (qr : FVec Ideal S2x4096x8x64 .f32) (kn : FVec Ideal S2x4096x8x128 .f32) (kr : FVec Ideal S2x4096x64 .f32)
  (v : FVec Ideal S2x4096x8x128 .f32) (g : FVec Ideal S8x128 .f32)

/-- The unscaled product of query `i` and key `j`. -/
def product (b : Fin 2) (h : Fin 8) (i j : Fin 4096) : EReal :=
  ∑ d : Fin 128, qn (ix4 b i h d) * kn (ix4 b j h d) + ∑ d : Fin 64, kr (ix3 b j d) * qr (ix4 b i h d)

/-- The kernel's product of a key and a scaled query. -/
theorem product_eq {β : ℝ} (hβ : 0 < β) (hsc : scale Idealize.ShloMosaic.ix0 = (β : EReal)) (b : Fin 2) (h : Fin 8) (i j : Fin 4096) :
    ∑ d : Fin 192, keys kn kr (ix4 b h j d) * queries qn qr (ix4 b h d i) = (β : EReal) * product qn qr kn kr b h i j := by
  have hn : (0 : EReal) ≤ (β : EReal) := by exact_mod_cast hβ.le
  have ht : (β : EReal) ≠ ⊤ := EReal.coe_ne_top _
  rw [sum_parts]
  rw [product, EReal.left_distrib_of_nonneg_of_ne_top hn ht, mul_sum _ _ hn ht, mul_sum _ _ hn ht]
  congr 1
  · refine Finset.sum_congr rfl fun d _ => ?_
    refine (congrArg₂ (· * ·) (keys_nope kn kr b h d j) (queries_nope qn qr b h d i)).trans ?_
    rw [hsc]
    show kn _ * (qn _ * (β : EReal)) = _
    rw [← mul_assoc, mul_comm (kn _) (qn _), mul_comm _ (β : EReal)]
    rfl
  · refine Finset.sum_congr rfl fun d _ => ?_
    refine (congrArg₂ (· * ·) (keys_rope kn kr b h d j) (queries_rope qn qr b h d i)).trans ?_
    rw [hsc]
    show kr _ * (qr _ * (β : EReal)) = _
    rw [← mul_assoc, mul_comm _ (β : EReal)]
    rfl

/-- One entry of a point's output block is the reference's, where the point's operands are blocks of the prepared arrays. -/
theorem entry_value (x0 : Vec Ideal S1x2x192x1024 .bf16) (x1 : Vec Ideal S1x2x4096x192 .bf16) (x2 : Vec Ideal S1x2x16x144x256 .bf16)
    (x3 : Vec Ideal S2x128x1 .f32) (b : Fin 2) (hd : Fin 2 → Fin 8) (q : ℕ) (hq : q < 4)
    (h0 : ∀ h d (r : Fin 1024), x0 (ix4 (0 : Fin 1) h d r) = queries qn qr (ix4 b (hd h) d (⟨q * 1024 + r.val, by omega⟩ : Fin 4096)))
    (h1 : ∀ h k d, x1 (ix4 (0 : Fin 1) h k d) = keys kn kr (ix4 b (hd h) k d))
    (h2 : ∀ h j r κ, x2 (ix5 (0 : Fin 1) h j r κ) = values v (ix5 b (hd h) j r κ))
    (h3 : ∀ h d, x3 (ix3 h d (0 : Fin 1)) = gains g (ix3 (hd h) d (0 : Fin 1))) (r : Fin 1024) (h : Fin 2) (d : Fin 128) :
    entryOf x0 x1 x2 x3 q r h d
      = Cert.ReferenceIdeal.Attn.result qn qr kn kr v g (ix2 (⟨b.val * 4096 + (q * 1024 + r.val), by omega⟩ : Fin 8192)
          (⟨(hd h).val * 128 + d.val, by omega⟩ : Fin 1024)) := by
  obtain ⟨α, hα, eα⟩ := scale_word
  obtain ⟨β, hβ, eβ⟩ := scale_real eα
  obtain ⟨w, hw, ew⟩ := width_word
  obtain ⟨ε, eε⟩ := eps_word
  have hb := beta_pos hα hβ
  let i : Fin 4096 := ⟨q * 1024 + r.val, by omega⟩
  have hi : i.val / 256 = 4 * q + r.val / 256 := by
    show (q * 1024 + r.val) / 256 = _; omega
  have hblk : ∀ j : Fin 4096, (blk (j.val / 256)).val = j.val / 256 := fun j => by
    show j.val / 256 % 16 = j.val / 256; omega
  have key := row_eq hα hβ i (product qn qr kn kr b (hd h) i)
    (sc (fun h b κ d => x1 (ix4 (0 : Fin 1) h (⟨b.val * 256 + κ.val, by omega⟩ : Fin 4096) d)) (fun h d c' => x0 (ix4 (0 : Fin 1) h d c')) q h r)
    (fun j => by
      unfold sc
      have hj : j.val / 256 * 256 + j.val % 256 = j.val := by omega
      show (if j.val / 256 * 256 + j.val % 256 ≤ q * 1024 + r.val then _ else ⊥) = if j.val ≤ q * 1024 + r.val then _ else ⊥
      rw [hj]
      refine if_congr Iff.rfl ?_ rfl
      rw [← product_eq qn qr kn kr hb eβ]
      refine Finset.sum_congr rfl fun d _ => ?_
      refine (congrArg₂ (· * ·) (h1 h _ d) (h0 h d r)).trans ?_
      refine congrArg (· * queries qn qr (ix4 b (hd h) d i)) ?_
      refine congrArg (fun z => keys kn kr (ix4 b (hd h) z d)) (Fin.ext ?_)
      show (blk (j.val / 256)).val * 256 + j.val % 256 = j.val
      rw [hblk, hj])
    (fun b κ hbk => if_neg (by show ¬ b * 256 + κ.val ≤ q * 1024 + r.val; exact Nat.not_le.mpr hbk))
    (fun e : Fin 128 => vl (fun h b r κ => x2 (ix5 (0 : Fin 1) h b r κ)) h ⟨e.val, by omega⟩)
    (vl (fun h b r κ => x2 (ix5 (0 : Fin 1) h b r κ)) h 128)
    (fun j κ => (h2 h (blk j) 128 κ).trans (values_one v b (hd h) (blk j) κ))
    (fun j e => v (ix4 b j (hd h) e))
    (fun e j => by
      refine (h2 h (blk (j.val / 256)) _ _).trans ((values_val v b (hd h) (blk (j.val / 256)) e _).trans ?_)
      refine congrArg (fun z => v (ix4 b z (hd h) e)) (Fin.ext ?_)
      show (blk (j.val / 256)).val * 256 + j.val % 256 = j.val
      rw [hblk]; omega)
    (Cert.ReferenceIdeal.Attn.score qn qr kn kr b (hd h) i)
    (fun j => by
      unfold Cert.ReferenceIdeal.Attn.score product
      rw [eα]
      exact if_congr Iff.rfl (mul_comm _ _) rfl)
    (ε := ε) hw (g (ix2 (hd h) d)) d
  rw [hi] at key
  refine Eq.trans ?_ (key.trans ?_)
  · have hg : x3 (ix3 h d (0 : Fin 1)) = g (ix2 (hd h) d) := (h3 h d).trans (gains_apply g (hd h) d)
    rw [← ew, ← eε, ← hg]
    rfl
  · rw [← ew, ← eε]
    exact (Cert.ReferenceIdeal.Attn.result_apply qn qr kn kr v g b i (hd h) d).symm

end

end Cert.KernelIdeal.Flash

end
-- ==== Proof.Final.lean ====
/- The three results of the kernel, as whole arrays. -/
module

public import proofs.«01_k».proof.Proof.Result
public import proofs.«01_k».proof.Proof.Gen.KernelIdeal.Value

@[expose] public section

set_option maxRecDepth 16384

noncomputable section

namespace Cert.KernelIdeal.Flash

open Idealize.ShloMosaic hiding ix0 ix1 ix2 ix3 ix4 ix5 addf_apply mulf_apply subf_apply divf_apply maximumf_apply constant_apply truncf_apply
open Idealize.ShloMosaic.TcCoe Idealize.ShloMosaic.ValueIdx Idealize.SL.Sem Cert.KernelIdeal.Gen Cert.KernelIdeal.Prep

variable (m : (ℓ : Loc nD τ sig) → Buf (Elt Ideal) ℓ) (c : Dev nD)

/-- The reference's first result, of the kernel's arguments. -/
def attention : FVec Ideal S8192x1024 .bf16 :=
  Cert.ReferenceIdeal.Attn.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The entry of a point's block, from the point's operands. -/
theorem rows_all (t : Fin cfg0.N) (r : Fin 1024) (h : Fin 2) (d : Fin 128) :
    blockAfter m c t (ix2 r (⟨h.val * 128 + d.val, by omega⟩ : Fin 256))
      = entryOf (iblk m c 0 t) (iblk m c 1 t) (iblk m c 2 t) (iblk m c 3 t) (t.val % 4) r h d := by
  have h4 : t.val % 4 < 4 := Nat.mod_lt _ (by decide)
  by_cases e0 : t.val % 4 = 0
  · by_cases e : t.val % 32 = 0
    · rw [e0]; exact rows_A m c t e e0 (by omega) (by omega) (by omega) r h d
    · rw [e0]; exact rows_E m c t e e0 (by omega) (by omega) (by omega) r h d
  · by_cases e1 : t.val % 4 = 1
    · rw [e1]; exact rows_B m c t (by omega) e0 e1 (by omega) (by omega) r h d
    · by_cases e2 : t.val % 4 = 2
      · rw [e2]; exact rows_C m c t (by omega) e0 e1 e2 (by omega) r h d
      · have e3 : t.val % 4 = 3 := by omega
        rw [e3]; exact rows_D m c t (by omega) e0 e1 e2 e3 r h d

/-- The entry of a point's block is the reference's at the entry's place. -/
theorem block_entry (t : Fin cfg0.N) (r : Fin 1024) (h : Fin 2) (d : Fin 128) :
    blockAfter m c t (ix2 r (⟨h.val * 128 + d.val, by omega⟩ : Fin 256))
      = attention m c (((cfg0.win 6).blk t).view.emb (ix2 r (⟨h.val * 128 + d.val, by omega⟩ : Fin 256))) := by
  refine (rows_all m c t r h d).trans (Eq.trans ?_ (congrArg (attention m c) (block_out t r h d)).symm)
  exact entry_value _ _ _ _ _ _ (iblk m c 0 t) (iblk m c 1 t) (iblk m c 2 t) (iblk m c 3 t) (batch t) (head t) (t.val % 4) (Nat.mod_lt _ (by decide))
    (fun h d r => (block_queries m c t h d r).trans (congrFun (V_queries m c) _))
    (fun h k d => (block_keys m c t h k d).trans (congrFun (V_keys m c) _))
    (fun h j r κ => (block_values m c t h j r κ).trans (congrFun (V_values m c) _))
    (fun h d => (block_gains m c t h d).trans (congrFun (V_gains m c) _)) r h d

/-- A column of a point's block is a head and a feature. -/
theorem split_col (y : S1024x256.Idx) :
    y = ix2 (y 0) (⟨(⟨(y 1).val / 128, by have := (y 1).isLt; show _ < 2; change (y 1).val < 256 at this; omega⟩ : Fin 2).val * 128
      + (⟨(y 1).val % 128, Nat.mod_lt _ (by decide)⟩ : Fin 128).val, by have := (y 1).isLt; change (y 1).val < 256 at this; dsimp only; omega⟩ : Fin 256) := by
  funext a
  match a with
  | ⟨0, _⟩ => rfl
  | ⟨1, _⟩ => exact Fin.ext (by show (y 1).val = (y 1).val / 128 * 128 + (y 1).val % 128; omega)

/-- The first result is the reference's. -/
theorem final6 : (dats m 0 c).arrAt 6 cfg0.N = attention m c := by
  refine (dats m 0 c).arrAt_eq_of_covers 6 _ (by decide +kernel) fun t _ y => ?_
  have e : (dats m 0 c).after 6 t = blockAfter m c t := after0_6 m c t
  have k : blockAfter m c t y = attention m c (((cfg0.win 6).blk t).view.emb y) := by
    rw [split_col y]
    exact block_entry m c t _ _ _
  exact (congrFun e y).trans k

end Cert.KernelIdeal.Flash

end
-- ==== Proof.Casts.lean ====
/- The two casts: each point copies its slab of two weights, and the copies make the whole of them. -/
module

public import proofs.«01_k».proof.Proof.Steps
public import proofs.«01_k».proof.Proof.Operands
public import proofs.«01_k».proof.Proof.Gen.KernelIdeal.Value
public import Idealize.ShloMosaic.Lib.Pipeline.Regions

@[expose] public section

set_option maxRecDepth 16384

noncomputable section

namespace Cert.KernelIdeal.Casts

open Idealize.ShloMosaic Idealize.ShloMosaic.TcCoe Idealize.SL.Sem Cert.KernelIdeal.Gen Cert.KernelIdeal.Prep

/-- The offset of a whole buffer is zero. -/
theorem off_zero : (![0, 0] : Fin 2 → ℕ) = fun _ => 0 := funext fun a => by match a with | ⟨0, _⟩ => rfl | ⟨1, _⟩ => rfl

/-- The write of a slab of the first weight. -/
def wide (arg7 : Memref sig .tc .vmem S176x2048 .f32) (harg7 : arg7.IsWhole) (x4 : Vec Ideal S176x2048 .f32) : List (View.Piece (Elt Ideal) S176x2048 .bf16) :=
  [⟨Rect.unit (s := S176x2048) ![0, 0] S176x2048.size inb_S176x2048_S176x2048_0_0, k0_pay463 (F := Ideal) (View.readAt (Elt Ideal) arg7.view
    (Rect.unit (s := S176x2048) ![0, 0] S176x2048.size inb_S176x2048_S176x2048_0_0).toLoadRect (harg7.unread x4))⟩]

/-- The write of a slab of the second weight. -/
def narrow (arg8 : Memref sig .tc .vmem S64x2048 .f32) (harg8 : arg8.IsWhole) (x5 : Vec Ideal S64x2048 .f32) : List (View.Piece (Elt Ideal) S64x2048 .bf16) :=
  [⟨Rect.unit (s := S64x2048) ![0, 0] S64x2048.size inb_S64x2048_S64x2048_0_0, k0_pay464 (F := Ideal) (View.readAt (Elt Ideal) arg8.view
    (Rect.unit (s := S64x2048) ![0, 0] S64x2048.size inb_S64x2048_S64x2048_0_0).toLoadRect (harg8.unread x5))⟩]

/-- A read of the whole of a whole buffer is the buffer's contents. -/
theorem read_all {s : Shape} {e : EltTy} (a : Memref sig .tc .vmem s e) (ha : a.IsWhole) {off : Fin s.rank → ℕ} (h : off = fun _ => 0)
    (inb : ∀ k, off k + s.size k ≤ s.size k) (x : Vec Ideal s e) :
    View.readAt (Elt Ideal) a.view (Rect.unit (s := s) off s.size inb).toLoadRect (ha.unread x) = x := by
  have h1 : View.readAt (Elt Ideal) a.view (Rect.unit (s := s) off s.size inb).toLoadRect (ha.unread x) = _ :=
    View.readAt_eq_ld a.view (ha.unread x) (Rect.unit (s := s) off s.size inb)
  rw [h1, Memref.IsWhole.read_unread]
  exact View.ld_unit_zero h inb x

/-- What the write of a slab of the first weight leaves. -/
theorem canon_wide (arg7 : Memref sig .tc .vmem S176x2048 .f32) (harg7 : arg7.IsWhole) (x4 : Vec Ideal S176x2048 .f32) :
    View.canon (Val := Elt Ideal) (wide arg7 harg7 x4) = k0_pay463 (F := Ideal) x4 := by
  refine (View.canon_unit_zero (Val := Elt Ideal) (S := S176x2048) off_zero _ _).trans ?_
  exact congrArg (k0_pay463 (F := Ideal)) (read_all arg7 harg7 off_zero _ x4)

/-- What the write of a slab of the second weight leaves. -/
theorem canon_narrow (arg8 : Memref sig .tc .vmem S64x2048 .f32) (harg8 : arg8.IsWhole) (x5 : Vec Ideal S64x2048 .f32) :
    View.canon (Val := Elt Ideal) (narrow arg8 harg8 x5) = k0_pay464 (F := Ideal) x5 := by
  refine (View.canon_unit_zero (Val := Elt Ideal) (S := S64x2048) off_zero _ _).trans ?_
  exact congrArg (k0_pay464 (F := Ideal)) (read_all arg8 harg8 off_zero _ x5)

section
variable (c : Dev nD) (i : grid0.Coords) (arg3 : Memref sig .tc .vmem S1x2x192x1024 .bf16) (harg3 : arg3.IsWhole)
    (arg4 : Memref sig .tc .vmem S1x2x4096x192 .bf16) (harg4 : arg4.IsWhole) (arg5 : Memref sig .tc .vmem S1x2x16x144x256 .bf16)
    (harg5 : arg5.IsWhole) (arg6 : Memref sig .tc .vmem S2x128x1 .f32) (harg6 : arg6.IsWhole)
    (arg7 : Memref sig .tc .vmem S176x2048 .f32) (harg7 : arg7.IsWhole) (arg8 : Memref sig .tc .vmem S64x2048 .f32) (harg8 : arg8.IsWhole)
    (arg9 : Memref sig .tc .vmem S1024x256 .bf16) (harg9 : arg9.IsWhole) (arg10 : Memref sig .tc .vmem S176x2048 .bf16)
    (harg10 : arg10.IsWhole) (arg11 : Memref sig .tc .vmem S64x2048 .bf16) (harg11 : arg11.IsWhole)
    (arg12 : Memref sig .tc .vmem S2x1x1024 .f32) (harg12 : arg12.IsWhole) (arg13 : Memref sig .tc .vmem S2x144x1024 .f32)
    (harg13 : arg13.IsWhole) (arg14 : Memref sig .tc .vmem S256x1024 .f32) (harg14 : arg14.IsWhole)
    (x0 : Vec Ideal S1x2x192x1024 .bf16) (x1 : Vec Ideal S1x2x4096x192 .bf16) (x2 : Vec Ideal S1x2x16x144x256 .bf16) (x3 : Vec Ideal S2x128x1 .f32)
    (x4 : Vec Ideal S176x2048 .f32) (x5 : Vec Ideal S64x2048 .f32) (xs2 : Vec Ideal S256x1024 .f32)

/-- The first weight's slab, at the first point. -/
theorem wide_A (hc0 : cond0_0 i) (hc1 : cond0_1 i) (hc2 : cond0_2 i) (hc3 : cond0_3 i) (hc4 : ¬cond0_4 i) (hc5 : ¬cond0_5 i) (hc6 : ¬cond0_6 i) :
    out0_A_7 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 = k0_pay463 (F := Ideal) x4 := by
  have k : (kernelRun0_A c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5).2.1 = wide arg7 harg7 x4 := by chain_rfl
  refine (View.read_writes_junk_eq_canon (Val := Elt Ideal) VO0_7 _).trans ?_
  rw [k]
  exact canon_wide arg7 harg7 x4

/-- The second weight's slab, at the first point. -/
theorem narrow_A (hc0 : cond0_0 i) (hc1 : cond0_1 i) (hc2 : cond0_2 i) (hc3 : cond0_3 i) (hc4 : ¬cond0_4 i) (hc5 : ¬cond0_5 i) (hc6 : ¬cond0_6 i) :
    out0_A_8 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 = k0_pay464 (F := Ideal) x5 := by
  have k : (kernelRun0_A c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5).2.2.1 = narrow arg8 harg8 x5 := by chain_rfl
  refine (View.read_writes_junk_eq_canon (Val := Elt Ideal) VO0_8 _).trans ?_
  rw [k]
  exact canon_narrow arg8 harg8 x5

/-- The first weight's slab, at a later point of query block 0. -/
theorem wide_E (hc0 : cond0_0 i) (hc1 : cond0_1 i) (hc2 : ¬cond0_2 i) (hc3 : cond0_3 i) (hc4 : ¬cond0_4 i) (hc5 : ¬cond0_5 i) (hc6 : ¬cond0_6 i) :
    out0_E_7 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay463 (F := Ideal) x4 := by
  have k : (kernelRun0_E c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.1 = wide arg7 harg7 x4 := by chain_rfl
  refine (View.read_writes_junk_eq_canon (Val := Elt Ideal) VO0_7 _).trans ?_
  rw [k]
  exact canon_wide arg7 harg7 x4

/-- The second weight's slab, at a later point of query block 0. -/
theorem narrow_E (hc0 : cond0_0 i) (hc1 : cond0_1 i) (hc2 : ¬cond0_2 i) (hc3 : cond0_3 i) (hc4 : ¬cond0_4 i) (hc5 : ¬cond0_5 i) (hc6 : ¬cond0_6 i) :
    out0_E_8 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay464 (F := Ideal) x5 := by
  have k : (kernelRun0_E c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.2.1 = narrow arg8 harg8 x5 := by chain_rfl
  refine (View.read_writes_junk_eq_canon (Val := Elt Ideal) VO0_8 _).trans ?_
  rw [k]
  exact canon_narrow arg8 harg8 x5

/-- The first weight's slab, at a point of query block 1. -/
theorem wide_B (hc0 : cond0_0 i) (hc1 : cond0_1 i) (hc2 : ¬cond0_2 i) (hc3 : ¬cond0_3 i) (hc4 : cond0_4 i) (hc5 : ¬cond0_5 i) (hc6 : ¬cond0_6 i) :
    out0_B_7 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay463 (F := Ideal) x4 := by
  have k : (kernelRun0_B c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.1 = wide arg7 harg7 x4 := by chain_rfl
  refine (View.read_writes_junk_eq_canon (Val := Elt Ideal) VO0_7 _).trans ?_
  rw [k]
  exact canon_wide arg7 harg7 x4

/-- The second weight's slab, at a point of query block 1. -/
theorem narrow_B (hc0 : cond0_0 i) (hc1 : cond0_1 i) (hc2 : ¬cond0_2 i) (hc3 : ¬cond0_3 i) (hc4 : cond0_4 i) (hc5 : ¬cond0_5 i) (hc6 : ¬cond0_6 i) :
    out0_B_8 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay464 (F := Ideal) x5 := by
  have k : (kernelRun0_B c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.2.1 = narrow arg8 harg8 x5 := by chain_rfl
  refine (View.read_writes_junk_eq_canon (Val := Elt Ideal) VO0_8 _).trans ?_
  rw [k]
  exact canon_narrow arg8 harg8 x5

/-- The first weight's slab, at a point of query block 2. -/
theorem wide_C (hc0 : cond0_0 i) (hc1 : cond0_1 i) (hc2 : ¬cond0_2 i) (hc3 : ¬cond0_3 i) (hc4 : ¬cond0_4 i) (hc5 : cond0_5 i) (hc6 : ¬cond0_6 i) :
    out0_C_7 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay463 (F := Ideal) x4 := by
  have k : (kernelRun0_C c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.1 = wide arg7 harg7 x4 := by chain_rfl
  refine (View.read_writes_junk_eq_canon (Val := Elt Ideal) VO0_7 _).trans ?_
  rw [k]
  exact canon_wide arg7 harg7 x4

/-- The second weight's slab, at a point of query block 2. -/
theorem narrow_C (hc0 : cond0_0 i) (hc1 : cond0_1 i) (hc2 : ¬cond0_2 i) (hc3 : ¬cond0_3 i) (hc4 : ¬cond0_4 i) (hc5 : cond0_5 i) (hc6 : ¬cond0_6 i) :
    out0_C_8 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay464 (F := Ideal) x5 := by
  have k : (kernelRun0_C c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.2.1 = narrow arg8 harg8 x5 := by chain_rfl
  refine (View.read_writes_junk_eq_canon (Val := Elt Ideal) VO0_8 _).trans ?_
  rw [k]
  exact canon_narrow arg8 harg8 x5

/-- The first weight's slab, at a point of query block 3. -/
theorem wide_D (hc0 : cond0_0 i) (hc1 : cond0_1 i) (hc2 : ¬cond0_2 i) (hc3 : ¬cond0_3 i) (hc4 : ¬cond0_4 i) (hc5 : ¬cond0_5 i) (hc6 : cond0_6 i) :
    out0_D_7 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay463 (F := Ideal) x4 := by
  have k : (kernelRun0_D c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.1 = wide arg7 harg7 x4 := by chain_rfl
  refine (View.read_writes_junk_eq_canon (Val := Elt Ideal) VO0_7 _).trans ?_
  rw [k]
  exact canon_wide arg7 harg7 x4

/-- The second weight's slab, at a point of query block 3. -/
theorem narrow_D (hc0 : cond0_0 i) (hc1 : cond0_1 i) (hc2 : ¬cond0_2 i) (hc3 : ¬cond0_3 i) (hc4 : ¬cond0_4 i) (hc5 : ¬cond0_5 i) (hc6 : cond0_6 i) :
    out0_D_8 c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2 = k0_pay464 (F := Ideal) x5 := by
  have k : (kernelRun0_D c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 x0 x1 x2 x3 x4 x5 xs2).2.2.1 = narrow arg8 harg8 x5 := by chain_rfl
  refine (View.read_writes_junk_eq_canon (Val := Elt Ideal) VO0_8 _).trans ?_
  rw [k]
  exact canon_narrow arg8 harg8 x5

end

variable (m : (ℓ : Loc nD τ sig) → Buf (Elt Ideal) ℓ) (c : Dev nD)

/-- The slab of the first weight that a point leaves. -/
def wideAfter (t : Fin cfg0.N) : Vec Ideal S176x2048 .bf16 := (outsAt0 m c t.val t.isLt).2.1

/-- Every point leaves the copy of its slab of the first weight. -/
theorem wide_left (t : Fin cfg0.N) : wideAfter m c t = k0_pay463 (F := Ideal) (iblk m c 4 t) := by
  by_cases e0 : t.val % 4 = 0
  · by_cases e : t.val % 32 = 0
    · (refine (congrArg (fun x => x.2.1) (outsAt0_A m c t e e0 (by omega) (by omega) (by omega))).trans ?_; dsimp only; apply wide_A)
    · (refine (congrArg (fun x => x.2.1) (outsAt0_E m c t e e0 (by omega) (by omega) (by omega))).trans ?_; dsimp only; apply wide_E)
  · by_cases e1 : t.val % 4 = 1
    · (refine (congrArg (fun x => x.2.1) (outsAt0_B m c t (by omega) e0 e1 (by omega) (by omega))).trans ?_; dsimp only; apply wide_B)
    · by_cases e2 : t.val % 4 = 2
      · (refine (congrArg (fun x => x.2.1) (outsAt0_C m c t (by omega) e0 e1 e2 (by omega))).trans ?_; dsimp only; apply wide_C)
      · (refine (congrArg (fun x => x.2.1) (outsAt0_D m c t (by omega) e0 e1 e2 (by omega))).trans ?_; dsimp only; apply wide_D)

/-- The slab of the second weight that a point leaves. -/
def narrowAfter (t : Fin cfg0.N) : Vec Ideal S64x2048 .bf16 := (outsAt0 m c t.val t.isLt).2.2.1

/-- Every point leaves the copy of its slab of the second weight. -/
theorem narrow_left (t : Fin cfg0.N) : narrowAfter m c t = k0_pay464 (F := Ideal) (iblk m c 5 t) := by
  by_cases e0 : t.val % 4 = 0
  · by_cases e : t.val % 32 = 0
    · (refine (congrArg (fun x => x.2.2.1) (outsAt0_A m c t e e0 (by omega) (by omega) (by omega))).trans ?_; dsimp only; apply narrow_A)
    · (refine (congrArg (fun x => x.2.2.1) (outsAt0_E m c t e e0 (by omega) (by omega) (by omega))).trans ?_; dsimp only; apply narrow_E)
  · by_cases e1 : t.val % 4 = 1
    · (refine (congrArg (fun x => x.2.2.1) (outsAt0_B m c t (by omega) e0 e1 (by omega) (by omega))).trans ?_; dsimp only; apply narrow_B)
    · by_cases e2 : t.val % 4 = 2
      · (refine (congrArg (fun x => x.2.2.1) (outsAt0_C m c t (by omega) e0 e1 e2 (by omega))).trans ?_; dsimp only; apply narrow_C)
      · (refine (congrArg (fun x => x.2.2.1) (outsAt0_D m c t (by omega) e0 e1 e2 (by omega))).trans ?_; dsimp only; apply narrow_D)

/-- The first weight, cast. -/
def wideCast : FVec Ideal S5632x2048 .bf16 :=
  truncf (F := Ideal) .bf16 (m ((c.tc : Thread nD τ).loc main_arg6)) bitsLt_bf16_f32

/-- The second result is the first weight, cast. -/
theorem final7 : (dats m 0 c).arrAt 7 cfg0.N = wideCast m c := by
  refine (dats m 0 c).arrAt_eq_of_covers 7 _ (by decide +kernel) fun t _ y => ?_
  refine (congrFun ((show (dats m 0 c).after 7 t = wideAfter m c t from after0_7 m c t).trans (wide_left m c t)) y).trans ?_
  show iblk m c 4 t y = m ((c.tc : Thread nD τ).loc main_arg6) (((cfg0.win 7).blk t).view.emb y)
  rw [← V_main_arg6 m c]
  blk_ext [iblk, idx t]

/-- The second weight, cast. -/
def narrowCast : FVec Ideal S2048x2048 .bf16 :=
  truncf (F := Ideal) .bf16 (m ((c.tc : Thread nD τ).loc main_arg7)) bitsLt_bf16_f32

/-- The third result is the second weight, cast. -/
theorem final8 : (dats m 0 c).arrAt 8 cfg0.N = narrowCast m c := by
  refine (dats m 0 c).arrAt_eq_of_covers 8 _ (by decide +kernel) fun t _ y => ?_
  refine (congrFun ((show (dats m 0 c).after 8 t = narrowAfter m c t from after0_8 m c t).trans (narrow_left m c t)) y).trans ?_
  show iblk m c 5 t y = m ((c.tc : Thread nD τ).loc main_arg7) (((cfg0.win 8).blk t).view.emb y)
  rw [← V_main_arg7 m c]
  blk_ext [iblk, idx t]

end Cert.KernelIdeal.Casts

end
-- ==== Proof.ConvBlock.lean ====
/- The up-projection's call: what one block holds. A block's rows are dot products with the two weight blocks; a row of the convolution
   adds three of them, the two before it found in the same buffer, where the eight rows before the block's are kept. -/
module

public import proofs.«01_k».proof.Proof.Gen.UpIdeal.Value
public import Idealize.ShloMosaic.Lib.Pipeline.Regions
public import Idealize.ShloMosaic.Lib.Pipeline.ValueKit
public import Idealize.ShloMosaic.Lib.Pointwise
public import Idealize.ShloMosaic.Lib.WritesUnit

@[expose] public section

set_option maxRecDepth 16384

noncomputable section

namespace Cert.UpIdeal.Conv

open Idealize.ShloMosaic Idealize.ShloMosaic.TcCoe Idealize.SL.Sem Cert.UpIdeal Cert.UpIdeal.Gen
open scoped BigOperators

/-! ## The arithmetic -/

/-- A row of the convolution: the bias, the row itself, the row two before and the row one before, weighted. -/
def conv (b w0 w1 w2 u u2 u1 : EReal) : EReal := b + w2 * u + w0 * u2 + w1 * u1

/-- The gate: a number times its logistic, times the value. -/
def gated (g v : EReal) : EReal := Ideal.div g (1 + Ideal.exp (0 - g)) * v

/-- A product of a block of rows and a block of columns. -/
def dot (h : Vec Ideal S1024x2048 .bf16) (w : Vec Ideal S2048x512 .bf16) (r : Fin 1024) (q : Fin 512) : EReal := ∑ k : Fin 2048, h (ix2 r k) * w (ix2 k q)

/-- The product that the block computes. -/
theorem pay8_apply (h : Vec Ideal S1024x2048 .bf16) (w : Vec Ideal S2048x512 .bf16) (r : Fin 1024) (q : Fin 512) :
    k0_pay8 h w (ix2 r q) = dot h w r q := by
  pointwise [k0_pay8, k0_pay7, dot]
theorem pay13_apply (h : Vec Ideal S1024x2048 .bf16) (w : Vec Ideal S2048x512 .bf16) (r : Fin 1024) (q : Fin 512) :
    k0_pay13 (k0_pay7 h) w (ix2 r q) = dot h w r q := by
  pointwise [k0_pay13, k0_pay7, dot]
theorem pay9_apply (h : Vec Ideal S1024x2048 .bf16) (w : Vec Ideal S2048x512 .bf16) (r : Fin 1024) (q : Fin 512) :
    k0_pay9 h w (ix2 r q) = dot h w r q := by
  refine Eq.trans ?_ (pay8_apply h w r q)
  pointwise [k0_pay9]
theorem pay14_apply (h : Vec Ideal S1024x2048 .bf16) (w : Vec Ideal S2048x512 .bf16) (r : Fin 1024) (q : Fin 512) :
    k0_pay14 (k0_pay7 h) w (ix2 r q) = dot h w r q := by
  refine Eq.trans ?_ (pay13_apply h w r q)
  pointwise [k0_pay14]
theorem pay10_apply (h : Vec Ideal S1024x2048 .bf16) (w : Vec Ideal S2048x512 .bf16) (b w2 : Vec Ideal S1x512 .f32) (r : Fin 1024) (q : Fin 512) :
    k0_pay10 h w b w2 (ix2 r q) = b (ix2 (0 : Fin 1) q) + w2 (ix2 (0 : Fin 1) q) * dot h w r q := by
  rw [← pay8_apply]
  pointwise [k0_pay10]
theorem pay11_apply (v29 : FVec Ideal S1024x512 .f32) (w0 w1 : Vec Ideal S1x512 .f32) (g2 g1 : Vec Ideal S1024x512 .f32) (r : Fin 1024) (q : Fin 512) :
    k0_pay11 v29 w0 g2 w1 g1 (ix2 r q) = v29 (ix2 r q) + w0 (ix2 (0 : Fin 1) q) * g2 (ix2 r q) + w1 (ix2 (0 : Fin 1) q) * g1 (ix2 r q) := by
  pointwise [k0_pay11]
theorem pay15_apply (h : Vec Ideal S1024x2048 .bf16) (w : Vec Ideal S2048x512 .bf16) (b w2 w0 : Vec Ideal S1x512 .f32) (g2 : Vec Ideal S1024x512 .f32) (r : Fin 1024) (q : Fin 512) :
    k0_pay15 (k0_pay7 h) w b w2 w0 g2 (ix2 r q) = b (ix2 (0 : Fin 1) q) + w2 (ix2 (0 : Fin 1) q) * dot h w r q + w0 (ix2 (0 : Fin 1) q) * g2 (ix2 r q) := by
  rw [← pay13_apply]
  pointwise [k0_pay15]
theorem pay2_apply (v39 v60 : FVec Ideal S1024x512 .f32) (w1 : Vec Ideal S1x512 .f32) (g1 : Vec Ideal S1024x512 .f32) (r : Fin 1024) (q : Fin 512) :
    k0_pay2 v39 v60 w1 g1 (ix2 r q) = gated (v60 (ix2 r q) + w1 (ix2 (0 : Fin 1) q) * g1 (ix2 r q)) (v39 (ix2 r q)) := by
  pointwise [k0_pay2, gated]
theorem pay3_apply (ρ : Fin 8) (q : Fin 512) : k0_pay3 (F := Ideal) (ix2 ρ q) = 0 := by
  pointwise [k0_pay3]
theorem pay4_apply (ρ : Fin 8) (q : Fin 512) : k0_pay4 (F := Ideal) (ix2 ρ q) = 0 := by
  pointwise [k0_pay4]
theorem pay5_apply (w : Vec Ideal S2048x512 .f32) (k : Fin 2048) (q : Fin 512) : k0_pay5 w (ix2 k q) = w (ix2 k q) := by
  pointwise [k0_pay5]
theorem pay6_apply (w : Vec Ideal S2048x512 .f32) (k : Fin 2048) (q : Fin 512) : k0_pay6 w (ix2 k q) = w (ix2 k q) := by
  pointwise [k0_pay6]
theorem pay1_apply (w : Vec Ideal S8x512 .f32) (ρ : Fin 8) (q : Fin 512) : k0_pay1 w (ix2 ρ q) = w (ix2 ρ q) := by
  pointwise [k0_pay1]
theorem pay12_apply (w : Vec Ideal S8x512 .f32) (ρ : Fin 8) (q : Fin 512) : k0_pay12 w (ix2 ρ q) = w (ix2 ρ q) := by
  pointwise [k0_pay12]

/-! ## The buffer of rows -/

/-- What a buffer holds: the block's rows from row 8 on, and the rows before it. -/
structure Holds (G : Vec Ideal S1032x512 .f32) (u : Fin 1024 → Fin 512 → EReal) (old : Fin 8 → Fin 512 → EReal) : Prop where
  new : ∀ (r : Fin 1024) (q : Fin 512), G (ix2 (⟨8 + r.val, by omega⟩ : Fin 1032) q) = u r q
  old : ∀ (ρ : Fin 8) (q : Fin 512), G (ix2 (⟨ρ.val, by omega⟩ : Fin 1032) q) = old ρ q

/-- The row `n` rows before row `r` of the block. -/
def back (n : ℕ) (hn : n ≤ 8) (u : Fin 1024 → Fin 512 → EReal) (old : Fin 8 → Fin 512 → EReal) (r : Fin 1024) (q : Fin 512) : EReal :=
  if h : n ≤ r.val then u ⟨r.val - n, by omega⟩ q else old ⟨8 + r.val - n, by omega⟩ q

/-- The store of the block's rows. -/
def rowsAt (up : FVec Ideal S1024x512 .f32) : View.Piece (Elt Ideal) S1032x512 .f32 :=
  ⟨Rect.unit (s := S1032x512) ![8, 0] S1024x512.size inb_S1032x512_S1024x512_8_0, up⟩
/-- The store of the eight rows before the block's. -/
def headAt (z : FVec Ideal S8x512 .f32) : View.Piece (Elt Ideal) S1032x512 .f32 :=
  ⟨Rect.unit (s := S1032x512) ![0, 0] S8x512.size inb_S1032x512_S8x512_0_0, z⟩

/-- A buffer after its stores. -/
def held (v : View sig .tc .vmem S1032x512 .f32) (f : v.ty.Contents (Elt Ideal)) (L : List (View.Piece (Elt Ideal) S1032x512 .f32)) :
    Vec Ideal S1032x512 .f32 := v.read (Elt Ideal) (v.writes (Elt Ideal) f L)

variable (v : View sig .tc .vmem S1032x512 .f32) (f : v.ty.Contents (Elt Ideal)) (L : List (View.Piece (Elt Ideal) S1032x512 .f32))

theorem held_rows_new (up : FVec Ideal S1024x512 .f32) (r : Fin 1024) (q : Fin 512) :
    held v f (rowsAt up :: L) (ix2 (⟨8 + r.val, by omega⟩ : Fin 1032) q) = up (ix2 r q) :=
  View.read_writes_cons_rows_of_mem (Val := Elt Ideal) v f _ up L _ (ix2 r q) rfl rfl rfl

theorem held_rows_old (up : FVec Ideal S1024x512 .f32) (ρ : Fin 8) (q : Fin 512) :
    held v f (rowsAt up :: L) (ix2 (⟨ρ.val, by omega⟩ : Fin 1032) q) = held v f L (ix2 (⟨ρ.val, by omega⟩ : Fin 1032) q) :=
  View.read_writes_cons_rows_of_not_mem (Val := Elt Ideal) v f _ up L _ rfl rfl (Or.inl ρ.isLt)

theorem held_head (z : FVec Ideal S8x512 .f32) (ρ : Fin 8) (q : Fin 512) :
    held v f (headAt z :: L) (ix2 (⟨ρ.val, by omega⟩ : Fin 1032) q) = z (ix2 ρ q) :=
  View.read_writes_cons_rows_of_mem (Val := Elt Ideal) v f _ z L _ (ix2 ρ q) rfl (Nat.zero_add _).symm rfl

/-- The rows read from the seventh on. -/
def six (G : Vec Ideal S1032x512 .f32) : Vec Ideal S1024x512 .f32 := View.ld G (Rect.unit (s := S1032x512) ![6, 0] S1024x512.size inb_S1032x512_S1024x512_6_0)
/-- The rows read from the eighth on. -/
def seven (G : Vec Ideal S1032x512 .f32) : Vec Ideal S1024x512 .f32 := View.ld G (Rect.unit (s := S1032x512) ![7, 0] S1024x512.size inb_S1032x512_S1024x512_7_0)
/-- The last eight rows. -/
def last (G : Vec Ideal S1032x512 .f32) : Vec Ideal S8x512 .f32 := View.ld G (Rect.unit (s := S1032x512) ![1024, 0] S8x512.size inb_S1032x512_S8x512_1024_0)

/-- The rows read six from the top are those two before. -/
theorem ld_six {G : Vec Ideal S1032x512 .f32} {u : Fin 1024 → Fin 512 → EReal} {old : Fin 8 → Fin 512 → EReal} (h : Holds G u old) (r : Fin 1024) (q : Fin 512) :
    six G (ix2 r q) = back 2 (by decide) u old r q := by
  unfold back
  have e : six G (ix2 r q) = G (ix2 (⟨6 + r.val, by omega⟩ : Fin 1032) q) := by
    refine congrArg G (funext fun a => Fin.ext ?_)
    match a with
    | ⟨0, _⟩ => show 6 + 1 * r.val = 6 + r.val; omega
    | ⟨1, _⟩ => show 0 + 1 * q.val = q.val; omega
  rw [e]
  split
  · rw [← h.new]; refine congrArg (fun i => G (ix2 i q)) (Fin.ext ?_); dsimp only; omega
  · rw [← h.old]; refine congrArg (fun i => G (ix2 i q)) (Fin.ext ?_); dsimp only; omega

/-- The rows read seven from the top are those one before. -/
theorem ld_seven {G : Vec Ideal S1032x512 .f32} {u : Fin 1024 → Fin 512 → EReal} {old : Fin 8 → Fin 512 → EReal} (h : Holds G u old) (r : Fin 1024) (q : Fin 512) :
    seven G (ix2 r q) = back 1 (by decide) u old r q := by
  unfold back
  have e : seven G (ix2 r q) = G (ix2 (⟨7 + r.val, by omega⟩ : Fin 1032) q) := by
    refine congrArg G (funext fun a => Fin.ext ?_)
    match a with
    | ⟨0, _⟩ => show 7 + 1 * r.val = 7 + r.val; omega
    | ⟨1, _⟩ => show 0 + 1 * q.val = q.val; omega
  rw [e]
  split
  · rw [← h.new]; refine congrArg (fun i => G (ix2 i q)) (Fin.ext ?_); dsimp only; omega
  · rw [← h.old]; refine congrArg (fun i => G (ix2 i q)) (Fin.ext ?_); dsimp only; omega

/-- The block's last eight rows. -/
theorem ld_last (up : FVec Ideal S1024x512 .f32) (ρ : Fin 8) (q : Fin 512) :
    last (held v f (rowsAt up :: L)) (ix2 ρ q)
      = up (ix2 (⟨1016 + ρ.val, by omega⟩ : Fin 1024) q) := by
  refine Eq.trans ?_ (held_rows_new v f L up (⟨1016 + ρ.val, by omega⟩ : Fin 1024) q)
  refine congrArg (held v f (rowsAt up :: L)) (funext fun a => Fin.ext ?_)
  match a with
  | ⟨0, _⟩ => show 1024 + 1 * ρ.val = 8 + (1016 + ρ.val); omega
  | ⟨1, _⟩ => show 0 + 1 * q.val = q.val; omega

/-! ## The stores of a point -/

/-- A weight of a row of three. -/
def tap (n : Fin 3) : Rect S3x512 := Rect.unit (s := S3x512) ![n.val, 0] S1x512.size (by intro a; match n, a with
  | ⟨0, _⟩, ⟨0, _⟩ => exact inb_S3x512_S1x512_0_0 0
  | ⟨0, _⟩, ⟨1, _⟩ => exact inb_S3x512_S1x512_0_0 1
  | ⟨1, _⟩, ⟨0, _⟩ => exact inb_S3x512_S1x512_1_0 0
  | ⟨1, _⟩, ⟨1, _⟩ => exact inb_S3x512_S1x512_1_0 1
  | ⟨2, _⟩, ⟨0, _⟩ => exact inb_S3x512_S1x512_2_0 0
  | ⟨2, _⟩, ⟨1, _⟩ => exact inb_S3x512_S1x512_2_0 1)

/-- A weight of the three, as a row. -/
def tapRow (w : Vec Ideal S3x512 .f32) (n : Fin 3) : Vec Ideal S1x512 .f32 := View.ld w (tap n)

/-- The store of the output block. -/
def outPieces (h : Vec Ideal S1024x2048 .bf16) (wv wg : Vec Ideal S2048x512 .bf16) (cv cg : Vec Ideal S3x512 .f32) (bv bg : Vec Ideal S1x512 .f32)
    (G10 G11 : Vec Ideal S1032x512 .f32) : List (View.Piece (Elt Ideal) S1024x512 .bf16) :=
  [⟨Rect.unit (s := S1024x512) ![0, 0] S1024x512.size inb_S1024x512_S1024x512_0_0,
    k0_pay2
      (k0_pay11 (k0_pay10 h wv bv (tapRow cv 2)) (tapRow cv 0) (six G10)
        (tapRow cv 1) (seven G10))
      (k0_pay15 (k0_pay7 h) wg bg (tapRow cg 2) (tapRow cg 0) (six G11))
      (tapRow cg 1) (seven G11)⟩]

theorem ld_tap (n : Fin 3) (w : Vec Ideal S3x512 .f32) (q : Fin 512) : tapRow w n (ix2 (0 : Fin 1) q) = w (ix2 n q) := by
  refine congrArg w (funext fun a => Fin.ext ?_)
  match a with
  | ⟨0, _⟩ => show n.val + 1 * 0 = n.val; omega
  | ⟨1, _⟩ => show 0 + 1 * q.val = q.val; omega

/-- The convolution of a block's columns, at a row. -/
def convRow (h : Vec Ideal S1024x2048 .bf16) (w : Vec Ideal S2048x512 .bf16) (cw : Vec Ideal S3x512 .f32) (b : Vec Ideal S1x512 .f32)
    (old : Fin 8 → Fin 512 → EReal) (r : Fin 1024) (q : Fin 512) : EReal :=
  conv (b (ix2 (0 : Fin 1) q)) (cw (ix2 (0 : Fin 3) q)) (cw (ix2 (1 : Fin 3) q)) (cw (ix2 (2 : Fin 3) q)) (dot h w r q)
    (back 2 (by decide) (dot h w) old r q) (back 1 (by decide) (dot h w) old r q)

/-- The block that the store leaves. -/
theorem canon_out (h : Vec Ideal S1024x2048 .bf16) (wv wg : Vec Ideal S2048x512 .bf16) (cv cg : Vec Ideal S3x512 .f32) (bv bg : Vec Ideal S1x512 .f32)
    (G10 G11 : Vec Ideal S1032x512 .f32) (o10 o11 : Fin 8 → Fin 512 → EReal) (h10 : Holds G10 (dot h wv) o10) (h11 : Holds G11 (dot h wg) o11)
    (r : Fin 1024) (q : Fin 512) :
    View.canon (Val := Elt Ideal) (outPieces h wv wg cv cg bv bg G10 G11) (ix2 r q)
      = gated (convRow h wg cg bg o11 r q) (convRow h wv cv bv o10 r q) := by
  have off_zero : (![0, 0] : Fin 2 → ℕ) = fun _ => 0 := funext fun a => by match a with | ⟨0, _⟩ => rfl | ⟨1, _⟩ => rfl
  refine (congrFun (View.canon_unit_zero (Val := Elt Ideal) (S := S1024x512) off_zero _ _) _).trans ?_
  rw [pay2_apply, pay11_apply, pay10_apply, pay15_apply, ld_six h10, ld_seven h10, ld_six h11, ld_seven h11]
  simp only [ld_tap]
  rfl

end Cert.UpIdeal.Conv

end
-- ==== Proof.ConvRuns.lean ====
/- The up-projection's call: what each kind of grid point leaves. The first point of a column block casts the two weight blocks and
   clears the rows before its own; the first point of the second sequence clears those rows; every other point finds both as the
   point before left them. -/
module

public import proofs.«01_k».proof.Proof.ConvBlock

@[expose] public section

set_option maxRecDepth 16384

noncomputable section

namespace Cert.UpIdeal.Conv

open Idealize.ShloMosaic Idealize.ShloMosaic.TcCoe Idealize.SL.Sem Cert.UpIdeal Cert.UpIdeal.Gen

/-- What a point leaves: its output block and the last eight rows of the two products. -/
structure Left (o : Vec Ideal S1024x512 .bf16) (s0 s1 : Vec Ideal S1032x512 .f32) (h : Vec Ideal S1024x2048 .bf16) (wv wg : Vec Ideal S2048x512 .bf16)
    (cv cg : Vec Ideal S3x512 .f32) (bv bg : Vec Ideal S1x512 .f32) (o10 o11 : Fin 8 → Fin 512 → EReal) : Prop where
  out : ∀ (r : Fin 1024) (q : Fin 512), o (ix2 r q) = gated (convRow h wg cg bg o11 r q) (convRow h wv cv bv o10 r q)
  val : ∀ (ρ : Fin 8) (q : Fin 512), s0 (ix2 (⟨ρ.val, by omega⟩ : Fin 1032) q) = dot h wv ⟨1016 + ρ.val, by omega⟩ q
  gate : ∀ (ρ : Fin 8) (q : Fin 512), s1 (ix2 (⟨ρ.val, by omega⟩ : Fin 1032) q) = dot h wg ⟨1016 + ρ.val, by omega⟩ q

theorem off_zero : (![0, 0] : Fin 2 → ℕ) = fun _ => 0 := funext fun a => by match a with | ⟨0, _⟩ => rfl | ⟨1, _⟩ => rfl

/-- A read of the whole of a whole buffer. -/
def all {s : Shape} {e : EltTy} (a : Memref sig .tc .vmem s e) (f : a.view.ty.Contents (Elt Ideal)) (off : Fin s.rank → ℕ) (inb : ∀ k, off k + s.size k ≤ s.size k) :
    Vec Ideal s e := View.readAt (Elt Ideal) a.view (Rect.unit (s := s) off s.size inb).toLoadRect f

/-- Such a read gives the buffer's contents. -/
theorem all_eq {s : Shape} {e : EltTy} (a : Memref sig .tc .vmem s e) (ha : a.IsWhole) {off : Fin s.rank → ℕ} (h : off = fun _ => 0)
    (inb : ∀ k, off k + s.size k ≤ s.size k) (x : Vec Ideal s e) : all a (ha.unread x) off inb = x := by
  have h1 : all a (ha.unread x) off inb = _ := View.readAt_eq_ld a.view (ha.unread x) (Rect.unit (s := s) off s.size inb)
  rw [h1, Memref.IsWhole.read_unread]
  exact View.ld_unit_zero h inb x

/-- The store of a whole weight block. -/
def castAt (w : FVec Ideal S2048x512 .bf16) : View.Piece (Elt Ideal) S2048x512 .bf16 :=
  ⟨Rect.unit (s := S2048x512) ![0, 0] S2048x512.size inb_S2048x512_S2048x512_0_0, w⟩

/-- A weight block read back after its store. -/
theorem all_cast (a : Memref sig .tc .vmem S2048x512 .bf16) (w : FVec Ideal S2048x512 .bf16) :
    all a (a.view.writes (Elt Ideal) a.view.junk [castAt w]) ![0, 0] inb_S2048x512_S2048x512_0_0 = w := by
  have h1 : all a (a.view.writes (Elt Ideal) a.view.junk [castAt w]) ![0, 0] inb_S2048x512_S2048x512_0_0 = _ :=
    View.readAt_eq_ld a.view (a.view.writes (Elt Ideal) a.view.junk [castAt w]) (Rect.unit (s := S2048x512) ![0, 0] S2048x512.size inb_S2048x512_S2048x512_0_0)
  have h2 : a.view.read (Elt Ideal) (a.view.writes (Elt Ideal) a.view.junk [castAt w]) = View.canon (Val := Elt Ideal) [castAt w] :=
    View.read_writes_junk_eq_canon (Val := Elt Ideal) a.view _
  rw [h1, h2]
  exact (View.ld_unit_zero off_zero _ _).trans (View.canon_unit_zero (Val := Elt Ideal) (S := S2048x512) off_zero _ _)

/-- The stores into a buffer of rows: the block's rows, then its last eight over those before. -/
def keep (v : View sig .tc .vmem S1032x512 .f32) (k : Vec Ideal S8x512 .f32 → FVec Ideal S8x512 .f32) (up : FVec Ideal S1024x512 .f32)
    (L : List (View.Piece (Elt Ideal) S1032x512 .f32)) : List (View.Piece (Elt Ideal) S1032x512 .f32) :=
  headAt (k (last (held v v.junk (rowsAt up :: L)))) :: rowsAt up :: L

/-- Those stores leave the block's last eight rows at the top. -/
theorem keep_head (v w : View sig .tc .vmem S1032x512 .f32) (k : Vec Ideal S8x512 .f32 → FVec Ideal S8x512 .f32)
    (hk : ∀ x (ρ : Fin 8) (q : Fin 512), k x (ix2 ρ q) = x (ix2 ρ q)) (up : FVec Ideal S1024x512 .f32)
    (L : List (View.Piece (Elt Ideal) S1032x512 .f32)) (f : w.ty.Contents (Elt Ideal)) (ρ : Fin 8) (q : Fin 512) :
    held w f (keep v k up L) (ix2 (⟨ρ.val, by omega⟩ : Fin 1032) q) = up (ix2 (⟨1016 + ρ.val, by omega⟩ : Fin 1024) q) := by
  refine (held_head w f _ _ ρ q).trans ?_
  rw [hk]
  exact ld_last v v.junk L up ρ q

/-- A buffer whose block is stored over what the point before left. -/
theorem holds_kept (a : Memref sig .tc .vmem S1032x512 .f32) (ha : a.IsWhole) (x : Vec Ideal S1032x512 .f32) (up : FVec Ideal S1024x512 .f32)
    (u : Fin 1024 → Fin 512 → EReal) (hu : ∀ r q, up (ix2 r q) = u r q) :
    Holds (held a.view (ha.unread x) [rowsAt up]) u (fun ρ q => x (ix2 (⟨ρ.val, by omega⟩ : Fin 1032) q)) where
  new r q := (held_rows_new _ _ _ _ _ _).trans (hu r q)
  old ρ q := (held_rows_old _ _ _ _ _ _).trans (congrFun (ha.read_unread x) _)

/-- A buffer whose block is stored under cleared rows. -/
theorem holds_clear (v : View sig .tc .vmem S1032x512 .f32) (z : FVec Ideal S8x512 .f32) (hz : ∀ (ρ : Fin 8) (q : Fin 512), z (ix2 ρ q) = 0)
    (up : FVec Ideal S1024x512 .f32) (u : Fin 1024 → Fin 512 → EReal) (hu : ∀ r q, up (ix2 r q) = u r q) :
    Holds (held v v.junk [rowsAt up, headAt z]) u (fun _ _ => 0) where
  new r q := (held_rows_new _ _ _ _ _ _).trans (hu r q)
  old ρ q := (held_rows_old _ _ _ _ _ _).trans ((held_head _ _ _ _ _ _).trans (hz ρ q))

variable (c : Dev nD) (i : grid0.Coords) (arg2 : Memref sig .tc .vmem S1024x2048 .bf16) (harg2 : arg2.IsWhole) (arg3 : Memref sig .tc .vmem S2048x512 .f32)
    (harg3 : arg3.IsWhole) (arg4 : Memref sig .tc .vmem S2048x512 .f32) (harg4 : arg4.IsWhole) (arg5 : Memref sig .tc .vmem S3x512 .f32) (harg5 : arg5.IsWhole)
    (arg6 : Memref sig .tc .vmem S3x512 .f32) (harg6 : arg6.IsWhole) (arg7 : Memref sig .tc .vmem S1x512 .f32) (harg7 : arg7.IsWhole)
    (arg8 : Memref sig .tc .vmem S1x512 .f32) (harg8 : arg8.IsWhole) (arg9 : Memref sig .tc .vmem S1024x512 .bf16) (harg9 : arg9.IsWhole)
    (arg10 : Memref sig .tc .vmem S1032x512 .f32) (harg10 : arg10.IsWhole) (arg11 : Memref sig .tc .vmem S1032x512 .f32) (harg11 : arg11.IsWhole)
    (arg12 : Memref sig .tc .vmem S2048x512 .bf16) (harg12 : arg12.IsWhole) (arg13 : Memref sig .tc .vmem S2048x512 .bf16) (harg13 : arg13.IsWhole)
    (x0 : Vec Ideal S1024x2048 .bf16) (x1 : Vec Ideal S2048x512 .f32) (x2 : Vec Ideal S2048x512 .f32) (x3 : Vec Ideal S3x512 .f32) (x4 : Vec Ideal S3x512 .f32)
    (x5 : Vec Ideal S1x512 .f32) (x6 : Vec Ideal S1x512 .f32) (xs0 : Vec Ideal S1032x512 .f32) (xs1 : Vec Ideal S1032x512 .f32)
    (xs2 : Vec Ideal S2048x512 .bf16) (xs3 : Vec Ideal S2048x512 .bf16)

/-- The rows of a point. -/
def rd0 : Vec Ideal S1024x2048 .bf16 := all arg2 (harg2.unread x0) ![0, 0] inb_S1024x2048_S1024x2048_0_0
/-- A weight block kept from the point before. -/
def rdW : Vec Ideal S2048x512 .bf16 := all arg12 (harg12.unread xs2) ![0, 0] inb_S2048x512_S2048x512_0_0
/-- A bias. -/
def rdB : Vec Ideal S1x512 .f32 := all arg7 (harg7.unread x5) ![0, 0] inb_S1x512_S1x512_0_0
/-- The cast of the first weight block. -/
def castV : FVec Ideal S2048x512 .bf16 := k0_pay5 (F := Ideal) (all arg3 (harg3.unread x1) ![0, 0] inb_S2048x512_S2048x512_0_0)
/-- The cast of the second weight block. -/
def castG : FVec Ideal S2048x512 .bf16 := k0_pay6 (F := Ideal) (all arg3 (harg3.unread x1) ![0, 0] inb_S2048x512_S2048x512_0_0)
/-- A weight block just cast. -/
def rdC (w : FVec Ideal S2048x512 .bf16) : Vec Ideal S2048x512 .bf16 := all arg12 (arg12.view.writes (Elt Ideal) arg12.view.junk [castAt w]) ![0, 0] inb_S2048x512_S2048x512_0_0

theorem rd0_eq : rd0 arg2 harg2 x0 = x0 := all_eq arg2 harg2 off_zero _ x0
theorem rdW_eq : rdW arg12 harg12 xs2 = xs2 := all_eq arg12 harg12 off_zero _ xs2
theorem rdB_eq : rdB arg7 harg7 x5 = x5 := all_eq arg7 harg7 off_zero _ x5
theorem rdC_eq (w : FVec Ideal S2048x512 .bf16) : rdC arg12 w = w := all_cast arg12 w
theorem castV_eq : castV arg3 harg3 x1 = k0_pay5 (F := Ideal) x1 := congrArg _ (all_eq arg3 harg3 off_zero _ x1)
theorem castG_eq : castG arg3 harg3 x1 = k0_pay6 (F := Ideal) x1 := congrArg _ (all_eq arg3 harg3 off_zero _ x1)

/-- What the first point of a column block leaves. -/
theorem left_A (hc0 : cond0_0 i) (hc1 : cond0_1 i) :
    Left (out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
      (sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
      (sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)
      x0 (k0_pay5 (F := Ideal) x1) (k0_pay6 (F := Ideal) x2) x3 x4 x5 x6 (fun _ _ => 0) (fun _ _ => 0) := by
  have k1 : (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1
      = outPieces (rd0 arg2 harg2 x0) (rdC arg12 (castV arg3 harg3 x1)) (rdC arg13 (castG arg4 harg4 x2)) (arg5.view.read (Elt Ideal) (harg5.unread x3)) (arg6.view.read (Elt Ideal) (harg6.unread x4)) (rdB arg7 harg7 x5) (rdB arg8 harg8 x6)
          (held arg10.view arg10.view.junk (rowsAt (k0_pay9 (rd0 arg2 harg2 x0) (rdC arg12 (castV arg3 harg3 x1))) :: [headAt (k0_pay3 (F := Ideal))])) (held arg11.view arg11.view.junk (rowsAt (k0_pay14 (k0_pay7 (rd0 arg2 harg2 x0)) (rdC arg13 (castG arg4 harg4 x2))) :: [headAt (k0_pay4 (F := Ideal))])) := by
    chain_rfl
  have k2 : (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 = keep arg10.view k0_pay12 (k0_pay9 (rd0 arg2 harg2 x0) (rdC arg12 (castV arg3 harg3 x1))) [headAt (k0_pay3 (F := Ideal))] := by
    chain_rfl
  have k3 : (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 = keep arg11.view k0_pay1 (k0_pay14 (k0_pay7 (rd0 arg2 harg2 x0)) (rdC arg13 (castG arg4 harg4 x2))) [headAt (k0_pay4 (F := Ideal))] := by
    chain_rfl
  refine ⟨fun r q => ?_, fun ρ q => ?_, fun ρ q => ?_⟩
  · refine (congrFun (View.read_writes_junk_eq_canon (Val := Elt Ideal) VO0_7 _) _).trans ?_
    rw [k1]
    refine (canon_out _ _ _ _ _ _ _ _ _ _ _ (holds_clear arg10.view _ pay3_apply _ _ (pay9_apply _ _)) (holds_clear arg11.view _ pay4_apply _ _ (pay14_apply _ _)) r q).trans ?_
    rw [rd0_eq, rdC_eq, rdC_eq, castV_eq, castG_eq, rdB_eq, rdB_eq, harg5.read_unread, harg6.read_unread]
  · refine (congrFun (congrArg (fun L => VS0_0.read (Elt Ideal) (VS0_0.writes (Elt Ideal) VS0_0.junk L)) k2) _).trans ?_
    refine (keep_head arg10.view VS0_0 k0_pay12 pay12_apply _ _ _ ρ q).trans ((pay9_apply _ _ _ _).trans ?_)
    rw [rd0_eq, rdC_eq, castV_eq]
  · refine (congrFun (congrArg (fun L => VS0_1.read (Elt Ideal) (VS0_1.writes (Elt Ideal) VS0_1.junk L)) k3) _).trans ?_
    refine (keep_head arg11.view VS0_1 k0_pay1 pay1_apply _ _ _ ρ q).trans ((pay14_apply _ _ _ _).trans ?_)
    rw [rd0_eq, rdC_eq, castG_eq]

/-- What a point in the midst of a sequence leaves. -/
theorem left_B (hc0 : ¬cond0_0 i) (hc1 : ¬cond0_1 i) :
    Left (out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)
      (sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)
      (sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)
      x0 xs2 xs3 x3 x4 x5 x6 (fun ρ q => xs0 (ix2 (⟨ρ.val, by omega⟩ : Fin 1032) q)) (fun ρ q => xs1 (ix2 (⟨ρ.val, by omega⟩ : Fin 1032) q)) := by
  have k1 : (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1
      = outPieces (rd0 arg2 harg2 x0) (rdW arg12 harg12 xs2) (rdW arg13 harg13 xs3) (arg5.view.read (Elt Ideal) (harg5.unread x3)) (arg6.view.read (Elt Ideal) (harg6.unread x4)) (rdB arg7 harg7 x5) (rdB arg8 harg8 x6)
          (held arg10.view (harg10.unread xs0) (rowsAt (k0_pay9 (rd0 arg2 harg2 x0) (rdW arg12 harg12 xs2)) :: [])) (held arg11.view (harg11.unread xs1) (rowsAt (k0_pay14 (k0_pay7 (rd0 arg2 harg2 x0)) (rdW arg13 harg13 xs3)) :: [])) := by
    chain_rfl
  have k2 : (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 = keep arg10.view k0_pay12 (k0_pay9 (rd0 arg2 harg2 x0) (rdW arg12 harg12 xs2)) [] := by
    chain_rfl
  have k3 : (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 = keep arg11.view k0_pay1 (k0_pay14 (k0_pay7 (rd0 arg2 harg2 x0)) (rdW arg13 harg13 xs3)) [] := by
    chain_rfl
  refine ⟨fun r q => ?_, fun ρ q => ?_, fun ρ q => ?_⟩
  · refine (congrFun (View.read_writes_junk_eq_canon (Val := Elt Ideal) VO0_7 _) _).trans ?_
    rw [k1]
    refine (canon_out _ _ _ _ _ _ _ _ _ _ _ (holds_kept arg10 harg10 xs0 _ _ (pay9_apply _ _)) (holds_kept arg11 harg11 xs1 _ _ (pay14_apply _ _)) r q).trans ?_
    rw [rd0_eq, rdW_eq, rdW_eq, rdB_eq, rdB_eq, harg5.read_unread, harg6.read_unread]
  · refine (congrFun (congrArg (fun L => VS0_0.read (Elt Ideal) (VS0_0.writes (Elt Ideal) VS0_0.junk L)) k2) _).trans ?_
    refine (keep_head arg10.view VS0_0 k0_pay12 pay12_apply _ _ _ ρ q).trans ((pay9_apply _ _ _ _).trans ?_)
    rw [rd0_eq, rdW_eq]
  · refine (congrFun (congrArg (fun L => VS0_1.read (Elt Ideal) (VS0_1.writes (Elt Ideal) VS0_1.junk L)) k3) _).trans ?_
    refine (keep_head arg11.view VS0_1 k0_pay1 pay1_apply _ _ _ ρ q).trans ((pay14_apply _ _ _ _).trans ?_)
    rw [rd0_eq, rdW_eq]

/-- What the first point of the second sequence leaves. -/
theorem left_C (hc0 : cond0_0 i) (hc1 : ¬cond0_1 i) :
    Left (out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3)
      (sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3)
      (sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3)
      x0 xs2 xs3 x3 x4 x5 x6 (fun _ _ => 0) (fun _ _ => 0) := by
  have k1 : (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3).1
      = outPieces (rd0 arg2 harg2 x0) (rdW arg12 harg12 xs2) (rdW arg13 harg13 xs3) (arg5.view.read (Elt Ideal) (harg5.unread x3)) (arg6.view.read (Elt Ideal) (harg6.unread x4)) (rdB arg7 harg7 x5) (rdB arg8 harg8 x6)
          (held arg10.view arg10.view.junk (rowsAt (k0_pay9 (rd0 arg2 harg2 x0) (rdW arg12 harg12 xs2)) :: [headAt (k0_pay3 (F := Ideal))])) (held arg11.view arg11.view.junk (rowsAt (k0_pay14 (k0_pay7 (rd0 arg2 harg2 x0)) (rdW arg13 harg13 xs3)) :: [headAt (k0_pay4 (F := Ideal))])) := by
    chain_rfl
  have k2 : (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3).2.1 = keep arg10.view k0_pay12 (k0_pay9 (rd0 arg2 harg2 x0) (rdW arg12 harg12 xs2)) [headAt (k0_pay3 (F := Ideal))] := by
    chain_rfl
  have k3 : (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs2 xs3).2.2.1 = keep arg11.view k0_pay1 (k0_pay14 (k0_pay7 (rd0 arg2 harg2 x0)) (rdW arg13 harg13 xs3)) [headAt (k0_pay4 (F := Ideal))] := by
    chain_rfl
  refine ⟨fun r q => ?_, fun ρ q => ?_, fun ρ q => ?_⟩
  · refine (congrFun (View.read_writes_junk_eq_canon (Val := Elt Ideal) VO0_7 _) _).trans ?_
    rw [k1]
    refine (canon_out _ _ _ _ _ _ _ _ _ _ _ (holds_clear arg10.view _ pay3_apply _ _ (pay9_apply _ _)) (holds_clear arg11.view _ pay4_apply _ _ (pay14_apply _ _)) r q).trans ?_
    rw [rd0_eq, rdW_eq, rdW_eq, rdB_eq, rdB_eq, harg5.read_unread, harg6.read_unread]
  · refine (congrFun (congrArg (fun L => VS0_0.read (Elt Ideal) (VS0_0.writes (Elt Ideal) VS0_0.junk L)) k2) _).trans ?_
    refine (keep_head arg10.view VS0_0 k0_pay12 pay12_apply _ _ _ ρ q).trans ((pay9_apply _ _ _ _).trans ?_)
    rw [rd0_eq, rdW_eq]
  · refine (congrFun (congrArg (fun L => VS0_1.read (Elt Ideal) (VS0_1.writes (Elt Ideal) VS0_1.junk L)) k3) _).trans ?_
    refine (keep_head arg11.view VS0_1 k0_pay1 pay1_apply _ _ _ ρ q).trans ((pay14_apply _ _ _ _).trans ?_)
    rw [rd0_eq, rdW_eq]

/-- The first weight block that the first point of a column block leaves. -/
theorem weight_2 (hc0 : cond0_0 i) (hc1 : cond0_1 i) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay5 (F := Ideal) x1 := by
  have k : (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 = [castAt (castV arg3 harg3 x1)] := by chain_rfl
  refine (View.read_writes_junk_eq_canon (Val := Elt Ideal) VS0_2 _).trans ?_
  rw [k]
  refine (View.canon_unit_zero (Val := Elt Ideal) (S := S2048x512) off_zero _ _).trans ?_
  exact castV_eq arg3 harg3 x1

/-- The second weight block that the first point of a column block leaves. -/
theorem weight_3 (hc0 : cond0_0 i) (hc1 : cond0_1 i) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay6 (F := Ideal) x2 := by
  have k : (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1 = [castAt (castG arg4 harg4 x2)] := by chain_rfl
  refine (View.read_writes_junk_eq_canon (Val := Elt Ideal) VS0_3 _).trans ?_
  rw [k]
  refine (View.canon_unit_zero (Val := Elt Ideal) (S := S2048x512) off_zero _ _).trans ?_
  exact castG_eq arg4 harg4 x2

end Cert.UpIdeal.Conv

end
-- ==== Proof.ConvState.lean ====
/- The up-projection's call: what the grid points leave, in terms of the arguments. Point `t` is row block `t % 8` of column block
   `t / 8`; four row blocks make a sequence. -/
module

public import proofs.«01_k».proof.Proof.ConvRuns
public import Idealize.ShloMosaic.Lib.Pipeline.ValueKit.Point

@[expose] public section

set_option maxRecDepth 16384

noncomputable section

namespace Cert.UpIdeal.Conv

open Idealize.ShloMosaic Idealize.ShloMosaic.TcCoe Idealize.SL.Sem Cert.UpIdeal Cert.UpIdeal.Gen
open scoped BigOperators

variable (m : (ℓ : Loc nD τ sig) → Buf (Elt Ideal) ℓ) (c : Dev nD)

/-- The index maps of the windows. -/
theorem idx : ∀ t : Fin cfg0.N, win0_0.index t = ![t.val % 8, 0] ∧ win0_1.index t = ![0, t.val / 8] ∧ win0_2.index t = ![0, 11 + t.val / 8]
    ∧ win0_3.index t = ![0, t.val / 8] ∧ win0_4.index t = ![0, 11 + t.val / 8] ∧ win0_5.index t = ![0, t.val / 8] ∧ win0_6.index t = ![0, 11 + t.val / 8]
    ∧ win0_7.index t = ![t.val % 8, t.val / 8] :=
  (by decide +kernel : ∀ t : Fin grid0.N, _)

/-- A column of the value's half, of point `n`. -/
def valCol (n : ℕ) (hn : n < cfg0.N) (q : Fin 512) : Fin 11264 := ⟨n / 8 * 512 + q.val, by have : n < 88 := lt_of_lt_of_eq hn N_0; omega⟩
/-- A column of the gate's half, of point `n`. -/
def gateCol (n : ℕ) (hn : n < cfg0.N) (q : Fin 512) : Fin 11264 := ⟨(11 + n / 8) * 512 + q.val, by have : n < 88 := lt_of_lt_of_eq hn N_0; omega⟩
/-- A row of point `n`. -/
def rowOf (n : ℕ) (r : Fin 1024) : Fin 8192 := ⟨n % 8 * 1024 + r.val, by omega⟩

/-- The rows, the weights, the convolution's weights and the bias, as the windows find them. -/
def rows : FVec Ideal S8192x2048 .bf16 := V m c main_v1
def wts : FVec Ideal S2048x11264 .f32 := V m c main_arg1
def taps : FVec Ideal S3x11264 .f32 := V m c main_arg2
def bias : FVec Ideal S1x11264 .f32 := V m c main_v2

/-! ## The blocks -/

section
variable (t : Fin cfg0.N)

theorem block_rows (r : Fin 1024) (k : Fin 2048) : iblk m c 0 t (ix2 r k) = rows m c (ix2 (rowOf t.val r) k) := by
  blk_ext [iblk, rows, wts, taps, bias, idx t, rowOf]
theorem block_wv (k : Fin 2048) (q : Fin 512) : iblk m c 1 t (ix2 k q) = wts m c (ix2 k (valCol t.val t.isLt q)) := by
  blk_ext [iblk, rows, wts, taps, bias, idx t, valCol]
theorem block_wg (k : Fin 2048) (q : Fin 512) : iblk m c 2 t (ix2 k q) = wts m c (ix2 k (gateCol t.val t.isLt q)) := by
  blk_ext [iblk, rows, wts, taps, bias, idx t, gateCol]
theorem block_cv (k : Fin 3) (q : Fin 512) : iblk m c 3 t (ix2 k q) = taps m c (ix2 k (valCol t.val t.isLt q)) := by
  blk_ext [iblk, rows, wts, taps, bias, idx t, valCol]
theorem block_cg (k : Fin 3) (q : Fin 512) : iblk m c 4 t (ix2 k q) = taps m c (ix2 k (gateCol t.val t.isLt q)) := by
  blk_ext [iblk, rows, wts, taps, bias, idx t, gateCol]
theorem block_bv (q : Fin 512) : iblk m c 5 t (ix2 (0 : Fin 1) q) = bias m c (ix2 (0 : Fin 1) (valCol t.val t.isLt q)) := by
  blk_ext [iblk, rows, wts, taps, bias, idx t, valCol]
theorem block_bg (q : Fin 512) : iblk m c 6 t (ix2 (0 : Fin 1) q) = bias m c (ix2 (0 : Fin 1) (gateCol t.val t.isLt q)) := by
  blk_ext [iblk, rows, wts, taps, bias, idx t, gateCol]
/-- The place of an entry of the output block. -/
theorem block_out (r : Fin 1024) (q : Fin 512) :
    ((cfg0.win 7).blk t).view.emb (ix2 r q)
      = ix2 (rowOf t.val r) (⟨t.val / 8 * 512 + q.val, by have : t.val < 88 := lt_of_lt_of_eq t.isLt N_0; omega⟩ : Fin 5632) := by
  blk_ext [idx t, rowOf]
end

/-! ## The states -/

/-- An entry of the product of the rows and the weights. -/
def up (R : Fin 8192) (Q : Fin 11264) : EReal := ∑ k : Fin 2048, rows m c (ix2 R k) * wts m c (ix2 k Q)

/-- The eight rows before the block of point `n`: zero before a sequence. -/
def prior (n : ℕ) (col : Fin 512 → Fin 11264) (ρ : Fin 8) (q : Fin 512) : EReal :=
  if n % 4 = 0 then 0 else up m c ⟨n % 8 * 1024 + ρ.val - 8, by omega⟩ (col q)

/-- A point's state. -/
abbrev State := Vec Ideal S1024x512 .bf16 × Vec Ideal S1032x512 .f32 × Vec Ideal S1032x512 .f32 × Vec Ideal S2048x512 .bf16 × Vec Ideal S2048x512 .bf16

/-- What point `n` leaves. -/
def after (n : ℕ) (hn : n < cfg0.N) : State := outsAt0 m c n hn

/-- What every point leaves, in terms of the arguments. -/
structure Point (n : ℕ) (hn : n < cfg0.N) : Prop where
  wv : ∀ (k : Fin 2048) (q : Fin 512), (after m c n hn).2.2.2.1 (ix2 k q) = wts m c (ix2 k (valCol n hn q))
  wg : ∀ (k : Fin 2048) (q : Fin 512), (after m c n hn).2.2.2.2 (ix2 k q) = wts m c (ix2 k (gateCol n hn q))
  left : Left (after m c n hn).1 (after m c n hn).2.1 (after m c n hn).2.2.1 (iblk m c 0 ⟨n, hn⟩) (after m c n hn).2.2.2.1 (after m c n hn).2.2.2.2
    (iblk m c 3 ⟨n, hn⟩) (iblk m c 4 ⟨n, hn⟩) (iblk m c 5 ⟨n, hn⟩) (iblk m c 6 ⟨n, hn⟩) (prior m c n (valCol n hn)) (prior m c n (gateCol n hn))

/-- A point's products are entries of the whole product. -/
theorem dot_up (n : ℕ) (hn : n < cfg0.N) (w : Vec Ideal S2048x512 .bf16) (col : Fin 512 → Fin 11264)
    (hw : ∀ (k : Fin 2048) (q : Fin 512), w (ix2 k q) = wts m c (ix2 k (col q))) (r : Fin 1024) (q : Fin 512) :
    dot (iblk m c 0 ⟨n, hn⟩) w r q = up m c (rowOf n r) (col q) :=
  Finset.sum_congr rfl fun k _ => congrArg₂ (fun a b : EReal => a * b) (block_rows m c ⟨n, hn⟩ r k) (hw k q)

/-- Before a sequence the rows are zero. -/
theorem prior_zero (n : ℕ) (h : n % 4 = 0) (col : Fin 512 → Fin 11264) : prior m c n col = fun _ _ => 0 := by
  funext ρ q; exact if_pos h

/-- A state, from its components. -/
theorem left_of {st : State} {a : Vec Ideal S1024x512 .bf16} {b d : Vec Ideal S1032x512 .f32} {u v : Vec Ideal S2048x512 .bf16} (e : st = (a, b, d, u, v))
    {h : Vec Ideal S1024x2048 .bf16} {wv wg : Vec Ideal S2048x512 .bf16} {cv cg : Vec Ideal S3x512 .f32} {bv bg : Vec Ideal S1x512 .f32}
    {o10 o11 p10 p11 : Fin 8 → Fin 512 → EReal} (hu : u = wv) (hv : v = wg) (h10 : p10 = o10) (h11 : p11 = o11) (l : Left a b d h wv wg cv cg bv bg o10 o11) :
    Left st.1 st.2.1 st.2.2.1 h st.2.2.2.1 st.2.2.2.2 cv cg bv bg p10 p11 := by
  subst e hu hv h10 h11; exact l

theorem fourth {st : State} {a : Vec Ideal S1024x512 .bf16} {b d : Vec Ideal S1032x512 .f32} {u v w : Vec Ideal S2048x512 .bf16} (e : st = (a, b, d, u, v))
    (h : u = w) : st.2.2.2.1 = w := by
  subst e h; rfl
theorem fifth {st : State} {a : Vec Ideal S1024x512 .bf16} {b d : Vec Ideal S1032x512 .f32} {u v w : Vec Ideal S2048x512 .bf16} (e : st = (a, b, d, u, v))
    (h : v = w) : st.2.2.2.2 = w := by
  subst e h; rfl

/-- The first point of a column block. -/
theorem point_A (t : Fin cfg0.N) (h0 : t.val % 4 = 0) (h1 : t.val % 8 = 0) : Point m c t.val t.isLt := by
  have e := outsAt0_A m c t h0 h1
  refine ⟨fun k q => ?_, fun k q => ?_, ?_⟩
  · exact (congrFun (fourth e (weight_2 c _ _ _ _ _ _ _ _ _ _ _ _ _ _ _ _ _ _ _ _ _ _ _ _ _ _ _ _ _ _ _ _ _ _)) _).trans ((pay5_apply _ k q).trans (block_wv m c t k q))
  · exact (congrFun (fifth e (weight_3 c _ _ _ _ _ _ _ _ _ _ _ _ _ _ _ _ _ _ _ _ _ _ _ _ _ _ _ _ _ _ _ _ _ _)) _).trans ((pay6_apply _ k q).trans (block_wg m c t k q))
  · exact left_of e (weight_2 c _ _ _ _ _ _ _ _ _ _ _ _ _ _ _ _ _ _ _ _ _ _ _ _ _ _ _ _ _ _ _ _ _ _)
      (weight_3 c _ _ _ _ _ _ _ _ _ _ _ _ _ _ _ _ _ _ _ _ _ _ _ _ _ _ _ _ _ _ _ _ _ _)
      (prior_zero m c _ h0 _) (prior_zero m c _ h0 _)
      (left_A c _ _ _ _ _ _ _ _ _ _ _ _ _ _ _ _ _ _ _ _ _ _ _ _ _ _ _ _ _ _ _ _ _ _)

section
variable (n : ℕ) (hn : n + 1 < cfg0.N) (ih : Point m c n (Nat.lt_of_succ_lt hn)) (hd : (n + 1) / 8 = n / 8)
include ih hd

/-- The columns are those of the point before. -/
theorem valCol_step (q : Fin 512) : valCol n (Nat.lt_of_succ_lt hn) q = valCol (n + 1) hn q := Fin.ext (by show n / 8 * 512 + _ = (n + 1) / 8 * 512 + _; rw [hd])
theorem gateCol_step (q : Fin 512) : gateCol n (Nat.lt_of_succ_lt hn) q = gateCol (n + 1) hn q := Fin.ext (by show (11 + n / 8) * 512 + _ = (11 + (n + 1) / 8) * 512 + _; rw [hd])

/-- The first point of the second sequence. -/
theorem point_C (h0 : (n + 1) % 4 = 0) (h1 : ¬(n + 1) % 8 = 0) : Point m c (n + 1) hn := by
  have e := outsAt0_C m c ⟨n + 1, hn⟩ h0 h1
  refine ⟨fun k q => ?_, fun k q => ?_, ?_⟩
  · exact (congrFun (fourth e rfl) _).trans ((ih.wv k q).trans (congrArg (fun z => wts m c (ix2 k z)) (valCol_step m c n hn ih hd q)))
  · exact (congrFun (fifth e rfl) _).trans ((ih.wg k q).trans (congrArg (fun z => wts m c (ix2 k z)) (gateCol_step m c n hn ih hd q)))
  · exact left_of e rfl rfl (prior_zero m c _ h0 _) (prior_zero m c _ h0 _)
      (left_C c _ _ _ _ _ _ _ _ _ _ _ _ _ _ _ _ _ _ _ _ _ _ _ _ _ _ _ _ _ _ _ _ _ _ _ _)

/-- Within a sequence the rows before are the last of the block before. -/
theorem prior_step (h0 : ¬(n + 1) % 4 = 0) (col : Fin 512 → Fin 11264) (s : Vec Ideal S1032x512 .f32) (w : Vec Ideal S2048x512 .bf16)
    (hw : ∀ (k : Fin 2048) (q : Fin 512), w (ix2 k q) = wts m c (ix2 k (col q)))
    (hs : ∀ (ρ : Fin 8) (q : Fin 512), s (ix2 (⟨ρ.val, by omega⟩ : Fin 1032) q) = dot (iblk m c 0 ⟨n, Nat.lt_of_succ_lt hn⟩) w ⟨1016 + ρ.val, by omega⟩ q) :
    prior m c (n + 1) col = fun ρ q => s (ix2 (⟨ρ.val, by omega⟩ : Fin 1032) q) := by
  funext ρ q
  refine (if_neg h0).trans (Eq.trans ?_ ((hs ρ q).trans (dot_up m c n _ w col hw _ q)).symm)
  refine congrArg (fun z => up m c z (col q)) (Fin.ext ?_)
  show (n + 1) % 8 * 1024 + ρ.val - 8 = n % 8 * 1024 + (1016 + ρ.val)
  omega

/-- A point in the midst of a sequence. -/
theorem point_B (h0 : ¬(n + 1) % 4 = 0) (h1 : ¬(n + 1) % 8 = 0) : Point m c (n + 1) hn := by
  have e := outsAt0_B m c ⟨n + 1, hn⟩ h0 h1
  refine ⟨fun k q => ?_, fun k q => ?_, ?_⟩
  · exact (congrFun (fourth e rfl) _).trans ((ih.wv k q).trans (congrArg (fun z => wts m c (ix2 k z)) (valCol_step m c n hn ih hd q)))
  · exact (congrFun (fifth e rfl) _).trans ((ih.wg k q).trans (congrArg (fun z => wts m c (ix2 k z)) (gateCol_step m c n hn ih hd q)))
  · exact left_of e rfl rfl
      (prior_step m c n hn ih hd h0 _ _ _ (fun k q => (ih.wv k q).trans (congrArg (fun z => wts m c (ix2 k z)) (valCol_step m c n hn ih hd q))) ih.left.val)
      (prior_step m c n hn ih hd h0 _ _ _ (fun k q => (ih.wg k q).trans (congrArg (fun z => wts m c (ix2 k z)) (gateCol_step m c n hn ih hd q))) ih.left.gate)
      (left_B c _ _ _ _ _ _ _ _ _ _ _ _ _ _ _ _ _ _ _ _ _ _ _ _ _ _ _ _ _ _ _ _ _ _ _ _ _ _)
end

/-- Every point leaves that. -/
theorem point_all (n : ℕ) (hn : n < cfg0.N) : Point m c n hn := by
  induction n with
  | zero => exact point_A m c ⟨0, hn⟩ (Nat.zero_mod _) (Nat.zero_mod _)
  | succ n ih =>
    by_cases h1 : (n + 1) % 8 = 0
    · exact point_A m c ⟨n + 1, hn⟩ (by dsimp only; omega) h1
    · have hd : (n + 1) / 8 = n / 8 := by omega
      by_cases h0 : (n + 1) % 4 = 0
      · exact point_C m c n hn (ih (Nat.lt_of_succ_lt hn)) hd h0 h1
      · exact point_B m c n hn (ih (Nat.lt_of_succ_lt hn)) hd h0 h1

/-- A row of the convolution, of the arguments. -/
def convAt (R : Fin 8192) (Q : Fin 11264) : EReal :=
  conv (bias m c (ix2 (0 : Fin 1) Q)) (taps m c (ix2 (0 : Fin 3) Q)) (taps m c (ix2 (1 : Fin 3) Q)) (taps m c (ix2 (2 : Fin 3) Q)) (up m c R Q)
    (if R.val % 4096 < 2 then 0 else up m c ⟨R.val - 2, by omega⟩ Q) (if R.val % 4096 < 1 then 0 else up m c ⟨R.val - 1, by omega⟩ Q)

/-- The row `j` before a row of a point. -/
theorem back_up (n : ℕ) (hn : n < cfg0.N) (j : ℕ) (hj : j ≤ 8) (w : Vec Ideal S2048x512 .bf16) (col : Fin 512 → Fin 11264)
    (hw : ∀ (k : Fin 2048) (q : Fin 512), w (ix2 k q) = wts m c (ix2 k (col q))) (r : Fin 1024) (q : Fin 512) :
    back j hj (dot (iblk m c 0 ⟨n, hn⟩) w) (prior m c n col) r q
      = if (rowOf n r).val % 4096 < j then 0 else up m c ⟨(rowOf n r).val - j, by have := (rowOf n r).isLt; omega⟩ (col q) := by
  have hr : (rowOf n r).val = n % 8 * 1024 + r.val := rfl
  unfold back
  by_cases h : j ≤ r.val
  · rw [dif_pos h, if_neg (by omega), dot_up m c n hn w col hw]
    refine congrArg (fun z => up m c z (col q)) (Fin.ext ?_)
    show n % 8 * 1024 + (r.val - j) = (rowOf n r).val - j
    omega
  · rw [dif_neg h]
    unfold prior
    by_cases h0 : n % 4 = 0
    · rw [if_pos h0, if_pos (by omega)]
    · rw [if_neg h0, if_neg (by omega)]
      refine congrArg (fun z => up m c z (col q)) (Fin.ext ?_)
      show n % 8 * 1024 + (8 + r.val - j) - 8 = (rowOf n r).val - j
      omega

/-- A row of a block's convolution is the whole's. -/
theorem convRow_at (n : ℕ) (hn : n < cfg0.N) (w : Vec Ideal S2048x512 .bf16) (cw : Vec Ideal S3x512 .f32) (b : Vec Ideal S1x512 .f32) (col : Fin 512 → Fin 11264)
    (hw : ∀ (k : Fin 2048) (q : Fin 512), w (ix2 k q) = wts m c (ix2 k (col q)))
    (hc : ∀ (k : Fin 3) (q : Fin 512), cw (ix2 k q) = taps m c (ix2 k (col q)))
    (hb : ∀ q : Fin 512, b (ix2 (0 : Fin 1) q) = bias m c (ix2 (0 : Fin 1) (col q))) (r : Fin 1024) (q : Fin 512) :
    convRow (iblk m c 0 ⟨n, hn⟩) w cw b (prior m c n col) r q = convAt m c (rowOf n r) (col q) := by
  unfold convRow convAt
  rw [hb, hc, hc, hc, dot_up m c n hn w col hw, back_up m c n hn 2 _ w col hw, back_up m c n hn 1 _ w col hw]

/-- An entry of a point's output block. -/
theorem out_at (t : Fin cfg0.N) (r : Fin 1024) (q : Fin 512) :
    (after m c t.val t.isLt).1 (ix2 r q)
      = gated (convAt m c (rowOf t.val r) (gateCol t.val t.isLt q)) (convAt m c (rowOf t.val r) (valCol t.val t.isLt q)) := by
  have p := point_all m c t.val t.isLt
  refine (p.left.out r q).trans ?_
  rw [convRow_at m c t.val t.isLt _ _ _ _ p.wg (block_cg m c t) (block_bg m c t), convRow_at m c t.val t.isLt _ _ _ _ p.wv (block_cv m c t) (block_bv m c t)]

end Cert.UpIdeal.Conv

end
-- ==== Proof.ConvRef.lean ====
/- The up-projection's reference, read at an entry: the products, padded by two rows of zeros, three rows of them weighted and added
   to the bias; the second half gates the first. -/
module

public import proofs.«01_k».proof.Proof.Gen.UpReferenceIdeal.Run
public import Idealize.ShloMosaic.Lib.Pipeline.Regions
public import Idealize.ShloMosaic.Lib.Pipeline.ValueKit
public import Idealize.ShloMosaic.Lib.Pointwise
public import Idealize.ShloMosaic.Lib.KernelVsHost

@[expose] public section

set_option maxRecDepth 16384

noncomputable section

namespace Cert.UpReferenceIdeal.Conv

open Idealize.ShloMosaic Idealize.ShloMosaic.TcCoe Idealize.SL.Sem Cert.UpReferenceIdeal Cert.UpReferenceIdeal.Gen
open scoped BigOperators

/-- The products, two rows of zeros before them. -/
def padded (x : FVec Ideal S2x4096x2048 .f32) (w : FVec Ideal S2048x11264 .f32) : FVec Ideal S2x4098x11264 .f32 :=
  pad S2x4098x11264 ![0, 2, 0] ![0, 0, 0] ![0, 0, 0] (Host.dotGeneral dot_S2x4096x2048_S2048x11264_S2x4096x11264_2_0_01_1_n_n none x w)
    (sitofp .f32 (constantI S_ 32 0#32)) pads_S2x4096x11264_S2x4098x11264_000_200_000 h_S_

/-- A row of numbers, at every row of the products. -/
def spread (b : FVec Ideal S11264 .f32) : FVec Ideal S2x4096x11264 .f32 :=
  broadcastInDim S2x4096x11264 ![0, 1, 2] bcast_S1x1x11264_S2x4096x11264_0_1_2 (broadcastInDim S1x1x11264 ![2] bcast_S11264_S1x1x11264_2 b)

/-- The convolution. -/
def conv (x : FVec Ideal S2x4096x2048 .f32) (w : FVec Ideal S2048x11264 .f32) (cw : FVec Ideal S3x11264 .f32) (b : FVec Ideal S11264 .f32) :
    FVec Ideal S2x4096x11264 .f32 :=
  addf (addf (addf (spread b)
    (mulf (spread (shapeCast S11264 (extractStridedSlice S1x11264 ![0, 0] cw slices_S3x11264_S1x11264_0_0) shapeCasts_S1x11264_S11264))
      (extractStridedSlice S2x4096x11264 ![0, 0, 0] (padded x w) slices_S2x4098x11264_S2x4096x11264_0_0_0)))
    (mulf (spread (shapeCast S11264 (extractStridedSlice S1x11264 ![1, 0] cw slices_S3x11264_S1x11264_1_0) shapeCasts_S1x11264_S11264))
      (extractStridedSlice S2x4096x11264 ![0, 1, 0] (padded x w) slices_S2x4098x11264_S2x4096x11264_0_1_0)))
    (mulf (spread (shapeCast S11264 (extractStridedSlice S1x11264 ![2, 0] cw slices_S3x11264_S1x11264_2_0) shapeCasts_S1x11264_S11264))
      (extractStridedSlice S2x4096x11264 ![0, 2, 0] (padded x w) slices_S2x4098x11264_S2x4096x11264_0_2_0))

/-- The gate's half and the value's. -/
def gate (v : FVec Ideal S2x4096x11264 .f32) : FVec Ideal S2x4096x5632 .f32 := extractStridedSlice S2x4096x5632 ![0, 0, 5632] v slices_S2x4096x11264_S2x4096x5632_0_0_5632
def value (v : FVec Ideal S2x4096x11264 .f32) : FVec Ideal S2x4096x5632 .f32 := extractStridedSlice S2x4096x5632 ![0, 0, 0] v slices_S2x4096x11264_S2x4096x5632_0_0_0

/-- The logistic function. -/
def logistic (g : FVec Ideal S2x4096x5632 .f32) : FVec Ideal S2x4096x5632 .f32 :=
  Host.divf (broadcastInDim S2x4096x5632 ![] bcast_S_S2x4096x5632 (constant S_ .f32 0x3F800000#32))
    (addf (broadcastInDim S2x4096x5632 ![] bcast_S_S2x4096x5632 (constant S_ .f32 0x3F800000#32)) (Host.exp (Host.negf g)))

/-- The result. -/
def result (x : FVec Ideal S2x4096x2048 .f32) (w : FVec Ideal S2048x11264 .f32) (cw : FVec Ideal S3x11264 .f32) (b : FVec Ideal S11264 .f32) :
    FVec Ideal S8192x5632 .bf16 :=
  truncf .bf16 (shapeCast S8192x5632 (mulf (mulf (gate (conv x w cw b)) (logistic (gate (conv x w cw b)))) (value (conv x w cw b))) shapeCasts_S2x4096x5632_S8192x5632)
    bitsLt_bf16_f32

/-- The run's result is that. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) := by
  chain_rfl

/-- An entry of the products. -/
def up (x : FVec Ideal S2x4096x2048 .f32) (w : FVec Ideal S2048x11264 .f32) (b : Fin 2) (s : Fin 4096) (q : Fin 11264) : EReal :=
  ∑ k : Fin 2048, x (ix3 b s k) * w (ix2 k q)

theorem dot_apply (x : FVec Ideal S2x4096x2048 .f32) (w : FVec Ideal S2048x11264 .f32) (b : Fin 2) (s : Fin 4096) (q : Fin 11264) :
    Host.dotGeneral dot_S2x4096x2048_S2048x11264_S2x4096x11264_2_0_01_1_n_n none x w (ix3 b s q) = up x w b s q := by
  pointwise [up]

/-- An entry of the padded products. -/
theorem padded_apply (x : FVec Ideal S2x4096x2048 .f32) (w : FVec Ideal S2048x11264 .f32) (b : Fin 2) (s : Fin 4098) (q : Fin 11264) :
    padded x w (ix3 b s q) = if h : s.val < 2 then 0 else up x w b ⟨s.val - 2, by omega⟩ q := by
  by_cases h : s.val < 2
  · rw [dif_pos h]
    refine (pad_apply_of_not_inside _ _ _ _ _ _ _ _ (1 : Fin 3) fun k => absurd (show 2 ≤ s.val from k.1) (by omega)).trans ?_
    show (((0#32).toInt : ℝ) : EReal) = 0
    simp
  · rw [dif_neg h]
    refine (pad_apply_of_inside _ _ _ _ _ _ _ _ (ix3 b (⟨s.val - 2, by omega⟩ : Fin 4096) q) fun a => ?_).trans (dot_apply x w b _ q)
    match a with
    | ⟨0, _⟩ => show b.val = 0 + b.val * 1; omega
    | ⟨1, _⟩ => show s.val = 2 + (s.val - 2) * 1; omega
    | ⟨2, _⟩ => show q.val = 0 + q.val * 1; omega

theorem spread_apply (b : FVec Ideal S11264 .f32) (i : Fin 2) (s : Fin 4096) (q : Fin 11264) : spread b (ix3 i s q) = b (ix1 q) := by
  pointwise [spread]

/-- An entry of the convolution. -/
theorem conv_apply (x : FVec Ideal S2x4096x2048 .f32) (w : FVec Ideal S2048x11264 .f32) (cw : FVec Ideal S3x11264 .f32) (b : FVec Ideal S11264 .f32)
    (i : Fin 2) (s : Fin 4096) (q : Fin 11264) :
    conv x w cw b (ix3 i s q)
      = b (ix1 q) + cw (ix2 (0 : Fin 3) q) * padded x w (ix3 i (⟨s.val, by omega⟩ : Fin 4098) q) + cw (ix2 (1 : Fin 3) q) * padded x w (ix3 i (⟨1 + s.val, by omega⟩ : Fin 4098) q)
        + cw (ix2 (2 : Fin 3) q) * padded x w (ix3 i (⟨2 + s.val, by omega⟩ : Fin 4098) q) := by
  pointwise [conv, spread]

/-- An entry of the result. -/
theorem result_apply (x : FVec Ideal S2x4096x2048 .f32) (w : FVec Ideal S2048x11264 .f32) (cw : FVec Ideal S3x11264 .f32) (b : FVec Ideal S11264 .f32)
    (R : Fin 8192) (q : Fin 5632) :
    result x w cw b (ix2 R q)
      = conv x w cw b (ix3 (⟨R.val / 4096, by omega⟩ : Fin 2) (⟨R.val % 4096, Nat.mod_lt _ (by decide)⟩ : Fin 4096) (⟨5632 + q.val, by omega⟩ : Fin 11264))
        * Ideal.div 1 (1 + Ideal.exp (- conv x w cw b (ix3 (⟨R.val / 4096, by omega⟩ : Fin 2) (⟨R.val % 4096, Nat.mod_lt _ (by decide)⟩ : Fin 4096) (⟨5632 + q.val, by omega⟩ : Fin 11264))))
        * conv x w cw b (ix3 (⟨R.val / 4096, by omega⟩ : Fin 2) (⟨R.val % 4096, Nat.mod_lt _ (by decide)⟩ : Fin 4096) (⟨q.val, by omega⟩ : Fin 11264)) := by
  pointwise [result, logistic, gate, value]

end Cert.UpReferenceIdeal.Conv

end
-- ==== Proof.ConvEq.lean ====
/- The up-projection's call: its result is the reference's. The two add the three rows in different orders; the reference
   multiplies by the logistic of the gate where the kernel divides. -/
module

public import proofs.«01_k».proof.Proof.ConvState
public import proofs.«01_k».proof.Proof.ConvRef

@[expose] public section

set_option maxRecDepth 16384

noncomputable section

namespace Cert.UpIdeal.Conv

open Idealize.ShloMosaic Idealize.ShloMosaic.TcCoe Idealize.SL.Sem Cert.UpIdeal Cert.UpIdeal.Gen
open scoped BigOperators

/-- An exponential is not negative. -/
theorem exp_nonneg (x : EReal) : 0 ≤ Ideal.exp x := by
  induction x with
  | bot => exact le_refl _
  | coe r => exact EReal.coe_nonneg.mpr (Real.exp_pos r).le
  | top => exact le_top

/-- A gate divided by one plus an exponential is the gate times the logistic. -/
theorem gated_eq (g v : EReal) : gated g v = g * Ideal.div 1 (1 + Ideal.exp (-g)) * v := by
  have h : (1 : EReal) + Ideal.exp (-g) ≠ 0 := ne_of_gt (lt_of_lt_of_le zero_lt_one (le_add_of_nonneg_right (exp_nonneg _)))
  unfold gated Ideal.div
  rw [zero_sub, if_neg h, if_neg h, one_mul]

variable (m : (ℓ : Loc nD τ sig) → Buf (Elt Ideal) ℓ) (c : Dev nD)

/-- The arguments. -/
def x : FVec Ideal S2x4096x2048 .f32 := m ((c.tc : Thread nD τ).loc main_arg0)
def w : FVec Ideal S2048x11264 .f32 := m ((c.tc : Thread nD τ).loc main_arg1)
def cw : FVec Ideal S3x11264 .f32 := m ((c.tc : Thread nD τ).loc main_arg2)
def cb : FVec Ideal S11264 .f32 := m ((c.tc : Thread nD τ).loc main_arg3)

theorem rows_eq : rows m c = truncf .bf16 (shapeCast S8192x2048 (x m c) shapeCasts_S2x4096x2048_S8192x2048) bitsLt_bf16_f32 := by chain_rfl
theorem bias_eq : bias m c = shapeCast S1x11264 (cb m c) shapeCasts_S11264_S1x11264 := by chain_rfl
theorem wts_eq : wts m c = w m c := V_main_arg1 m c
theorem taps_eq : taps m c = cw m c := V_main_arg2 m c

/-- The batch and the position of a row. -/
def batch (R : Fin 8192) : Fin 2 := ⟨R.val / 4096, by omega⟩
def pos (R : Fin 8192) : Fin 4096 := ⟨R.val % 4096, Nat.mod_lt _ (by decide)⟩

theorem rows_apply (R : Fin 8192) (k : Fin 2048) : rows m c (ix2 R k) = x m c (ix3 (batch R) (pos R) k) := by
  rw [rows_eq]
  pointwise [batch, pos]
theorem bias_apply (Q : Fin 11264) : bias m c (ix2 (0 : Fin 1) Q) = cb m c (ix1 Q) := by
  rw [bias_eq]
  pointwise

/-- An entry of the product is the reference's. -/
theorem up_eq (R : Fin 8192) (Q : Fin 11264) : up m c R Q = Cert.UpReferenceIdeal.Conv.up (x m c) (w m c) (batch R) (pos R) Q :=
  Finset.sum_congr rfl fun k _ => congrArg₂ (fun a b : EReal => a * b) (rows_apply m c R k) (congrFun (wts_eq m c) _)

/-- A row before, in the reference's padded product. -/
theorem back_eq (R : Fin 8192) (Q : Fin 11264) (j : ℕ) (hj : j ≤ 2) (s : Fin 4098) (hs : s.val + j = R.val % 4096 + 2) :
    Cert.UpReferenceIdeal.Conv.padded (x m c) (w m c) (ix3 (batch R) s Q)
      = if R.val % 4096 < j then 0 else up m c ⟨R.val - j, by omega⟩ Q := by
  rw [Cert.UpReferenceIdeal.Conv.padded_apply]
  by_cases h : s.val < 2
  · rw [dif_pos h, if_pos (by omega)]
  · rw [dif_neg h, if_neg (by omega), up_eq]
    exact congrArg₂ (fun b t => Cert.UpReferenceIdeal.Conv.up (x m c) (w m c) b t Q)
      (Fin.ext (by show R.val / 4096 = (R.val - j) / 4096; omega)) (Fin.ext (by show s.val - 2 = (R.val - j) % 4096; omega))

/-- A row of the convolution is the reference's. -/
theorem convAt_eq (R : Fin 8192) (Q : Fin 11264) :
    convAt m c R Q = Cert.UpReferenceIdeal.Conv.conv (x m c) (w m c) (cw m c) (cb m c) (ix3 (batch R) (pos R) Q) := by
  have h0 : up m c R Q = if R.val % 4096 < 0 then 0 else up m c ⟨R.val - 0, by omega⟩ Q := (if_neg (by omega)).symm
  rw [Cert.UpReferenceIdeal.Conv.conv_apply, back_eq m c R Q 2 (le_refl _) _ rfl,
    back_eq m c R Q 1 (by decide) _ (by show 1 + R.val % 4096 + 1 = _; omega),
    back_eq m c R Q 0 (by decide) _ (by show 2 + R.val % 4096 + 0 = _; omega), ← h0]
  unfold convAt conv
  rw [bias_apply, taps_eq]
  generalize cb m c (ix1 Q) = a
  ac_rfl

/-- The reference's result, of the kernel's arguments. -/
def activation : FVec Ideal S8192x5632 .bf16 := Cert.UpReferenceIdeal.Conv.result (x m c) (w m c) (cw m c) (cb m c)

/-- An entry of a point's block is the reference's at the entry's place. -/
theorem block_entry (t : Fin cfg0.N) (r : Fin 1024) (q : Fin 512) :
    (after m c t.val t.isLt).1 (ix2 r q) = activation m c (((cfg0.win 7).blk t).view.emb (ix2 r q)) := by
  refine (out_at m c t r q).trans (Eq.trans ?_ (congrArg (activation m c) (block_out t r q)).symm)
  refine Eq.trans ?_ (Cert.UpReferenceIdeal.Conv.result_apply _ _ _ _ _ _).symm
  rw [gated_eq, convAt_eq, convAt_eq]
  have e : gateCol t.val t.isLt q = (⟨5632 + (t.val / 8 * 512 + q.val), by have : t.val < 88 := lt_of_lt_of_eq t.isLt N_0; omega⟩ : Fin 11264) :=
    Fin.ext (by show (11 + t.val / 8) * 512 + q.val = 5632 + (t.val / 8 * 512 + q.val); omega)
  rw [e]
  rfl

/-- The call's result is the reference's. -/
theorem final7 : (dats m 0 c).arrAt 7 cfg0.N = activation m c := by
  refine (dats m 0 c).arrAt_eq_of_covers 7 _ (by decide +kernel) fun t _ y => ?_
  have e : (dats m 0 c).after 7 t = (after m c t.val t.isLt).1 := after0_7 m c t
  have k : (after m c t.val t.isLt).1 y = activation m c (((cfg0.win 7).blk t).view.emb y) := by
    have hy : y = ix2 (y 0) (y 1) := by
      funext a
      match a with
      | ⟨0, _⟩ => rfl
      | ⟨1, _⟩ => rfl
    rw [hy]
    exact block_entry m c t _ _
  exact (congrFun e y).trans k

end Cert.UpIdeal.Conv

end
-- ==== Proof.Norm.lean ====
/- A row divided by the root of its mean square, scaled, and then scaled and shifted by the modulation. -/
module

public import Idealize.ShloMosaic.Lib.Pipeline.ValueKit
public import Idealize.ShloMosaic.Lib.Pipeline.ValueKit.Point
public import Idealize.ShloMosaic.Lib.Pointwise

@[expose] public section

noncomputable section

namespace Cert.Norm

open Idealize.ShloMosaic Idealize.ShloMosaic.TcCoe
open scoped BigOperators

/-- An entry of a row over the root of the row's mean square (a small constant added), times the weight. -/
def rms (x : Fin 2048 → EReal) (g : EReal) (k : Fin 2048) : EReal :=
  x k * Ideal.rsqrt (Ideal.div (∑ j : Fin 2048, x j * x j) (Ideal.ofBits .f32 0x45000000#32) + Ideal.ofBits .f32 0x358637BD#32) * g

/-- The same, times one plus a scale, plus a shift. -/
def modulated (x : Fin 2048 → EReal) (g s h : EReal) (k : Fin 2048) : EReal := rms x g k * (1 + s) + h

/-- The rectangle of a matrix from row `o` and column `p`, read at an entry. -/
theorem ld_matrix {A B a b : ℕ} {e : EltTy} (x : Vec Ideal ⟨2, ![A, B]⟩ e) (o p : ℕ) (inb) (r : Fin a) (q : Fin b) (ho : o + r.val < A) (hp : p + q.val < B) :
    View.ld x (Rect.unit (s := ⟨2, ![A, B]⟩) ![o, p] ![a, b] inb) (ix2 r q) = x (ix2 (⟨o + r.val, ho⟩ : Fin A) (⟨p + q.val, hp⟩ : Fin B)) := by
  refine congrArg x (funext fun i => Fin.ext ?_)
  match i with
  | ⟨0, _⟩ => show o + 1 * r.val = o + r.val; omega
  | ⟨1, _⟩ => show p + 1 * q.val = p + q.val; omega

/-- A row of the modulation, read at an entry. -/
theorem ld_row {A B : ℕ} {e : EltTy} (x : Vec Ideal ⟨3, ![1, A, B]⟩ e) (o : ℕ) (inb) (q : Fin B) (ho : o < A) :
    View.ld x (Rect.unit (s := ⟨3, ![1, A, B]⟩) ![0, o, 0] ![1, 1, B] inb) (ix3 (0 : Fin 1) (0 : Fin 1) q) = x (ix3 (0 : Fin 1) (⟨o, ho⟩ : Fin A) q) := by
  refine congrArg x (funext fun i => Fin.ext ?_)
  match i with
  | ⟨0, _⟩ => rfl
  | ⟨1, _⟩ => rfl
  | ⟨2, _⟩ => show 0 + 1 * q.val = q.val; omega

/-- The place of a rectangle's entry. -/
theorem emb_matrix {A B a b : ℕ} (o p : ℕ) (inb) (r : Fin a) (q : Fin b) (ho : o + r.val < A) (hp : p + q.val < B) :
    (Rect.unit (s := ⟨2, ![A, B]⟩) ![o, p] ![a, b] inb).emb (ix2 r q) = ix2 (⟨o + r.val, ho⟩ : Fin A) (⟨p + q.val, hp⟩ : Fin B) := by
  refine funext fun i => Fin.ext ?_
  match i with
  | ⟨0, _⟩ => show o + 1 * r.val = o + r.val; omega
  | ⟨1, _⟩ => show p + 1 * q.val = p + q.val; omega

end Cert.Norm

end
-- ==== Proof.InBlock.lean ====
/- What one block of the input projection computes: an entry is the normed and modulated row times a column of the weights. -/
module

public import proofs.«01_k».proof.Proof.Gen.InIdeal.Value
public import proofs.«01_k».proof.Proof.Norm

@[expose] public section

set_option maxRecDepth 16384

noncomputable section

namespace Cert.InIdeal.Proj

open Idealize.ShloMosaic Idealize.ShloMosaic.TcCoe Idealize.SL.Sem Cert.InIdeal Cert.InIdeal.Gen Cert.Norm
open scoped BigOperators

/-! ## The rows -/

/-- An entry of a normed row, of the first half of the block. -/
theorem upper_apply (v0 : Vec Ideal S256x2048 .f32) (v12 : Vec Ideal S1x2048 .f32) (v16 v22 : Vec Ideal S1x1x2048 .f32) (r : Fin 256) (k : Fin 2048) :
    k0_pay1 v0 v12 v16 v22 (ix2 r k)
      = modulated (fun j => v0 (ix2 r j)) (v12 (ix2 (0 : Fin 1) k)) (v16 (ix3 (0 : Fin 1) (0 : Fin 1) k)) (v22 (ix3 (0 : Fin 1) (0 : Fin 1) k)) k := by
  pointwise [k0_pay1, modulated, rms]

/-- An entry of a normed row, of the second half. -/
theorem lower_apply (v0 : Vec Ideal S256x2048 .f32) (v12 : Vec Ideal S1x2048 .f32) (v16 v22 : Vec Ideal S1x1x2048 .f32) (r : Fin 256) (k : Fin 2048) :
    k0_pay10 (k0_pay8 v0 v12) (k0_pay9 v16) (Scalar.ofBits .f32 0x3F800000#32) v22 (ix2 r k)
      = modulated (fun j => v0 (ix2 r j)) (v12 (ix2 (0 : Fin 1) k)) (v16 (ix3 (0 : Fin 1) (0 : Fin 1) k)) (v22 (ix3 (0 : Fin 1) (0 : Fin 1) k)) k := by
  pointwise [k0_pay10, k0_pay8, k0_pay9, modulated, rms]

/-! ## The products -/

/-- An entry of a product. -/
def dotAt {N : ℕ} (h : Vec Ideal S256x2048 .bf16) (w : Vec Ideal ⟨2, ![2048, N]⟩ .bf16) (r : Fin 256) (q : Fin N) : EReal :=
  ∑ k : Fin 2048, h (ix2 r k) * w (ix2 k q)

theorem pay2_apply (v0 v12 v16 v22) (w : Vec Ideal S2048x1024 .bf16) (r : Fin 256) (q : Fin 1024) :
    k0_pay2 (F := Ideal) v0 v12 v16 v22 w (ix2 r q) = dotAt (k0_pay1 v0 v12 v16 v22) w r q := by
  pointwise [k0_pay2, dotAt]
theorem pay3_apply (v0 v12 v16 v22) (w : Vec Ideal S2048x1024 .bf16) (r : Fin 256) (q : Fin 1024) :
    k0_pay3 (F := Ideal) v0 v12 v16 v22 w (ix2 r q) = dotAt (k0_pay1 v0 v12 v16 v22) w r q := by
  pointwise [k0_pay3, dotAt]
theorem pay4_apply (h : Vec Ideal S256x2048 .bf16) (w : Vec Ideal S2048x1024 .bf16) (r : Fin 256) (q : Fin 1024) :
    k0_pay4 h w (ix2 r q) = dotAt h w r q := by
  pointwise [k0_pay4, dotAt]
theorem pay6_apply (h : Vec Ideal S256x2048 .bf16) (w : Vec Ideal S2048x1024 .bf16) (r : Fin 256) (q : Fin 1024) :
    k0_pay6 h w (ix2 r q) = dotAt h w r q := by
  pointwise [k0_pay6, k0_pay5, dotAt]
theorem pay7_apply (h : Vec Ideal S256x2048 .bf16) (w : Vec Ideal S2048x1024 .bf16) (r : Fin 256) (q : Fin 256) :
    k0_pay7 h w (ix2 r q) = dotAt h w r (⟨768 + q.val, by omega⟩ : Fin 1024) := by
  pointwise [k0_pay7, k0_pay5, dotAt]
theorem pay11_apply (a b o d) (w : Vec Ideal S2048x1024 .bf16) (r : Fin 256) (q : Fin 1024) :
    k0_pay11 (F := Ideal) a b o d w (ix2 r q) = dotAt (k0_pay10 a b o d) w r q := by
  pointwise [k0_pay11, dotAt]
theorem pay12_apply (a b o d) (w : Vec Ideal S2048x1024 .bf16) (r : Fin 256) (q : Fin 1024) :
    k0_pay12 (F := Ideal) a b o d w (ix2 r q) = dotAt (k0_pay10 a b o d) w r q := by
  pointwise [k0_pay12, dotAt]
theorem pay13_apply (a b o d) (w : Vec Ideal S2048x1024 .bf16) (r : Fin 256) (q : Fin 1024) :
    k0_pay13 (F := Ideal) a b o d w (ix2 r q) = dotAt (k0_pay10 a b o d) w r q := by
  pointwise [k0_pay13, dotAt]
theorem pay15_apply (a b o d) (w : Vec Ideal S2048x1024 .bf16) (r : Fin 256) (q : Fin 1024) :
    k0_pay15 (F := Ideal) a b o d w (ix2 r q) = dotAt (k0_pay10 a b o d) w r q := by
  pointwise [k0_pay15, k0_pay14, dotAt]
theorem pay16_apply (a b o d) (w : Vec Ideal S2048x1024 .bf16) (r : Fin 256) (q : Fin 256) :
    k0_pay16 (F := Ideal) a b o d w (ix2 r q) = dotAt (k0_pay10 a b o d) w r (⟨768 + q.val, by omega⟩ : Fin 1024) := by
  pointwise [k0_pay16, k0_pay14, dotAt]

end Cert.InIdeal.Proj

end
-- ==== Proof.InRef.lean ====
/- The input projection's reference, read at an entry. -/
module

public import proofs.«01_k».proof.Proof.Gen.InReferenceIdeal.Run
public import Idealize.ShloMosaic.Lib.Pipeline.Regions
public import proofs.«01_k».proof.Proof.Norm

@[expose] public section

set_option maxRecDepth 16384

noncomputable section

namespace Cert.InReferenceIdeal.Proj

open Idealize.ShloMosaic Idealize.ShloMosaic.TcCoe Idealize.SL.Sem Cert.InReferenceIdeal Cert.InReferenceIdeal.Gen Cert.Norm
open scoped BigOperators

/-- Each row over the root of its mean square, times the weights. -/
def normed (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2
    (Host.rsqrt (addf (Host.divf (broadcastInDim S2x4096x1 ![0, 1] bcast_S2x4096_S2x4096x1_0_1
      (Host.reduceAdd (mulf x x) (constant S_ .f32 0x00000000#32) reducesTo_S2x4096x2048_S2x4096_d2 h_S_))
      (broadcastInDim S2x4096x1 ![] bcast_S_S2x4096x1 (constant S_ .f32 0x45000000#32)))
      (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))

/-- One plus the modulation's second row, at every row of its sequence. -/
def scale (d : FVec Ideal S2x6x2048 .f32) : FVec Ideal S2x4096x2048 .f32 :=
  broadcastInDim S2x4096x2048 ![0, 1, 2] bcast_S2x1x2048_S2x4096x2048_0_1_2
    (addf (broadcastInDim S2x1x2048 ![] bcast_S_S2x1x2048 (constant S_ .f32 0x3F800000#32))
      (broadcastInDim S2x1x2048 ![0, 2] bcast_S2x2048_S2x1x2048_0_2
        (shapeCast S2x2048 (extractStridedSlice S2x1x2048 ![0, 1, 0] d slices_S2x6x2048_S2x1x2048_0_1_0) shapeCasts_S2x1x2048_S2x2048)))

/-- The modulation's first row, at every row of its sequence. -/
def shift (d : FVec Ideal S2x6x2048 .f32) : FVec Ideal S2x4096x2048 .f32 :=
  broadcastInDim S2x4096x2048 ![0, 1, 2] bcast_S2x1x2048_S2x4096x2048_0_1_2
    (broadcastInDim S2x1x2048 ![0, 2] bcast_S2x2048_S2x1x2048_0_2
      (shapeCast S2x2048 (extractStridedSlice S2x1x2048 ![0, 0, 0] d slices_S2x6x2048_S2x1x2048_0_0_0) shapeCasts_S2x1x2048_S2x2048))

/-- The normed rows, scaled and shifted. -/
def hidden (x : FVec Ideal S2x4096x2048 .f32) (d : FVec Ideal S2x6x2048 .f32) (g : FVec Ideal S2048 .f32) : FVec Ideal S2x4096x2048 .f32 :=
  addf (mulf (normed x g) (scale d)) (shift d)

/-- Their products with the weights. -/
def products (x : FVec Ideal S2x4096x2048 .f32) (d : FVec Ideal S2x6x2048 .f32) (g : FVec Ideal S2048 .f32) (w : FVec Ideal S2048x4096 .f32) :
    FVec Ideal S8192x4096 .f32 :=
  shapeCast S8192x4096 (Host.dotGeneral dot_S2x4096x2048_S2048x4096_S2x4096x4096_2_0_01_1_n_n none (hidden x d g) w) shapeCasts_S2x4096x4096_S8192x4096

/-- The first result: the products. -/
def wide (x : FVec Ideal S2x4096x2048 .f32) (d : FVec Ideal S2x6x2048 .f32) (g : FVec Ideal S2048 .f32) (w : FVec Ideal S2048x4096 .f32) :
    FVec Ideal S8192x4096 .bf16 := truncf .bf16 (products x d g w) bitsLt_bf16_f32

/-- The second: the last 256 columns of the products. -/
def tail (x : FVec Ideal S2x4096x2048 .f32) (d : FVec Ideal S2x6x2048 .f32) (g : FVec Ideal S2048 .f32) (w : FVec Ideal S2048x4096 .f32) :
    FVec Ideal S8192x256 .f32 := extractStridedSlice S8192x256 ![0, 3840] (products x d g w) slices_S8192x4096_S8192x256_0_3840

theorem normed_apply (x : FVec Ideal S2x4096x2048 .f32) (g : FVec Ideal S2048 .f32) (b : Fin 2) (s : Fin 4096) (k : Fin 2048) :
    normed x g (ix3 b s k) = rms (fun j => x (ix3 b s j)) (g (ix1 k)) k := by
  pointwise [normed, rms]

/-- An entry of the hidden rows. -/
theorem hidden_apply (x : FVec Ideal S2x4096x2048 .f32) (d : FVec Ideal S2x6x2048 .f32) (g : FVec Ideal S2048 .f32) (b : Fin 2) (s : Fin 4096) (k : Fin 2048) :
    hidden x d g (ix3 b s k) = modulated (fun j => x (ix3 b s j)) (g (ix1 k)) (d (ix3 b (1 : Fin 6) k)) (d (ix3 b (0 : Fin 6) k)) k := by
  have e : hidden x d g (ix3 b s k) = normed x g (ix3 b s k) * (1 + d (ix3 b (1 : Fin 6) k)) + d (ix3 b (0 : Fin 6) k) := by
    pointwise [hidden, scale, shift]
  rw [e, normed_apply]
  rfl

/-- An entry of the products. -/
theorem products_apply (x : FVec Ideal S2x4096x2048 .f32) (d : FVec Ideal S2x6x2048 .f32) (g : FVec Ideal S2048 .f32) (w : FVec Ideal S2048x4096 .f32)
    (R : Fin 8192) (q : Fin 4096) :
    products x d g w (ix2 R q)
      = ∑ k : Fin 2048, hidden x d g (ix3 (⟨R.val / 4096, by omega⟩ : Fin 2) (⟨R.val % 4096, Nat.mod_lt _ (by decide)⟩ : Fin 4096) k) * w (ix2 k q) := by
  pointwise [products]

/-- An entry of the second result is one of the first. -/
theorem tail_apply (x : FVec Ideal S2x4096x2048 .f32) (d : FVec Ideal S2x6x2048 .f32) (g : FVec Ideal S2048 .f32) (w : FVec Ideal S2048x4096 .f32)
    (R : Fin 8192) (q : Fin 256) :
    tail x d g w (ix2 R q) = products x d g w (ix2 R (⟨3840 + q.val, by omega⟩ : Fin 4096)) := by
  pointwise [tail]

end Cert.InReferenceIdeal.Proj

end
-- ==== Proof.InEq.lean ====
/- The input projection's call: its two results are the reference's. -/
module

public import proofs.«01_k».proof.Proof.InBlock
public import proofs.«01_k».proof.Proof.InRef

@[expose] public section

set_option maxRecDepth 16384

noncomputable section

namespace Cert.InIdeal.Proj

open Idealize.ShloMosaic Idealize.ShloMosaic.TcCoe Idealize.SL.Sem Cert.InIdeal Cert.InIdeal.Gen Cert.Norm
open scoped BigOperators

/-! ## The output blocks -/

section
variable (x0 : Vec Ideal S512x2048 .f32) (x1 : Vec Ideal S1x6x2048 .f32) (x2 : Vec Ideal S1x2048 .f32) (x3 : Vec Ideal S2048x4096 .bf16)

/-- An entry of a block's normed row. -/
def rowAt (R : Fin 512) (k : Fin 2048) : EReal :=
  modulated (fun j => x0 (ix2 R j)) (x2 (ix2 (0 : Fin 1) k)) (x1 (ix3 (0 : Fin 1) (1 : Fin 6) k)) (x1 (ix3 (0 : Fin 1) (0 : Fin 6) k)) k

/-- An entry of a block's products. -/
def entry (R : Fin 512) (Q : Fin 4096) : EReal := ∑ k : Fin 2048, rowAt x0 x1 x2 R k * x3 (ix2 k Q)

/-- The first half's rows. -/
def upper : Vec Ideal S256x2048 .bf16 := k0_pay1 (View.ld x0 r0_0) (View.ld x2 r0_1) (View.ld x1 r0_2) (View.ld x1 r0_3)
/-- The second half's. -/
def lower : Vec Ideal S256x2048 .bf16 :=
  k0_pay10 (k0_pay8 (View.ld x0 r0_13) (View.ld x2 r0_1)) (k0_pay9 (View.ld x1 r0_2)) (Scalar.ofBits .f32 0x3F800000#32) (View.ld x1 r0_3)

theorem ld_weight (k : Fin 2048) : View.ld x2 r0_1 (ix2 (0 : Fin 1) k) = x2 (ix2 (0 : Fin 1) k) :=
  congrFun (View.ld_unit_zero (by decide) _ x2) _

theorem modulated_congr {x y : Fin 2048 → EReal} {g g' s s' h h' : EReal} (k : Fin 2048) (hx : ∀ j, x j = y j) (hg : g = g') (hs : s = s') (hh : h = h') :
    modulated x g s h k = modulated y g' s' h' k := by
  obtain rfl : x = y := funext hx
  subst hg hs hh; rfl

theorem upper_row (r : Fin 256) (k : Fin 2048) : upper x0 x1 x2 (ix2 r k) = rowAt x0 x1 x2 (⟨0 + r.val, by omega⟩ : Fin 512) k := by
  refine (upper_apply _ _ _ _ r k).trans ?_
  exact modulated_congr k
    (fun j => (ld_matrix x0 0 0 inb_S512x2048_S256x2048_0_0 r j (by omega) (by omega)).trans
      (congrArg (fun t => x0 (ix2 (⟨0 + r.val, by omega⟩ : Fin 512) t)) (Fin.ext (Nat.zero_add _))))
    (ld_weight x2 k) (ld_row x1 1 _ k (by decide)) (ld_row x1 0 _ k (by decide))

theorem lower_row (r : Fin 256) (k : Fin 2048) : lower x0 x1 x2 (ix2 r k) = rowAt x0 x1 x2 (⟨256 + r.val, by omega⟩ : Fin 512) k := by
  refine (lower_apply _ _ _ _ r k).trans ?_
  exact modulated_congr k
    (fun j => (ld_matrix x0 256 0 inb_S512x2048_S256x2048_256_0 r j (by omega) (by omega)).trans
      (congrArg (fun t => x0 (ix2 (⟨256 + r.val, by omega⟩ : Fin 512) t)) (Fin.ext (Nat.zero_add _))))
    (ld_weight x2 k) (ld_row x1 1 _ k (by decide)) (ld_row x1 0 _ k (by decide))

/-- The products of rows from row `o` with the weights from column `p`, at an entry. -/
theorem dotAt_eq (h : Vec Ideal S256x2048 .bf16) (o p : ℕ) (ho : o ≤ 256) (hp : p ≤ 3072)
    (hh : ∀ r k, h (ix2 r k) = rowAt x0 x1 x2 (⟨o + r.val, by omega⟩ : Fin 512) k) (inb : ∀ a, ![0, p] a + S2048x1024.size a ≤ S2048x4096.size a)
    (r : Fin 256) (q : Fin 1024) :
    dotAt h (View.ld x3 (Rect.unit (s := S2048x4096) ![0, p] S2048x1024.size inb)) r q
      = entry x0 x1 x2 x3 (⟨o + r.val, by omega⟩ : Fin 512) (⟨p + q.val, by omega⟩ : Fin 4096) :=
  Finset.sum_congr rfl fun k _ => congrArg₂ (fun a b : EReal => a * b) (hh r k)
    ((ld_matrix x3 0 p inb k q (by omega) (by omega)).trans
      (congrArg (fun t => x3 (ix2 t (⟨p + q.val, by omega⟩ : Fin 4096))) (Fin.ext (Nat.zero_add _))))

/-- A stored piece of the first output holds the entries at its place. -/
theorem piece (o p : ℕ) (ho : o ≤ 256) (hp : p ≤ 3072) (inb : ∀ a, ![o, p] a + S256x1024.size a ≤ S512x4096.size a) (v : Vec Ideal S256x1024 .bf16)
    (hv : ∀ r q, v (ix2 r q) = entry x0 x1 x2 x3 (⟨o + r.val, by omega⟩ : Fin 512) (⟨p + q.val, by omega⟩ : Fin 4096))
    (x : (Rect.unit (s := S512x4096) ![o, p] S256x1024.size inb).shape.Idx) :
    v x = (fun y : S512x4096.Idx => entry x0 x1 x2 x3 (y 0) (y 1)) ((Rect.unit (s := S512x4096) ![o, p] S256x1024.size inb).emb x) := by
  obtain ⟨r, q, rfl⟩ : ∃ (r : Fin 256) (q : Fin 1024), x = ix2 r q := ⟨x 0, x 1, eq_ix2 x⟩
  refine (hv r q).trans ?_
  exact (congrArg (fun y : S512x4096.Idx => entry x0 x1 x2 x3 (y 0) (y 1)) (emb_matrix o p inb r q (by omega) (by omega))).symm

/-- A stored piece of the second. -/
theorem piece_tail (o : ℕ) (ho : o ≤ 256) (inb : ∀ a, ![o, 0] a + S256x256.size a ≤ S512x256.size a) (v : Vec Ideal S256x256 .f32)
    (hv : ∀ r (q : Fin 256), v (ix2 r q) = entry x0 x1 x2 x3 (⟨o + r.val, by omega⟩ : Fin 512) (⟨3072 + (768 + q.val), by omega⟩ : Fin 4096))
    (x : (Rect.unit (s := S512x256) ![o, 0] S256x256.size inb).shape.Idx) :
    v x = (fun y : S512x256.Idx => entry x0 x1 x2 x3 (y 0) (⟨3840 + (y 1).val, by have : (y 1).val < 256 := (y 1).isLt; omega⟩ : Fin 4096))
      ((Rect.unit (s := S512x256) ![o, 0] S256x256.size inb).emb x) := by
  obtain ⟨r, q, rfl⟩ : ∃ (r : Fin 256) (q : Fin 256), x = ix2 r q := ⟨x 0, x 1, eq_ix2 x⟩
  refine (hv r q).trans ?_
  refine Eq.trans ?_ (congrArg (fun y : S512x256.Idx => entry x0 x1 x2 x3 (y 0) (⟨3840 + (y 1).val, by have : (y 1).val < 256 := (y 1).isLt; omega⟩ : Fin 4096))
    (emb_matrix o 0 inb r q (by omega) (by omega))).symm
  exact congrArg (entry x0 x1 x2 x3 _) (Fin.ext (by show 3072 + (768 + q.val) = 3840 + (0 + q.val); omega))

/-- The first output's block holds the products. -/
theorem out4_eq (y : S512x4096.Idx) : out0_4 x0 x1 x2 x3 y = entry x0 x1 x2 x3 (y 0) (y 1) := by
  refine View.canon_apply_of_pieces (Val := Elt Ideal) (e := .bf16) (fun y : S512x4096.Idx => entry x0 x1 x2 x3 (y 0) (y 1)) _ (fun p hp => ?_) y (cover0_4 _ _ _ _ _ _ _ _ y)
  have U := upper_row x0 x1 x2
  have L := lower_row x0 x1 x2
  simp only [List.mem_cons, List.not_mem_nil, or_false] at hp
  rcases hp with rfl | rfl | rfl | rfl | rfl | rfl | rfl | rfl
  · exact piece x0 x1 x2 x3 256 3072 (by decide) (by decide) inb_S512x4096_S256x1024_256_3072 _
      (fun r q => (pay15_apply _ _ _ _ _ r q).trans (dotAt_eq x0 x1 x2 x3 _ 256 3072 (by decide) (by decide) L inb_S2048x4096_S2048x1024_0_3072 r q))
  · exact piece x0 x1 x2 x3 256 2048 (by decide) (by decide) inb_S512x4096_S256x1024_256_2048 _
      (fun r q => (pay13_apply _ _ _ _ _ r q).trans (dotAt_eq x0 x1 x2 x3 _ 256 2048 (by decide) (by decide) L inb_S2048x4096_S2048x1024_0_2048 r q))
  · exact piece x0 x1 x2 x3 256 1024 (by decide) (by decide) inb_S512x4096_S256x1024_256_1024 _
      (fun r q => (pay12_apply _ _ _ _ _ r q).trans (dotAt_eq x0 x1 x2 x3 _ 256 1024 (by decide) (by decide) L inb_S2048x4096_S2048x1024_0_1024 r q))
  · exact piece x0 x1 x2 x3 256 0 (by decide) (by decide) inb_S512x4096_S256x1024_256_0 _
      (fun r q => (pay11_apply _ _ _ _ _ r q).trans (dotAt_eq x0 x1 x2 x3 _ 256 0 (by decide) (by decide) L inb_S2048x4096_S2048x1024_0_0 r q))
  · exact piece x0 x1 x2 x3 0 3072 (by decide) (by decide) inb_S512x4096_S256x1024_0_3072 _
      (fun r q => (pay6_apply _ _ r q).trans (dotAt_eq x0 x1 x2 x3 _ 0 3072 (by decide) (by decide) U inb_S2048x4096_S2048x1024_0_3072 r q))
  · exact piece x0 x1 x2 x3 0 2048 (by decide) (by decide) inb_S512x4096_S256x1024_0_2048 _
      (fun r q => (pay4_apply _ _ r q).trans (dotAt_eq x0 x1 x2 x3 _ 0 2048 (by decide) (by decide) U inb_S2048x4096_S2048x1024_0_2048 r q))
  · exact piece x0 x1 x2 x3 0 1024 (by decide) (by decide) inb_S512x4096_S256x1024_0_1024 _
      (fun r q => (pay3_apply _ _ _ _ _ r q).trans (dotAt_eq x0 x1 x2 x3 _ 0 1024 (by decide) (by decide) U inb_S2048x4096_S2048x1024_0_1024 r q))
  · exact piece x0 x1 x2 x3 0 0 (by decide) (by decide) inb_S512x4096_S256x1024_0_0 _
      (fun r q => (pay2_apply _ _ _ _ _ r q).trans (dotAt_eq x0 x1 x2 x3 _ 0 0 (by decide) (by decide) U inb_S2048x4096_S2048x1024_0_0 r q))

/-- The second output's block holds the last 256 columns of them. -/
theorem out5_eq (y : S512x256.Idx) :
    out0_5 x0 x1 x2 x3 y = entry x0 x1 x2 x3 (y 0) (⟨3840 + (y 1).val, by have : (y 1).val < 256 := (y 1).isLt; omega⟩ : Fin 4096) := by
  refine View.canon_apply_of_pieces (Val := Elt Ideal) (e := .f32) (fun y : S512x256.Idx => entry x0 x1 x2 x3 (y 0) (⟨3840 + (y 1).val, by have : (y 1).val < 256 := (y 1).isLt; omega⟩ : Fin 4096)) _
    (fun p hp => ?_) y (cover0_5 _ _ y)
  simp only [List.mem_cons, List.not_mem_nil, or_false] at hp
  rcases hp with rfl | rfl
  · exact piece_tail x0 x1 x2 x3 256 (by decide) inb_S512x256_S256x256_256_0 _
      (fun r q => (pay16_apply _ _ _ _ _ r q).trans (dotAt_eq x0 x1 x2 x3 _ 256 3072 (by decide) (by decide) (lower_row x0 x1 x2) inb_S2048x4096_S2048x1024_0_3072 r _))
  · exact piece_tail x0 x1 x2 x3 0 (by decide) inb_S512x256_S256x256_0_0 _
      (fun r q => (pay7_apply _ _ r q).trans (dotAt_eq x0 x1 x2 x3 _ 0 3072 (by decide) (by decide) (upper_row x0 x1 x2) inb_S2048x4096_S2048x1024_0_3072 r _))

end

/-! ## The arrays -/

variable (m : (ℓ : Loc nD τ sig) → Buf (Elt Ideal) ℓ) (c : Dev nD)

/-- The arguments. -/
def x : FVec Ideal S2x4096x2048 .f32 := m ((c.tc : Thread nD τ).loc main_arg0)
def d : FVec Ideal S2x6x2048 .f32 := m ((c.tc : Thread nD τ).loc main_arg1)
def g : FVec Ideal S2048 .f32 := m ((c.tc : Thread nD τ).loc main_arg2)
def w : FVec Ideal S2048x4096 .f32 := m ((c.tc : Thread nD τ).loc main_arg3)

/-- What the windows find. -/
def rows : FVec Ideal S8192x2048 .f32 := V m c main_v0
def mods : FVec Ideal S2x6x2048 .f32 := V m c main_arg1
def gain : FVec Ideal S1x2048 .f32 := V m c main_v2
def wts : FVec Ideal S2048x4096 .bf16 := V m c main_v1

theorem rows_eq : rows m c = shapeCast S8192x2048 (x m c) shapeCasts_S2x4096x2048_S8192x2048 := by chain_rfl
theorem mods_eq : mods m c = d m c := V_main_arg1 m c
theorem gain_eq : gain m c = shapeCast S1x2048 (g m c) shapeCasts_S2048_S1x2048 := by chain_rfl
theorem wts_eq : wts m c = truncf .bf16 (w m c) bitsLt_bf16_f32 := by chain_rfl

/-- The batch and the position of a row. -/
def batch (R : Fin 8192) : Fin 2 := ⟨R.val / 4096, by omega⟩
def pos (R : Fin 8192) : Fin 4096 := ⟨R.val % 4096, Nat.mod_lt _ (by decide)⟩

theorem rows_apply (R : Fin 8192) (k : Fin 2048) : rows m c (ix2 R k) = x m c (ix3 (batch R) (pos R) k) := by
  rw [rows_eq]
  pointwise [batch, pos]
theorem gain_apply (k : Fin 2048) : gain m c (ix2 (0 : Fin 1) k) = g m c (ix1 k) := by
  rw [gain_eq]
  pointwise
theorem wts_apply (k : Fin 2048) (q : Fin 4096) : wts m c (ix2 k q) = w m c (ix2 k q) := by
  rw [wts_eq]
  pointwise

theorem idx : ∀ t : Fin cfg0.N, win0_0.index t = ![t.val, 0] ∧ win0_1.index t = ![t.val / 8, 0, 0] ∧ win0_2.index t = ![0, 0]
    ∧ win0_3.index t = ![0, 0] ∧ win0_4.index t = ![t.val, 0] ∧ win0_5.index t = ![t.val, 0] :=
  (by decide +kernel : ∀ t : Fin grid0.N, _)

/-- A row of point `n`. -/
def rowOf (t : Fin cfg0.N) (r : Fin 512) : Fin 8192 := ⟨t.val * 512 + r.val, by have : t.val < 16 := lt_of_lt_of_eq t.isLt N_0; omega⟩
/-- Its batch. -/
def batchOf (t : Fin cfg0.N) : Fin 2 := ⟨t.val / 8, by have : t.val < 16 := lt_of_lt_of_eq t.isLt N_0; omega⟩

theorem batch_rowOf (t : Fin cfg0.N) (r : Fin 512) : batch (rowOf t r) = batchOf t :=
  Fin.ext (by show (t.val * 512 + r.val) / 4096 = t.val / 8; omega)

section
variable (t : Fin cfg0.N)
theorem block_rows (r : Fin 512) (k : Fin 2048) : iblk m c 0 t (ix2 r k) = rows m c (ix2 (rowOf t r) k) := by
  blk_ext [iblk, rows, idx t, rowOf]
theorem block_mods (j : Fin 6) (k : Fin 2048) : iblk m c 1 t (ix3 (0 : Fin 1) j k) = mods m c (ix3 (batchOf t) j k) := by
  blk_ext [iblk, mods, idx t, batchOf]
theorem block_gain (k : Fin 2048) : iblk m c 2 t (ix2 (0 : Fin 1) k) = gain m c (ix2 (0 : Fin 1) k) := by
  blk_ext [iblk, gain, idx t]
theorem block_wts (k : Fin 2048) (q : Fin 4096) : iblk m c 3 t (ix2 k q) = wts m c (ix2 k q) := by
  blk_ext [iblk, wts, idx t]
/-- The places of the output blocks' entries. -/
theorem block_out4 (r : Fin 512) (q : Fin 4096) : ((cfg0.win 4).blk t).view.emb (ix2 r q) = ix2 (rowOf t r) q := by
  blk_ext [idx t, rowOf]
theorem block_out5 (r : Fin 512) (q : Fin 256) : ((cfg0.win 5).blk t).view.emb (ix2 r q) = ix2 (rowOf t r) q := by
  blk_ext [idx t, rowOf]

/-- A point's normed row is the reference's. -/
theorem rowAt_eq (r : Fin 512) (k : Fin 2048) :
    rowAt (iblk m c 0 t) (iblk m c 1 t) (iblk m c 2 t) r k
      = Cert.InReferenceIdeal.Proj.hidden (x m c) (d m c) (g m c) (ix3 (batch (rowOf t r)) (pos (rowOf t r)) k) := by
  refine Eq.trans ?_ (Cert.InReferenceIdeal.Proj.hidden_apply _ _ _ _ _ _).symm
  rw [batch_rowOf]
  refine modulated_congr k (fun j => ?_) ((block_gain m c t k).trans (gain_apply m c k))
    ((block_mods m c t 1 k).trans (congrFun (mods_eq m c) _)) ((block_mods m c t 0 k).trans (congrFun (mods_eq m c) _))
  rw [← batch_rowOf t r]
  exact (block_rows m c t r j).trans (rows_apply m c _ j)

/-- A point's products are the reference's. -/
theorem entry_eq (r : Fin 512) (q : Fin 4096) :
    entry (iblk m c 0 t) (iblk m c 1 t) (iblk m c 2 t) (iblk m c 3 t) r q
      = Cert.InReferenceIdeal.Proj.products (x m c) (d m c) (g m c) (w m c) (ix2 (rowOf t r) q) :=
  (Finset.sum_congr rfl fun k _ => congrArg₂ (fun a b : EReal => a * b) (rowAt_eq m c t r k) ((block_wts m c t k q).trans (wts_apply m c k q))).trans
    (Cert.InReferenceIdeal.Proj.products_apply _ _ _ _ _ _).symm
end

/-- The reference's results, of the kernel's arguments. -/
def wide : FVec Ideal S8192x4096 .bf16 := Cert.InReferenceIdeal.Proj.wide (x m c) (d m c) (g m c) (w m c)
def tail : FVec Ideal S8192x256 .f32 := Cert.InReferenceIdeal.Proj.tail (x m c) (d m c) (g m c) (w m c)

/-- The call's first result is the reference's. -/
theorem final4 : (dats m 0 c).arrAt 4 cfg0.N = wide m c := by
  refine (dats m 0 c).arrAt_eq_of_covers 4 _ (by decide +kernel) fun t _ y => ?_
  refine (congrFun (after0_4 m c t) y).trans ?_
  obtain ⟨r, q, rfl⟩ : ∃ (r : Fin 512) (q : Fin 4096), y = ix2 r q := ⟨y 0, y 1, eq_ix2 y⟩
  refine (out4_eq _ _ _ _ _).trans ?_
  refine (entry_eq m c t r q).trans ?_
  exact (congrArg (wide m c) (block_out4 t r q)).symm

/-- The call's second result is the reference's. -/
theorem final5 : (dats m 0 c).arrAt 5 cfg0.N = tail m c := by
  refine (dats m 0 c).arrAt_eq_of_covers 5 _ (by decide +kernel) fun t _ y => ?_
  refine (congrFun (after0_5 m c t) y).trans ?_
  obtain ⟨r, q, rfl⟩ : ∃ (r : Fin 512) (q : Fin 256), y = ix2 r q := ⟨y 0, y 1, eq_ix2 y⟩
  refine (out5_eq _ _ _ _ _).trans ?_
  refine (entry_eq m c t r (⟨3840 + q.val, by omega⟩ : Fin 4096)).trans ?_
  refine Eq.trans ?_ (congrArg (tail m c) (block_out5 t r q)).symm
  exact (Cert.InReferenceIdeal.Proj.tail_apply _ _ _ _ _ _).symm

end Cert.InIdeal.Proj

end
-- ==== Proof.OutBlock.lean ====
/- What one block of the output projection computes: the two halves' rows times the two halves of the weights, weighted and added to the
   residual rows; and those rows over the root of their mean square, scaled and shifted. -/
module

public import proofs.«01_k».proof.Proof.Gen.OutIdeal.Value
public import proofs.«01_k».proof.Proof.Norm

@[expose] public section

set_option maxRecDepth 16384

noncomputable section

namespace Cert.OutIdeal.Out

open Idealize.ShloMosaic Idealize.ShloMosaic.TcCoe Idealize.SL.Sem Cert.OutIdeal Cert.OutIdeal.Gen Cert.Norm
open scoped BigOperators

/-! ## The stored values -/

/-- An entry of a product. -/
def dotAt (h : Vec Ideal S512x1024 .bf16) (w : Vec Ideal S1024x2048 .bf16) (r : Fin 512) (q : Fin 2048) : EReal :=
  ∑ k : Fin 1024, h (ix2 r k) * w (ix2 k q)

/-- An entry of the summed rows. -/
theorem summed_apply (a : Vec Ideal S512x1024 .bf16) (v : Vec Ideal S1024x2048 .bf16) (b : Vec Ideal S512x1024 .bf16) (w : Vec Ideal S1024x2048 .bf16)
    (x : Vec Ideal S512x2048 .f32) (d : Vec Ideal S1x1x2048 .f32) (r : Fin 512) (k : Fin 2048) :
    k0_pay2 a v b w x d (ix2 r k) = x (ix2 r k) + d (ix3 (0 : Fin 1) (0 : Fin 1) k) * (dotAt a v r k + dotAt b w r k) := by
  pointwise [k0_pay2, dotAt]

/-- An entry of the normed rows, from the summed ones. -/
theorem normed_apply (a : Vec Ideal S512x1024 .bf16) (v : Vec Ideal S1024x2048 .bf16) (b : Vec Ideal S512x1024 .bf16) (w : Vec Ideal S1024x2048 .bf16)
    (x : Vec Ideal S512x2048 .f32) (d : Vec Ideal S1x1x2048 .f32) (g : Vec Ideal S1x2048 .f32) (r : Fin 512) (k : Fin 2048) :
    k0_pay3 a v b w x d g (ix2 r k) = rms (fun j => k0_pay2 a v b w x d (ix2 r j)) (g (ix2 (0 : Fin 1) k)) k := by
  unfold k0_pay3
  generalize k0_pay2 a v b w x d = y
  pointwise [rms]

/-- An entry of the modulated rows, from the normed ones. -/
theorem modulated_apply (y : Vec Ideal S512x2048 .f32) (s h : Vec Ideal S1x1x2048 .f32) (r : Fin 512) (k : Fin 2048) :
    k0_pay1 y s h (ix2 r k) = y (ix2 r k) * (1 + s (ix3 (0 : Fin 1) (0 : Fin 1) k)) + h (ix3 (0 : Fin 1) (0 : Fin 1) k) := by
  pointwise [k0_pay1]

/-! ## The output blocks -/

section
variable (x0 x1 : Vec Ideal S512x1024 .bf16) (x2 : Vec Ideal S2048x2048 .bf16) (x3 : Vec Ideal S512x2048 .f32) (x4 : Vec Ideal S1x6x2048 .f32)
  (x5 : Vec Ideal S1x2048 .f32)

/-- An entry of the blocks' products: the first half's with the weights' first 1024 rows, the second half's with the others. -/
def productAt (r : Fin 512) (q : Fin 2048) : EReal :=
  (∑ k : Fin 1024, x0 (ix2 r k) * x2 (ix2 (⟨0 + k.val, by omega⟩ : Fin 2048) q))
    + ∑ k : Fin 1024, x1 (ix2 r k) * x2 (ix2 (⟨1024 + k.val, by omega⟩ : Fin 2048) q)

/-- An entry of the summed rows. -/
def summedAt (r : Fin 512) (q : Fin 2048) : EReal := x3 (ix2 r q) + x4 (ix3 (0 : Fin 1) (2 : Fin 6) q) * productAt x0 x1 x2 r q

/-- The summed rows that the block computes. -/
def summedRows : Vec Ideal S512x2048 .f32 := k0_pay2 (View.ld x0 r0_0) (View.ld x2 r0_1) (View.ld x1 r0_0) (View.ld x2 r0_2) (View.ld x3 r0_3) (View.ld x4 r0_4)

/-- A half's product at an entry. -/
theorem dotAt_eq (h : Vec Ideal S512x1024 .bf16) (o : ℕ) (ho : o ≤ 1024) (inb : ∀ a, ![o, 0] a + S1024x2048.size a ≤ S2048x2048.size a) (r : Fin 512)
    (q : Fin 2048) :
    dotAt (View.ld h r0_0) (View.ld x2 (Rect.unit (s := S2048x2048) ![o, 0] S1024x2048.size inb)) r q
      = ∑ k : Fin 1024, h (ix2 r k) * x2 (ix2 (⟨o + k.val, by omega⟩ : Fin 2048) q) :=
  Finset.sum_congr rfl fun k _ => congrArg₂ (fun a b : EReal => a * b) (congrFun (View.ld_unit_zero (by decide) _ h) _)
    ((ld_matrix x2 o 0 inb k q (by omega) (by omega)).trans
      (congrArg (fun t => x2 (ix2 (⟨o + k.val, by omega⟩ : Fin 2048) t)) (Fin.ext (Nat.zero_add _))))

theorem summedRows_apply (r : Fin 512) (q : Fin 2048) : summedRows x0 x1 x2 x3 x4 (ix2 r q) = summedAt x0 x1 x2 x3 x4 r q := by
  refine (summed_apply _ _ _ _ _ _ r q).trans ?_
  exact congrArg₂ (fun a b : EReal => a + b) (congrFun (View.ld_unit_zero (by decide) _ x3) _)
    (congrArg₂ (fun a b : EReal => a * b) (ld_row x4 2 _ q (by decide))
      (congrArg₂ (fun a b : EReal => a + b) (dotAt_eq x2 x0 0 (by decide) inb_S2048x2048_S1024x2048_0_0 r q)
        (dotAt_eq x2 x1 1024 (by decide) inb_S2048x2048_S1024x2048_1024_0 r q)))

/-- The first output's block holds the summed rows. -/
theorem out6_apply (r : Fin 512) (q : Fin 2048) : out0_6 x0 x1 x2 x3 x4 x5 (ix2 r q) = summedAt x0 x1 x2 x3 x4 r q :=
  (congrFun (View.canon_unit_zero (Val := Elt Ideal) (S := S512x2048) (by decide) _ _) _).trans (summedRows_apply x0 x1 x2 x3 x4 r q)

/-- The second output's block holds them normed, scaled and shifted. -/
theorem out7_apply (r : Fin 512) (q : Fin 2048) :
    out0_7 x0 x1 x2 x3 x4 x5 (ix2 r q)
      = modulated (summedAt x0 x1 x2 x3 x4 r) (x5 (ix2 (0 : Fin 1) q)) (x4 (ix3 (0 : Fin 1) (4 : Fin 6) q)) (x4 (ix3 (0 : Fin 1) (3 : Fin 6) q)) q := by
  refine (congrFun (View.canon_unit_zero (Val := Elt Ideal) (S := S512x2048) (by decide) _ _) _).trans ?_
  refine (modulated_apply _ _ _ r q).trans ?_
  refine congrArg₂ (fun a b : EReal => a + b) (congrArg₂ (fun a b : EReal => a * (1 + b)) ?_ (ld_row x4 4 _ q (by decide))) (ld_row x4 3 _ q (by decide))
  refine (normed_apply _ _ _ _ _ _ _ r q).trans ?_
  exact congrArg₂ (fun (y : Fin 2048 → EReal) (v : EReal) => rms y v q) (funext fun j => summedRows_apply x0 x1 x2 x3 x4 r j)
    (congrFun (View.ld_unit_zero (by decide) _ x5) _)

end

end Cert.OutIdeal.Out

end
-- ==== Proof.OutRef.lean ====
/- The output projection's reference, read at an entry. -/
module

public import proofs.«01_k».proof.Proof.Gen.OutReferenceIdeal.Run
public import Idealize.ShloMosaic.Lib.Pipeline.Regions
public import proofs.«01_k».proof.Proof.Norm

@[expose] public section

set_option maxRecDepth 16384

noncomputable section

namespace Cert.OutReferenceIdeal.Out

open Idealize.ShloMosaic Idealize.ShloMosaic.TcCoe Idealize.SL.Sem Cert.OutReferenceIdeal Cert.OutReferenceIdeal.Gen Cert.Norm
open scoped BigOperators

/-- Each row over the root of its mean square, times the weights. -/
def normed (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2
    (Host.rsqrt (addf (Host.divf (broadcastInDim S2x4096x1 ![0, 1] bcast_S2x4096_S2x4096x1_0_1
      (Host.reduceAdd (mulf x x) (constant S_ .f32 0x00000000#32) reducesTo_S2x4096x2048_S2x4096_d2 h_S_))
      (broadcastInDim S2x4096x1 ![] bcast_S_S2x4096x1 (constant S_ .f32 0x45000000#32)))
      (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))

/-- The two halves side by side. -/
def joined (a b : FVec Ideal S2x4096x1024 .f32) : FVec Ideal S2x4096x2048 .f32 :=
  concatenate S2x4096x2048 2 [⟨S2x4096x1024, a⟩, ⟨S2x4096x1024, b⟩] concatenates_S2x4096x1024_S2x4096x1024_S2x4096x2048_d2

/-- The residual rows plus the weighted product. -/
def summed (h : FVec Ideal S2x4096x2048 .f32) (w : FVec Ideal S2048x2048 .f32) (x : FVec Ideal S2x4096x2048 .f32) (d : FVec Ideal S2x6x2048 .f32) :
    FVec Ideal S2x4096x2048 .f32 :=
  addf x (mulf (broadcastInDim S2x4096x2048 ![0, 1, 2] bcast_S2x1x2048_S2x4096x2048_0_1_2 (broadcastInDim S2x1x2048 ![0, 2] bcast_S2x2048_S2x1x2048_0_2
      (shapeCast S2x2048 (extractStridedSlice S2x1x2048 ![0, 2, 0] d slices_S2x6x2048_S2x1x2048_0_2_0) shapeCasts_S2x1x2048_S2x2048)))
    (Host.dotGeneral dot_S2x4096x2048_S2048x2048_S2x4096x2048_2_0_01_1_n_n none h w))

/-- One plus the modulation's fifth row, at every row of its sequence. -/
def scale (d : FVec Ideal S2x6x2048 .f32) : FVec Ideal S2x4096x2048 .f32 :=
  broadcastInDim S2x4096x2048 ![0, 1, 2] bcast_S2x1x2048_S2x4096x2048_0_1_2
    (addf (broadcastInDim S2x1x2048 ![] bcast_S_S2x1x2048 (constant S_ .f32 0x3F800000#32))
      (broadcastInDim S2x1x2048 ![0, 2] bcast_S2x2048_S2x1x2048_0_2
        (shapeCast S2x2048 (extractStridedSlice S2x1x2048 ![0, 4, 0] d slices_S2x6x2048_S2x1x2048_0_4_0) shapeCasts_S2x1x2048_S2x2048)))

/-- The modulation's fourth row, at every row of its sequence. -/
def shift (d : FVec Ideal S2x6x2048 .f32) : FVec Ideal S2x4096x2048 .f32 :=
  broadcastInDim S2x4096x2048 ![0, 1, 2] bcast_S2x1x2048_S2x4096x2048_0_1_2
    (broadcastInDim S2x1x2048 ![0, 2] bcast_S2x2048_S2x1x2048_0_2
      (shapeCast S2x2048 (extractStridedSlice S2x1x2048 ![0, 3, 0] d slices_S2x6x2048_S2x1x2048_0_3_0) shapeCasts_S2x1x2048_S2x2048))

/-- The normed rows, scaled and shifted. -/
def hidden (y : FVec Ideal S2x4096x2048 .f32) (d : FVec Ideal S2x6x2048 .f32) (g : FVec Ideal S2048 .f32) : FVec Ideal S2x4096x2048 .f32 :=
  addf (mulf (normed y g) (scale d)) (shift d)

/-- The first result: the summed rows. -/
def first (a b : FVec Ideal S2x4096x1024 .f32) (w : FVec Ideal S2048x2048 .f32) (x : FVec Ideal S2x4096x2048 .f32) (d : FVec Ideal S2x6x2048 .f32) :
    FVec Ideal S8192x2048 .f32 := shapeCast S8192x2048 (summed (joined a b) w x d) shapeCasts_S2x4096x2048_S8192x2048

/-- The second: the same normed, scaled and shifted. -/
def second (a b : FVec Ideal S2x4096x1024 .f32) (w : FVec Ideal S2048x2048 .f32) (x : FVec Ideal S2x4096x2048 .f32) (d : FVec Ideal S2x6x2048 .f32)
    (g : FVec Ideal S2048 .f32) : FVec Ideal S8192x2048 .bf16 :=
  truncf .bf16 (shapeCast S8192x2048 (hidden (summed (joined a b) w x d) d g) shapeCasts_S2x4096x2048_S8192x2048) bitsLt_bf16_f32

theorem normed_apply (x : FVec Ideal S2x4096x2048 .f32) (g : FVec Ideal S2048 .f32) (b : Fin 2) (s : Fin 4096) (k : Fin 2048) :
    normed x g (ix3 b s k) = rms (fun j => x (ix3 b s j)) (g (ix1 k)) k := by
  pointwise [normed, rms]

/-- An entry of the first half. -/
theorem joined_left (a b : FVec Ideal S2x4096x1024 .f32) (i : Fin 2) (s : Fin 4096) (k : Fin 1024) :
    joined a b (ix3 i s (⟨0 + k.val, by omega⟩ : Fin 2048)) = a (ix3 i s k) := by
  pointwise [joined]

/-- An entry of the second. -/
theorem joined_right (a b : FVec Ideal S2x4096x1024 .f32) (i : Fin 2) (s : Fin 4096) (k : Fin 1024) :
    joined a b (ix3 i s (⟨1024 + k.val, by omega⟩ : Fin 2048)) = b (ix3 i s k) := by
  pointwise [joined]

theorem summed_dot (h : FVec Ideal S2x4096x2048 .f32) (w : FVec Ideal S2048x2048 .f32) (x : FVec Ideal S2x4096x2048 .f32) (d : FVec Ideal S2x6x2048 .f32)
    (b : Fin 2) (s : Fin 4096) (k : Fin 2048) :
    summed h w x d (ix3 b s k) = x (ix3 b s k) + d (ix3 b (2 : Fin 6) k) * ∑ j : Fin 2048, h (ix3 b s j) * w (ix2 j k) := by
  pointwise [summed]

/-- A sum over the joined columns, half by half. -/
theorem sum_halves (f : Fin 2048 → EReal) :
    ∑ k, f k = (∑ k : Fin 1024, f ⟨0 + k.val, by omega⟩) + ∑ k : Fin 1024, f ⟨1024 + k.val, by omega⟩ := by
  have h1 : ∑ k, f k = (∑ k : Fin 1024, f ⟨k.val, by omega⟩) + ∑ k : Fin 1024, f ⟨1024 + k.val, by omega⟩ := Fin.sum_univ_add (a := 1024) (b := 1024) f
  have h2 : (∑ k : Fin 1024, f ⟨k.val, by omega⟩) = ∑ k : Fin 1024, f ⟨0 + k.val, by omega⟩ :=
    Finset.sum_congr rfl fun k _ => congrArg f (Fin.ext (Nat.zero_add _).symm)
  rw [h1, h2]

/-- An entry of the summed rows. -/
theorem summed_apply (a b : FVec Ideal S2x4096x1024 .f32) (w : FVec Ideal S2048x2048 .f32) (x : FVec Ideal S2x4096x2048 .f32) (d : FVec Ideal S2x6x2048 .f32)
    (i : Fin 2) (s : Fin 4096) (q : Fin 2048) :
    summed (joined a b) w x d (ix3 i s q)
      = x (ix3 i s q) + d (ix3 i (2 : Fin 6) q) * ((∑ k : Fin 1024, a (ix3 i s k) * w (ix2 (⟨0 + k.val, by omega⟩ : Fin 2048) q))
          + ∑ k : Fin 1024, b (ix3 i s k) * w (ix2 (⟨1024 + k.val, by omega⟩ : Fin 2048) q)) := by
  refine (summed_dot _ w x d i s q).trans ?_
  refine congrArg (fun t : EReal => x (ix3 i s q) + d (ix3 i (2 : Fin 6) q) * t) ?_
  refine (sum_halves fun j => joined a b (ix3 i s j) * w (ix2 j q)).trans ?_
  exact congrArg₂ (fun u v : EReal => u + v)
    (Finset.sum_congr rfl fun k _ => congrArg (fun t : EReal => t * w (ix2 (⟨0 + k.val, by omega⟩ : Fin 2048) q)) (joined_left a b i s k))
    (Finset.sum_congr rfl fun k _ => congrArg (fun t : EReal => t * w (ix2 (⟨1024 + k.val, by omega⟩ : Fin 2048) q)) (joined_right a b i s k))

/-- An entry of the hidden rows. -/
theorem hidden_apply (y : FVec Ideal S2x4096x2048 .f32) (d : FVec Ideal S2x6x2048 .f32) (g : FVec Ideal S2048 .f32) (b : Fin 2) (s : Fin 4096) (k : Fin 2048) :
    hidden y d g (ix3 b s k) = modulated (fun j => y (ix3 b s j)) (g (ix1 k)) (d (ix3 b (4 : Fin 6) k)) (d (ix3 b (3 : Fin 6) k)) k := by
  have e : hidden y d g (ix3 b s k) = normed y g (ix3 b s k) * (1 + d (ix3 b (4 : Fin 6) k)) + d (ix3 b (3 : Fin 6) k) := by
    pointwise [hidden, scale, shift]
  rw [e, normed_apply]
  rfl

/-- An entry of the first result. -/
theorem first_apply (a b : FVec Ideal S2x4096x1024 .f32) (w : FVec Ideal S2048x2048 .f32) (x : FVec Ideal S2x4096x2048 .f32) (d : FVec Ideal S2x6x2048 .f32)
    (R : Fin 8192) (q : Fin 2048) :
    first a b w x d (ix2 R q)
      = summed (joined a b) w x d (ix3 (⟨R.val / 4096, by omega⟩ : Fin 2) (⟨R.val % 4096, Nat.mod_lt _ (by decide)⟩ : Fin 4096) q) := by
  pointwise [first]

/-- An entry of the second. -/
theorem second_apply (a b : FVec Ideal S2x4096x1024 .f32) (w : FVec Ideal S2048x2048 .f32) (x : FVec Ideal S2x4096x2048 .f32) (d : FVec Ideal S2x6x2048 .f32)
    (g : FVec Ideal S2048 .f32) (R : Fin 8192) (q : Fin 2048) :
    second a b w x d g (ix2 R q)
      = hidden (summed (joined a b) w x d) d g (ix3 (⟨R.val / 4096, by omega⟩ : Fin 2) (⟨R.val % 4096, Nat.mod_lt _ (by decide)⟩ : Fin 4096) q) := by
  pointwise [second]

end Cert.OutReferenceIdeal.Out

end
-- ==== Proof.OutEq.lean ====
/- The output projection's call: its two results are the reference's. -/
module

public import proofs.«01_k».proof.Proof.OutBlock
public import proofs.«01_k».proof.Proof.OutRef

@[expose] public section

set_option maxRecDepth 16384

noncomputable section

namespace Cert.OutIdeal.Out

open Idealize.ShloMosaic Idealize.ShloMosaic.TcCoe Idealize.SL.Sem Cert.OutIdeal Cert.OutIdeal.Gen Cert.Norm
open scoped BigOperators

variable (m : (ℓ : Loc nD τ sig) → Buf (Elt Ideal) ℓ) (c : Dev nD)

/-- The arguments. -/
def a : FVec Ideal S2x4096x1024 .f32 := m ((c.tc : Thread nD τ).loc main_arg0)
def b : FVec Ideal S2x4096x1024 .f32 := m ((c.tc : Thread nD τ).loc main_arg1)
def w : FVec Ideal S2048x2048 .f32 := m ((c.tc : Thread nD τ).loc main_arg2)
def x : FVec Ideal S2x4096x2048 .f32 := m ((c.tc : Thread nD τ).loc main_arg3)
def d : FVec Ideal S2x6x2048 .f32 := m ((c.tc : Thread nD τ).loc main_arg4)
def g : FVec Ideal S2048 .f32 := m ((c.tc : Thread nD τ).loc main_arg5)

/-- What the windows find. -/
def left : FVec Ideal S8192x1024 .bf16 := V m c main_v1
def right : FVec Ideal S8192x1024 .bf16 := V m c main_v3
def wts : FVec Ideal S2048x2048 .bf16 := V m c main_v4
def rows : FVec Ideal S8192x2048 .f32 := V m c main_v5
def mods : FVec Ideal S2x6x2048 .f32 := V m c main_arg4
def gain : FVec Ideal S1x2048 .f32 := V m c main_v6

theorem left_eq : left m c = truncf .bf16 (shapeCast S8192x1024 (a m c) shapeCasts_S2x4096x1024_S8192x1024) bitsLt_bf16_f32 := by chain_rfl
theorem right_eq : right m c = truncf .bf16 (shapeCast S8192x1024 (b m c) shapeCasts_S2x4096x1024_S8192x1024) bitsLt_bf16_f32 := by chain_rfl
theorem wts_eq : wts m c = truncf .bf16 (w m c) bitsLt_bf16_f32 := by chain_rfl
theorem rows_eq : rows m c = shapeCast S8192x2048 (x m c) shapeCasts_S2x4096x2048_S8192x2048 := by chain_rfl
theorem mods_eq : mods m c = d m c := V_main_arg4 m c
theorem gain_eq : gain m c = shapeCast S1x2048 (g m c) shapeCasts_S2048_S1x2048 := by chain_rfl

/-- The batch and the position of a row. -/
def batch (R : Fin 8192) : Fin 2 := ⟨R.val / 4096, by omega⟩
def pos (R : Fin 8192) : Fin 4096 := ⟨R.val % 4096, Nat.mod_lt _ (by decide)⟩

theorem left_apply (R : Fin 8192) (k : Fin 1024) : left m c (ix2 R k) = a m c (ix3 (batch R) (pos R) k) := by
  rw [left_eq]
  pointwise [batch, pos]
theorem right_apply (R : Fin 8192) (k : Fin 1024) : right m c (ix2 R k) = b m c (ix3 (batch R) (pos R) k) := by
  rw [right_eq]
  pointwise [batch, pos]
theorem wts_apply (k q : Fin 2048) : wts m c (ix2 k q) = w m c (ix2 k q) := by
  rw [wts_eq]
  pointwise
theorem rows_apply (R : Fin 8192) (k : Fin 2048) : rows m c (ix2 R k) = x m c (ix3 (batch R) (pos R) k) := by
  rw [rows_eq]
  pointwise [batch, pos]
theorem gain_apply (k : Fin 2048) : gain m c (ix2 (0 : Fin 1) k) = g m c (ix1 k) := by
  rw [gain_eq]
  pointwise

theorem idx : ∀ t : Fin cfg0.N, win0_0.index t = ![t.val, 0] ∧ win0_1.index t = ![t.val, 0] ∧ win0_2.index t = ![0, 0]
    ∧ win0_3.index t = ![t.val, 0] ∧ win0_4.index t = ![t.val / 8, 0, 0] ∧ win0_5.index t = ![0, 0] ∧ win0_6.index t = ![t.val, 0]
    ∧ win0_7.index t = ![t.val, 0] :=
  (by decide +kernel : ∀ t : Fin grid0.N, _)

/-- A row of point `t`. -/
def rowOf (t : Fin cfg0.N) (r : Fin 512) : Fin 8192 := ⟨t.val * 512 + r.val, by have : t.val < 16 := lt_of_lt_of_eq t.isLt N_0; omega⟩
/-- Its batch. -/
def batchOf (t : Fin cfg0.N) : Fin 2 := ⟨t.val / 8, by have : t.val < 16 := lt_of_lt_of_eq t.isLt N_0; omega⟩

theorem batch_rowOf (t : Fin cfg0.N) (r : Fin 512) : batch (rowOf t r) = batchOf t :=
  Fin.ext (by show (t.val * 512 + r.val) / 4096 = t.val / 8; omega)

section
variable (t : Fin cfg0.N)
theorem block_left (r : Fin 512) (k : Fin 1024) : iblk m c 0 t (ix2 r k) = left m c (ix2 (rowOf t r) k) := by
  blk_ext [iblk, left, idx t, rowOf]
theorem block_right (r : Fin 512) (k : Fin 1024) : iblk m c 1 t (ix2 r k) = right m c (ix2 (rowOf t r) k) := by
  blk_ext [iblk, right, idx t, rowOf]
theorem block_wts (k q : Fin 2048) : iblk m c 2 t (ix2 k q) = wts m c (ix2 k q) := by
  blk_ext [iblk, wts, idx t]
theorem block_rows (r : Fin 512) (k : Fin 2048) : iblk m c 3 t (ix2 r k) = rows m c (ix2 (rowOf t r) k) := by
  blk_ext [iblk, rows, idx t, rowOf]
theorem block_mods (j : Fin 6) (k : Fin 2048) : iblk m c 4 t (ix3 (0 : Fin 1) j k) = mods m c (ix3 (batchOf t) j k) := by
  blk_ext [iblk, mods, idx t, batchOf]
theorem block_gain (k : Fin 2048) : iblk m c 5 t (ix2 (0 : Fin 1) k) = gain m c (ix2 (0 : Fin 1) k) := by
  blk_ext [iblk, gain, idx t]
/-- The places of the output blocks' entries. -/
theorem block_out6 (r : Fin 512) (q : Fin 2048) : ((cfg0.win 6).blk t).view.emb (ix2 r q) = ix2 (rowOf t r) q := by
  blk_ext [idx t, rowOf]
theorem block_out7 (r : Fin 512) (q : Fin 2048) : ((cfg0.win 7).blk t).view.emb (ix2 r q) = ix2 (rowOf t r) q := by
  blk_ext [idx t, rowOf]

/-- A row of the modulation, as a point finds it. -/
theorem mod_eq (r : Fin 512) (j : Fin 6) (q : Fin 2048) : iblk m c 4 t (ix3 (0 : Fin 1) j q) = d m c (ix3 (batch (rowOf t r)) j q) :=
  ((block_mods m c t j q).trans (congrFun (mods_eq m c) _)).trans (congrArg (fun i => d m c (ix3 i j q)) (batch_rowOf t r).symm)

/-- A point's summed row is the reference's. -/
theorem summed_eq (r : Fin 512) (q : Fin 2048) :
    summedAt (iblk m c 0 t) (iblk m c 1 t) (iblk m c 2 t) (iblk m c 3 t) (iblk m c 4 t) r q
      = Cert.OutReferenceIdeal.Out.summed (Cert.OutReferenceIdeal.Out.joined (a m c) (b m c)) (w m c) (x m c) (d m c)
          (ix3 (batch (rowOf t r)) (pos (rowOf t r)) q) := by
  refine Eq.trans ?_ (Cert.OutReferenceIdeal.Out.summed_apply _ _ _ _ _ _ _ _).symm
  exact congrArg₂ (fun u v : EReal => u + v) ((block_rows m c t r q).trans (rows_apply m c _ q))
    (congrArg₂ (fun u v : EReal => u * v) (mod_eq m c t r 2 q)
      (congrArg₂ (fun u v : EReal => u + v)
        (Finset.sum_congr rfl fun k _ => congrArg₂ (fun u v : EReal => u * v) ((block_left m c t r k).trans (left_apply m c _ k))
          ((block_wts m c t _ q).trans (wts_apply m c _ q)))
        (Finset.sum_congr rfl fun k _ => congrArg₂ (fun u v : EReal => u * v) ((block_right m c t r k).trans (right_apply m c _ k))
          ((block_wts m c t _ q).trans (wts_apply m c _ q)))))

theorem modulated_congr {x y : Fin 2048 → EReal} {g g' s s' h h' : EReal} (k : Fin 2048) (hx : ∀ j, x j = y j) (hg : g = g') (hs : s = s') (hh : h = h') :
    modulated x g s h k = modulated y g' s' h' k := by
  obtain rfl : x = y := funext hx
  subst hg hs hh; rfl

end

/-- The reference's results, of the kernel's arguments. -/
def first : FVec Ideal S8192x2048 .f32 := Cert.OutReferenceIdeal.Out.first (a m c) (b m c) (w m c) (x m c) (d m c)
def second : FVec Ideal S8192x2048 .bf16 := Cert.OutReferenceIdeal.Out.second (a m c) (b m c) (w m c) (x m c) (d m c) (g m c)

/-- The call's first result is the reference's. -/
theorem final6 : (dats m 0 c).arrAt 6 cfg0.N = first m c := by
  refine (dats m 0 c).arrAt_eq_of_covers 6 _ (by decide +kernel) fun t _ y => ?_
  refine (congrFun (after0_6 m c t) y).trans ?_
  obtain ⟨r, q, rfl⟩ : ∃ (r : Fin 512) (q : Fin 2048), y = ix2 r q := ⟨y 0, y 1, eq_ix2 y⟩
  refine (out6_apply _ _ _ _ _ _ _ _).trans ?_
  refine (summed_eq m c t r q).trans ?_
  refine Eq.trans ?_ (congrArg (first m c) (block_out6 t r q)).symm
  exact (Cert.OutReferenceIdeal.Out.first_apply _ _ _ _ _ _ _).symm

/-- The call's second result is the reference's. -/
theorem final7 : (dats m 0 c).arrAt 7 cfg0.N = second m c := by
  refine (dats m 0 c).arrAt_eq_of_covers 7 _ (by decide +kernel) fun t _ y => ?_
  refine (congrFun (after0_7 m c t) y).trans ?_
  obtain ⟨r, q, rfl⟩ : ∃ (r : Fin 512) (q : Fin 2048), y = ix2 r q := ⟨y 0, y 1, eq_ix2 y⟩
  refine (out7_apply _ _ _ _ _ _ _ _).trans ?_
  refine Eq.trans ?_ (congrArg (second m c) (block_out7 t r q)).symm
  refine Eq.trans ?_ (Cert.OutReferenceIdeal.Out.second_apply _ _ _ _ _ _ _ _).symm
  refine Eq.trans ?_ (Cert.OutReferenceIdeal.Out.hidden_apply _ _ _ _ _ _).symm
  exact modulated_congr q (fun j => summed_eq m c t r j) ((block_gain m c t q).trans (gain_apply m c q)) (mod_eq m c t r 4 q) (mod_eq m c t r 3 q)

end Cert.OutIdeal.Out

end
-- ==== Proof.DownBlock.lean ====
/- What one block of the down-projection computes: the gated rows times the weights, weighted and added to the residual rows, each row
   then divided by the root of its mean square. -/
module

public import proofs.«01_k».proof.Proof.Gen.DownIdeal.Value
public import proofs.«01_k».proof.Proof.Norm

@[expose] public section

set_option maxRecDepth 16384

noncomputable section

namespace Cert.DownIdeal.Down

open Idealize.ShloMosaic Idealize.ShloMosaic.TcCoe Idealize.SL.Sem Cert.DownIdeal Cert.DownIdeal.Gen Cert.Norm
open scoped BigOperators

/-- An entry of a product. -/
def dotAt {M K : ℕ} (h : Vec Ideal ⟨2, ![M, K]⟩ .bf16) (w : Vec Ideal ⟨2, ![K, 2048]⟩ .bf16) (r : Fin M) (q : Fin 2048) : EReal :=
  ∑ k : Fin K, h (ix2 r k) * w (ix2 k q)

/-- An entry of the block, from the product `y`. -/
def finish (x d g : Fin 2048 → EReal) (y : Fin 2048 → EReal) (k : Fin 2048) : EReal := rms (fun j => x j + d j * y j) (g k) k

theorem finish_congr {x x' d d' g g' y y' : Fin 2048 → EReal} (k : Fin 2048) (hx : ∀ j, x j = x' j) (hd : ∀ j, d j = d' j) (hg : ∀ j, g j = g' j)
    (hy : ∀ j, y j = y' j) : finish x d g y k = finish x' d' g' y' k := by
  obtain rfl : x = x' := funext hx
  obtain rfl : d = d' := funext hd
  obtain rfl : g = g' := funext hg
  obtain rfl : y = y' := funext hy
  rfl

/-! ## The stored values -/

/-- A later point's block. -/
theorem whole_apply (h : Vec Ideal S512x5632 .bf16) (w : Vec Ideal S5632x2048 .bf16) (x : Vec Ideal S512x2048 .f32) (d : Vec Ideal S1x1x2048 .f32)
    (g : Vec Ideal S1x2048 .f32) (r : Fin 512) (k : Fin 2048) :
    k0_pay2 h w x d g (ix2 r k)
      = finish (fun j => x (ix2 r j)) (fun j => d (ix3 (0 : Fin 1) (0 : Fin 1) j)) (fun j => g (ix2 (0 : Fin 1) j)) (dotAt h w r) k := by
  pointwise [k0_pay2, finish, rms, dotAt]

/-- The first half's block of the first point, from its product. -/
theorem upper_apply (y x : Vec Ideal S256x2048 .f32) (d : Vec Ideal S1x1x2048 .f32) (g : Vec Ideal S1x2048 .f32) (r : Fin 256) (k : Fin 2048) :
    k0_pay5 y x d g (ix2 r k)
      = finish (fun j => x (ix2 r j)) (fun j => d (ix3 (0 : Fin 1) (0 : Fin 1) j)) (fun j => g (ix2 (0 : Fin 1) j)) (fun j => y (ix2 r j)) k := by
  pointwise [k0_pay5, finish, rms]

/-- Its product, in four parts. -/
theorem upper_dot (a0 a1 a2 a3 : Vec Ideal S256x1408 .bf16) (w0 w1 w2 w3 : Vec Ideal S1408x2048 .bf16) (r : Fin 256) (q : Fin 2048) :
    k0_pay4 (k0_pay3 a0 w0) a1 w1 a2 w2 a3 w3 (ix2 r q) = dotAt a0 w0 r q + dotAt a1 w1 r q + dotAt a2 w2 r q + dotAt a3 w3 r q := by
  pointwise [k0_pay4, k0_pay3, dotAt]

/-- The second half's block of the first point, with its product in four parts. -/
theorem lower_apply (a0 a1 a2 a3 : Vec Ideal S256x1408 .bf16) (w0 w1 w2 w3 : Vec Ideal S1408x2048 .bf16) (x : Vec Ideal S256x2048 .f32)
    (d : Vec Ideal S1x1x2048 .f32) (g : Vec Ideal S1x2048 .f32) (r : Fin 256) (k : Fin 2048) :
    k0_pay1 (k0_pay6 a0 w0 a1 w1) (k0_pay7 a2) w2 a3 w3 x d g (ix2 r k)
      = finish (fun j => x (ix2 r j)) (fun j => d (ix3 (0 : Fin 1) (0 : Fin 1) j)) (fun j => g (ix2 (0 : Fin 1) j))
          (fun j => dotAt a0 w0 r j + dotAt a1 w1 r j + dotAt a2 w2 r j + dotAt a3 w3 r j) k := by
  pointwise [k0_pay1, k0_pay6, k0_pay7, finish, rms, dotAt]

/-! ## The four parts of a product -/

/-- A sum over the columns, in four parts. -/
theorem sum_parts (f : Fin 5632 → EReal) :
    ∑ k, f k = (∑ k : Fin 1408, f ⟨0 + k.val, by omega⟩) + (∑ k : Fin 1408, f ⟨1408 + k.val, by omega⟩) + (∑ k : Fin 1408, f ⟨2816 + k.val, by omega⟩)
      + ∑ k : Fin 1408, f ⟨4224 + k.val, by omega⟩ := by
  have h1 : ∑ k, f k = (∑ k : Fin 4224, f ⟨k.val, by omega⟩) + ∑ k : Fin 1408, f ⟨4224 + k.val, by omega⟩ := Fin.sum_univ_add (a := 4224) (b := 1408) f
  have h2 : (∑ k : Fin 4224, f ⟨k.val, by omega⟩) = (∑ k : Fin 2816, f ⟨k.val, by omega⟩) + ∑ k : Fin 1408, f ⟨2816 + k.val, by omega⟩ :=
    Fin.sum_univ_add (a := 2816) (b := 1408) fun k : Fin 4224 => f ⟨k.val, by omega⟩
  have h3 : (∑ k : Fin 2816, f ⟨k.val, by omega⟩) = (∑ k : Fin 1408, f ⟨k.val, by omega⟩) + ∑ k : Fin 1408, f ⟨1408 + k.val, by omega⟩ :=
    Fin.sum_univ_add (a := 1408) (b := 1408) fun k : Fin 2816 => f ⟨k.val, by omega⟩
  have h4 : (∑ k : Fin 1408, f ⟨k.val, by omega⟩) = ∑ k : Fin 1408, f ⟨0 + k.val, by omega⟩ :=
    Finset.sum_congr rfl fun k _ => congrArg f (Fin.ext (Nat.zero_add _).symm)
  rw [h1, h2, h3, h4]

end Cert.DownIdeal.Down

end
-- ==== Proof.DownRuns.lean ====
/- What a grid point of the down-projection leaves. The first point copies the weights in four pieces and computes its rows in two
   halves; every other point finds the weights as the point before left them. -/
module

public import proofs.«01_k».proof.Proof.DownBlock
public import Idealize.ShloMosaic.Lib.Pipeline.Regions

@[expose] public section

set_option maxRecDepth 16384

noncomputable section

namespace Cert.DownIdeal.Down

open Idealize.ShloMosaic Idealize.ShloMosaic.TcCoe Idealize.SL.Sem Cert.DownIdeal Cert.DownIdeal.Gen Cert.Norm
open scoped BigOperators

/-! ## The loads -/

section
variable (arg1 : Memref sig .tc .vmem S512x5632 .bf16) (harg1 : arg1.IsWhole) (arg3 : Memref sig .tc .vmem S512x2048 .f32) (harg3 : arg3.IsWhole)
    (arg4 : Memref sig .tc .vmem S1x6x2048 .f32) (harg4 : arg4.IsWhole) (arg5 : Memref sig .tc .vmem S1x2048 .f32) (harg5 : arg5.IsWhole)
    (arg7 : Memref sig .tc .vmem S5632x2048 .bf16) (harg7 : arg7.IsWhole)
    (x0 : Vec Ideal S512x5632 .bf16) (x1 : Vec Ideal S512x2048 .f32) (x2 : Vec Ideal S1x6x2048 .f32) (x3 : Vec Ideal S1x2048 .f32)
    (xs0 : Vec Ideal S5632x2048 .bf16) (w : FVec Ideal S5632x2048 .bf16)

/-- A part of the gated rows. -/
def rdH (o p : ℕ) (inb : ∀ a, ![o, p] a + S256x1408.size a ≤ S512x5632.size a) : Vec Ideal S256x1408 .bf16 :=
  View.readAt (Elt Ideal) arg1.view (Rect.unit (s := S512x5632) ![o, p] S256x1408.size inb).toLoadRect (harg1.unread x0)
/-- All of them. -/
def rdHs : Vec Ideal S512x5632 .bf16 :=
  View.readAt (Elt Ideal) arg1.view (Rect.unit (s := S512x5632) ![0, 0] S512x5632.size inb_S512x5632_S512x5632_0_0).toLoadRect (harg1.unread x0)
/-- Half of the residual rows. -/
def rdX (o : ℕ) (inb : ∀ a, ![o, 0] a + S256x2048.size a ≤ S512x2048.size a) : Vec Ideal S256x2048 .f32 :=
  View.readAt (Elt Ideal) arg3.view (Rect.unit (s := S512x2048) ![o, 0] S256x2048.size inb).toLoadRect (harg3.unread x1)
/-- All of them. -/
def rdXs : Vec Ideal S512x2048 .f32 :=
  View.readAt (Elt Ideal) arg3.view (Rect.unit (s := S512x2048) ![0, 0] S512x2048.size inb_S512x2048_S512x2048_0_0).toLoadRect (harg3.unread x1)
/-- The modulation's last row. -/
def rdD : Vec Ideal S1x1x2048 .f32 :=
  View.readAt (Elt Ideal) arg4.view (Rect.unit (s := S1x6x2048) ![0, 5, 0] S1x1x2048.size inb_S1x6x2048_S1x1x2048_0_5_0).toLoadRect (harg4.unread x2)
/-- The norm's weights. -/
def rdG : Vec Ideal S1x2048 .f32 :=
  View.readAt (Elt Ideal) arg5.view (Rect.unit (s := S1x2048) ![0, 0] S1x2048.size inb_S1x2048_S1x2048_0_0).toLoadRect (harg5.unread x3)
/-- The weights the point before left. -/
def rdW : Vec Ideal S5632x2048 .bf16 :=
  View.readAt (Elt Ideal) arg7.view (Rect.unit (s := S5632x2048) ![0, 0] S5632x2048.size inb_S5632x2048_S5632x2048_0_0).toLoadRect (harg7.unread xs0)

/-- A copied piece of the weights. -/
def chunk (o : ℕ) (inb : ∀ a, ![o, 0] a + S1408x2048.size a ≤ S5632x2048.size a) : Vec Ideal S1408x2048 .bf16 :=
  ReadAs.same.apply (View.read (Elt Ideal) ((Memref.whole main_v2).slice (Rect.unit (s := S5632x2048) ![o, 0] S1408x2048.size inb) (fun _ => rfl)).view w)

/-- The four pieces, last first. -/
def chunks : List (View.Piece (Elt Ideal) S5632x2048 .bf16) :=
  [⟨Rect.unit (s := S5632x2048) ![4224, 0] S1408x2048.size inb_S5632x2048_S1408x2048_4224_0, chunk w 4224 inb_S5632x2048_S1408x2048_4224_0⟩,
    ⟨Rect.unit (s := S5632x2048) ![2816, 0] S1408x2048.size inb_S5632x2048_S1408x2048_2816_0, chunk w 2816 inb_S5632x2048_S1408x2048_2816_0⟩,
    ⟨Rect.unit (s := S5632x2048) ![1408, 0] S1408x2048.size inb_S5632x2048_S1408x2048_1408_0, chunk w 1408 inb_S5632x2048_S1408x2048_1408_0⟩,
    ⟨Rect.unit (s := S5632x2048) ![0, 0] S1408x2048.size inb_S5632x2048_S1408x2048_0_0, chunk w 0 inb_S5632x2048_S1408x2048_0_0⟩]

/-- A piece read back after the copies. -/
def rdC (o : ℕ) (inb : ∀ a, ![o, 0] a + S1408x2048.size a ≤ S5632x2048.size a) : Vec Ideal S1408x2048 .bf16 :=
  arg7.view.readCov (chunks w) (Rect.unit (s := S5632x2048) ![o, 0] S1408x2048.size inb).toLoadRect

theorem rdH_apply (o p : ℕ) (inb : ∀ a, ![o, p] a + S256x1408.size a ≤ S512x5632.size a) (ho : o ≤ 256) (hp : p ≤ 4224) (r : Fin 256) (k : Fin 1408) :
    rdH arg1 harg1 x0 o p inb (ix2 r k) = x0 (ix2 (⟨o + r.val, by omega⟩ : Fin 512) (⟨p + k.val, by omega⟩ : Fin 5632)) := by
  have e : rdH arg1 harg1 x0 o p inb = View.ld (arg1.view.read (Elt Ideal) (harg1.unread x0)) (Rect.unit (s := S512x5632) ![o, p] S256x1408.size inb) := rfl
  rw [e, Memref.IsWhole.read_unread]
  exact ld_matrix x0 o p inb r k _ _
theorem rdHs_eq : rdHs arg1 harg1 x0 = x0 := by
  have e : rdHs arg1 harg1 x0 = View.ld (arg1.view.read (Elt Ideal) (harg1.unread x0)) (Rect.unit (s := S512x5632) ![0, 0] S512x5632.size inb_S512x5632_S512x5632_0_0) := rfl
  rw [e, Memref.IsWhole.read_unread]
  exact View.ld_unit_zero (by decide) _ x0
theorem rdX_apply (o : ℕ) (inb : ∀ a, ![o, 0] a + S256x2048.size a ≤ S512x2048.size a) (ho : o ≤ 256) (r : Fin 256) (k : Fin 2048) :
    rdX arg3 harg3 x1 o inb (ix2 r k) = x1 (ix2 (⟨o + r.val, by omega⟩ : Fin 512) k) := by
  have e : rdX arg3 harg3 x1 o inb = View.ld (arg3.view.read (Elt Ideal) (harg3.unread x1)) (Rect.unit (s := S512x2048) ![o, 0] S256x2048.size inb) := rfl
  rw [e, Memref.IsWhole.read_unread]
  exact (ld_matrix x1 o 0 inb r k (by omega) (by omega)).trans
    (congrArg (fun t => x1 (ix2 (⟨o + r.val, by omega⟩ : Fin 512) t)) (Fin.ext (Nat.zero_add _)))
theorem rdXs_eq : rdXs arg3 harg3 x1 = x1 := by
  have e : rdXs arg3 harg3 x1 = View.ld (arg3.view.read (Elt Ideal) (harg3.unread x1)) (Rect.unit (s := S512x2048) ![0, 0] S512x2048.size inb_S512x2048_S512x2048_0_0) := rfl
  rw [e, Memref.IsWhole.read_unread]
  exact View.ld_unit_zero (by decide) _ x1
theorem rdD_apply (k : Fin 2048) : rdD arg4 harg4 x2 (ix3 (0 : Fin 1) (0 : Fin 1) k) = x2 (ix3 (0 : Fin 1) (5 : Fin 6) k) := by
  have e : rdD arg4 harg4 x2 = View.ld (arg4.view.read (Elt Ideal) (harg4.unread x2)) (Rect.unit (s := S1x6x2048) ![0, 5, 0] S1x1x2048.size inb_S1x6x2048_S1x1x2048_0_5_0) := rfl
  rw [e, Memref.IsWhole.read_unread]
  exact ld_row x2 5 _ k (by decide)
theorem rdG_eq : rdG arg5 harg5 x3 = x3 := by
  have e : rdG arg5 harg5 x3 = View.ld (arg5.view.read (Elt Ideal) (harg5.unread x3)) (Rect.unit (s := S1x2048) ![0, 0] S1x2048.size inb_S1x2048_S1x2048_0_0) := rfl
  rw [e, Memref.IsWhole.read_unread]
  exact View.ld_unit_zero (by decide) _ x3
theorem rdW_eq : rdW arg7 harg7 xs0 = xs0 := by
  have e : rdW arg7 harg7 xs0 = View.ld (arg7.view.read (Elt Ideal) (harg7.unread xs0)) (Rect.unit (s := S5632x2048) ![0, 0] S5632x2048.size inb_S5632x2048_S5632x2048_0_0) := rfl
  rw [e, Memref.IsWhole.read_unread]
  exact View.ld_unit_zero (by decide) _ xs0

/-! ## The copied weights -/

/-- A copied piece holds the weights at its place. -/
theorem chunk_apply (o : ℕ) (inb : ∀ a, ![o, 0] a + S1408x2048.size a ≤ S5632x2048.size a) (x : (Rect.unit (s := S5632x2048) ![o, 0] S1408x2048.size inb).shape.Idx) :
    chunk w o inb x = w ((Rect.unit (s := S5632x2048) ![o, 0] S1408x2048.size inb).emb x) := by
  rfl

/-- Each of the four pieces does. -/
theorem chunks_apply : ∀ p ∈ chunks w, ∀ x, p.2 x = w (p.1.emb x) :=
  List.forall_mem_cons.2 ⟨chunk_apply w 4224 inb_S5632x2048_S1408x2048_4224_0,
    List.forall_mem_cons.2 ⟨chunk_apply w 2816 inb_S5632x2048_S1408x2048_2816_0,
      List.forall_mem_cons.2 ⟨chunk_apply w 1408 inb_S5632x2048_S1408x2048_1408_0,
        List.forall_mem_cons.2 ⟨chunk_apply w 0 inb_S5632x2048_S1408x2048_0_0, fun _ h => absurd h List.not_mem_nil⟩⟩⟩⟩

/-- They cover them. -/
theorem chunks_cover (y : S5632x2048.Idx) : ∃ pc ∈ chunks w, y ∈ pc.1.set :=
  View.cover_of_tiledL (chunks w) S1408x2048.size (by rfl) y

/-- So they make the weights. -/
theorem canon_chunks : View.canon (Val := Elt Ideal) (chunks w) = w :=
  funext fun y => View.canon_apply_of_pieces (Val := Elt Ideal) (e := .bf16) w _ (chunks_apply w) y (chunks_cover w y)

theorem rdC_apply (o : ℕ) (inb : ∀ a, ![o, 0] a + S1408x2048.size a ≤ S5632x2048.size a) (ho : o ≤ 4224) (k : Fin 1408) (q : Fin 2048) :
    rdC arg7 w o inb (ix2 k q) = w (ix2 (⟨o + k.val, by omega⟩ : Fin 5632) q) := by
  have e : rdC arg7 w o inb = fun j => View.canon (Val := Elt Ideal) (chunks w) ((Rect.unit (s := S5632x2048) ![o, 0] S1408x2048.size inb).toLoadRect.idx j) :=
    View.readCov_eq_canon' (Val := Elt Ideal) arg7.view (chunks w) _
  rw [e, canon_chunks]
  exact (ld_matrix (e := .bf16) w o 0 inb k q (by omega) (by omega)).trans
    (congrArg (fun t => w (ix2 (⟨o + k.val, by omega⟩ : Fin 5632) t)) (Fin.ext (Nat.zero_add _)))

/-! ## The points -/

/-- An entry of a point's block. -/
def blockAt (r : Fin 512) (k : Fin 2048) : EReal :=
  finish (fun j => x1 (ix2 r j)) (fun j => x2 (ix3 (0 : Fin 1) (5 : Fin 6) j)) (fun j => x3 (ix2 (0 : Fin 1) j)) (dotAt x0 w r) k

/-- A stored half holds the entries at its place. -/
theorem half (o : ℕ) (ho : o ≤ 256) (inb : ∀ a, ![o, 0] a + S256x2048.size a ≤ S512x2048.size a) (v : Vec Ideal S256x2048 .f32)
    (hv : ∀ r k, v (ix2 r k) = blockAt x0 x1 x2 x3 w (⟨o + r.val, by omega⟩ : Fin 512) k)
    (x : (Rect.unit (s := S512x2048) ![o, 0] S256x2048.size inb).shape.Idx) :
    v x = (fun y : S512x2048.Idx => blockAt x0 x1 x2 x3 w (y 0) (y 1)) ((Rect.unit (s := S512x2048) ![o, 0] S256x2048.size inb).emb x) := by
  obtain ⟨r, k, rfl⟩ : ∃ (r : Fin 256) (k : Fin 2048), x = ix2 r k := ⟨x 0, x 1, eq_ix2 x⟩
  refine (hv r k).trans ?_
  refine Eq.trans ?_ (congrArg (fun y : S512x2048.Idx => blockAt x0 x1 x2 x3 w (y 0) (y 1)) (emb_matrix o 0 inb r k (by omega) (by omega))).symm
  exact congrArg (blockAt x0 x1 x2 x3 w _) (Fin.ext (Nat.zero_add _).symm)

/-- The four parts of a half's product. -/
def parts (o : ℕ) (i0 : ∀ a, ![o, 0] a + S256x1408.size a ≤ S512x5632.size a) (i1 : ∀ a, ![o, 1408] a + S256x1408.size a ≤ S512x5632.size a)
    (i2 : ∀ a, ![o, 2816] a + S256x1408.size a ≤ S512x5632.size a) (i3 : ∀ a, ![o, 4224] a + S256x1408.size a ≤ S512x5632.size a) (r : Fin 256) (q : Fin 2048) : EReal :=
  dotAt (rdH arg1 harg1 x0 o 0 i0) (rdC arg7 w 0 inb_S5632x2048_S1408x2048_0_0) r q
    + dotAt (rdH arg1 harg1 x0 o 1408 i1) (rdC arg7 w 1408 inb_S5632x2048_S1408x2048_1408_0) r q
    + dotAt (rdH arg1 harg1 x0 o 2816 i2) (rdC arg7 w 2816 inb_S5632x2048_S1408x2048_2816_0) r q
    + dotAt (rdH arg1 harg1 x0 o 4224 i3) (rdC arg7 w 4224 inb_S5632x2048_S1408x2048_4224_0) r q

/-- They make the product. -/
theorem parts_eq (o : ℕ) (ho : o ≤ 256) (i0 i1 i2 i3) (r : Fin 256) (q : Fin 2048) :
    parts arg1 harg1 arg7 x0 w o i0 i1 i2 i3 r q = dotAt x0 w (⟨o + r.val, by omega⟩ : Fin 512) q := by
  have part : ∀ p (hp : p ≤ 4224) (i : ∀ a, ![o, p] a + S256x1408.size a ≤ S512x5632.size a) (j : ∀ a, ![p, 0] a + S1408x2048.size a ≤ S5632x2048.size a),
      dotAt (rdH arg1 harg1 x0 o p i) (rdC arg7 w p j) r q
        = ∑ k : Fin 1408, x0 (ix2 (⟨o + r.val, by omega⟩ : Fin 512) (⟨p + k.val, by omega⟩ : Fin 5632)) * w (ix2 (⟨p + k.val, by omega⟩ : Fin 5632) q) :=
    fun p hp i j => Finset.sum_congr rfl fun k _ => congrArg₂ (fun a b : EReal => a * b) (rdH_apply arg1 harg1 x0 o p i ho hp r k) (rdC_apply arg7 w p j hp k q)
  unfold parts
  rw [part 0 (by decide), part 1408 (by decide), part 2816 (by decide), part 4224 (by decide)]
  exact (sum_parts fun k => x0 (ix2 (⟨o + r.val, by omega⟩ : Fin 512) k) * w (ix2 k q)).symm

/-- A half computed from its loads is the block's. -/
theorem half_eq (o : ℕ) (ho : o ≤ 256) (i0 i1 i2 i3) (j : ∀ a, ![o, 0] a + S256x2048.size a ≤ S512x2048.size a) (r : Fin 256) (k : Fin 2048) :
    finish (fun q => rdX arg3 harg3 x1 o j (ix2 r q)) (fun q => rdD arg4 harg4 x2 (ix3 (0 : Fin 1) (0 : Fin 1) q)) (fun q => rdG arg5 harg5 x3 (ix2 (0 : Fin 1) q))
        (parts arg1 harg1 arg7 x0 w o i0 i1 i2 i3 r) k
      = blockAt x0 x1 x2 x3 w (⟨o + r.val, by omega⟩ : Fin 512) k :=
  finish_congr k (fun q => rdX_apply arg3 harg3 x1 o j ho r q) (rdD_apply arg4 harg4 x2) (fun q => congrFun (rdG_eq arg5 harg5 x3) _)
    (parts_eq arg1 harg1 arg7 x0 w o ho i0 i1 i2 i3 r)

/-- The first half's stored value. -/
def upper : Vec Ideal S256x2048 .f32 :=
  k0_pay5 (F := Ideal) (k0_pay4 (k0_pay3 (rdH arg1 harg1 x0 0 0 inb_S512x5632_S256x1408_0_0) (rdC arg7 w 0 inb_S5632x2048_S1408x2048_0_0))
      (rdH arg1 harg1 x0 0 1408 inb_S512x5632_S256x1408_0_1408) (rdC arg7 w 1408 inb_S5632x2048_S1408x2048_1408_0)
      (rdH arg1 harg1 x0 0 2816 inb_S512x5632_S256x1408_0_2816) (rdC arg7 w 2816 inb_S5632x2048_S1408x2048_2816_0)
      (rdH arg1 harg1 x0 0 4224 inb_S512x5632_S256x1408_0_4224) (rdC arg7 w 4224 inb_S5632x2048_S1408x2048_4224_0))
    (rdX arg3 harg3 x1 0 inb_S512x2048_S256x2048_0_0) (rdD arg4 harg4 x2) (rdG arg5 harg5 x3)

/-- The second half's. -/
def lower : Vec Ideal S256x2048 .f32 :=
  k0_pay1 (F := Ideal) (k0_pay6 (rdH arg1 harg1 x0 256 0 inb_S512x5632_S256x1408_256_0) (rdC arg7 w 0 inb_S5632x2048_S1408x2048_0_0)
      (rdH arg1 harg1 x0 256 1408 inb_S512x5632_S256x1408_256_1408) (rdC arg7 w 1408 inb_S5632x2048_S1408x2048_1408_0))
    (k0_pay7 (rdH arg1 harg1 x0 256 2816 inb_S512x5632_S256x1408_256_2816)) (rdC arg7 w 2816 inb_S5632x2048_S1408x2048_2816_0)
    (rdH arg1 harg1 x0 256 4224 inb_S512x5632_S256x1408_256_4224) (rdC arg7 w 4224 inb_S5632x2048_S1408x2048_4224_0)
    (rdX arg3 harg3 x1 256 inb_S512x2048_S256x2048_256_0) (rdD arg4 harg4 x2) (rdG arg5 harg5 x3)

theorem upper_eq (r : Fin 256) (k : Fin 2048) :
    upper arg1 harg1 arg3 harg3 arg4 harg4 arg5 harg5 arg7 x0 x1 x2 x3 w (ix2 r k) = blockAt x0 x1 x2 x3 w (⟨0 + r.val, by omega⟩ : Fin 512) k := by
  refine (upper_apply _ _ _ _ r k).trans ?_
  refine (finish_congr k (fun _ => rfl) (fun _ => rfl) (fun _ => rfl) fun q => upper_dot _ _ _ _ _ _ _ _ r q).trans ?_
  exact half_eq arg1 harg1 arg3 harg3 arg4 harg4 arg5 harg5 arg7 x0 x1 x2 x3 w 0 (by decide) _ _ _ _ _ r k

theorem lower_eq (r : Fin 256) (k : Fin 2048) :
    lower arg1 harg1 arg3 harg3 arg4 harg4 arg5 harg5 arg7 x0 x1 x2 x3 w (ix2 r k) = blockAt x0 x1 x2 x3 w (⟨256 + r.val, by omega⟩ : Fin 512) k := by
  refine (lower_apply _ _ _ _ _ _ _ _ _ _ _ r k).trans ?_
  exact half_eq arg1 harg1 arg3 harg3 arg4 harg4 arg5 harg5 arg7 x0 x1 x2 x3 w 256 (by decide) _ _ _ _ _ r k

/-- The two stored halves, last first. -/
def halves : List (View.Piece (Elt Ideal) S512x2048 .f32) :=
  [⟨Rect.unit (s := S512x2048) ![256, 0] S256x2048.size inb_S512x2048_S256x2048_256_0, lower arg1 harg1 arg3 harg3 arg4 harg4 arg5 harg5 arg7 x0 x1 x2 x3 w⟩,
    ⟨Rect.unit (s := S512x2048) ![0, 0] S256x2048.size inb_S512x2048_S256x2048_0_0, upper arg1 harg1 arg3 harg3 arg4 harg4 arg5 harg5 arg7 x0 x1 x2 x3 w⟩]

theorem halves_apply : ∀ p ∈ halves arg1 harg1 arg3 harg3 arg4 harg4 arg5 harg5 arg7 x0 x1 x2 x3 w, ∀ x,
    p.2 x = (fun y : S512x2048.Idx => blockAt x0 x1 x2 x3 w (y 0) (y 1)) (p.1.emb x) :=
  List.forall_mem_cons.2 ⟨half x0 x1 x2 x3 w 256 (by decide) inb_S512x2048_S256x2048_256_0 _ (lower_eq arg1 harg1 arg3 harg3 arg4 harg4 arg5 harg5 arg7 x0 x1 x2 x3 w),
    List.forall_mem_cons.2 ⟨half x0 x1 x2 x3 w 0 (by decide) inb_S512x2048_S256x2048_0_0 _ (upper_eq arg1 harg1 arg3 harg3 arg4 harg4 arg5 harg5 arg7 x0 x1 x2 x3 w),
      fun _ h => absurd h List.not_mem_nil⟩⟩

end

section
variable (c : Dev nD) (i : grid0.Coords) (arg1 : Memref sig .tc .vmem S512x5632 .bf16) (harg1 : arg1.IsWhole) (arg3 : Memref sig .tc .vmem S512x2048 .f32) (harg3 : arg3.IsWhole)
    (arg4 : Memref sig .tc .vmem S1x6x2048 .f32) (harg4 : arg4.IsWhole) (arg5 : Memref sig .tc .vmem S1x2048 .f32) (harg5 : arg5.IsWhole)
    (arg6 : Memref sig .tc .vmem S512x2048 .f32) (harg6 : arg6.IsWhole) (arg7 : Memref sig .tc .vmem S5632x2048 .bf16) (harg7 : arg7.IsWhole)
    (x0 : Vec Ideal S512x5632 .bf16) (x1 : Vec Ideal S512x2048 .f32) (x2 : Vec Ideal S1x6x2048 .f32) (x3 : Vec Ideal S1x2048 .f32)
    (xs0 : Vec Ideal S5632x2048 .bf16) (w : FVec Ideal S5632x2048 .bf16)

/-- The block the first point leaves. -/
theorem out_A (hc0 : cond0_0 i) (hc1 : ¬cond0_1 i) (y : S512x2048.Idx) :
    out0_A_4 c i arg1 harg1 arg3 harg3 arg4 harg4 arg5 harg5 arg6 harg6 arg7 harg7 hc0 hc1 x0 x1 x2 x3 w y = blockAt x0 x1 x2 x3 w (y 0) (y 1) := by
  have k : (kernelRun0_A c i arg1 harg1 arg3 harg3 arg4 harg4 arg5 harg5 arg6 harg6 arg7 harg7 hc0 hc1 x0 x1 x2 x3 w).1
      = halves arg1 harg1 arg3 harg3 arg4 harg4 arg5 harg5 arg7 x0 x1 x2 x3 w := by
    chain_rfl
  have e : out0_A_4 c i arg1 harg1 arg3 harg3 arg4 harg4 arg5 harg5 arg6 harg6 arg7 harg7 hc0 hc1 x0 x1 x2 x3 w = View.canon (Val := Elt Ideal) _ :=
    View.read_writes_junk_eq_canon (Val := Elt Ideal) VO0_4 _
  rw [e]
  have cv := cover0_A_4 c i arg1 harg1 arg3 harg3 arg4 harg4 arg5 harg5 arg6 harg6 arg7 harg7 hc0 hc1 x0 x1 x2 x3 w y
  rw [k] at cv ⊢
  exact View.canon_apply_of_pieces (Val := Elt Ideal) (e := .f32) (fun y : S512x2048.Idx => blockAt x0 x1 x2 x3 w (y 0) (y 1)) _
    (halves_apply arg1 harg1 arg3 harg3 arg4 harg4 arg5 harg5 arg7 x0 x1 x2 x3 w) y cv

/-- The weights it leaves. -/
theorem weights_A (hc0 : cond0_0 i) (hc1 : ¬cond0_1 i) :
    sout0_A_0 c i arg1 harg1 arg3 harg3 arg4 harg4 arg5 harg5 arg6 harg6 arg7 harg7 hc0 hc1 x0 x1 x2 x3 w = w := by
  have k : (kernelRun0_A c i arg1 harg1 arg3 harg3 arg4 harg4 arg5 harg5 arg6 harg6 arg7 harg7 hc0 hc1 x0 x1 x2 x3 w).2.1 = chunks w := by
    chain_rfl
  have e : sout0_A_0 c i arg1 harg1 arg3 harg3 arg4 harg4 arg5 harg5 arg6 harg6 arg7 harg7 hc0 hc1 x0 x1 x2 x3 w = View.canon (Val := Elt Ideal) _ :=
    View.read_writes_junk_eq_canon (Val := Elt Ideal) VS0_0 _
  rw [e, k, canon_chunks]

/-- The block a later point leaves. -/
theorem out_B (hc0 : ¬cond0_0 i) (hc1 : cond0_1 i) (r : Fin 512) (q : Fin 2048) :
    out0_B_4 c i arg1 harg1 arg3 harg3 arg4 harg4 arg5 harg5 arg6 harg6 arg7 harg7 hc0 hc1 x0 x1 x2 x3 xs0 w (ix2 r q) = blockAt x0 x1 x2 x3 xs0 r q := by
  have k : (kernelRun0_B c i arg1 harg1 arg3 harg3 arg4 harg4 arg5 harg5 arg6 harg6 arg7 harg7 hc0 hc1 x0 x1 x2 x3 xs0 w).1
      = [⟨Rect.unit (s := S512x2048) ![0, 0] S512x2048.size inb_S512x2048_S512x2048_0_0,
          k0_pay2 (F := Ideal) (rdHs arg1 harg1 x0) (rdW arg7 harg7 xs0) (rdXs arg3 harg3 x1) (rdD arg4 harg4 x2) (rdG arg5 harg5 x3)⟩] := by
    chain_rfl
  have e : out0_B_4 c i arg1 harg1 arg3 harg3 arg4 harg4 arg5 harg5 arg6 harg6 arg7 harg7 hc0 hc1 x0 x1 x2 x3 xs0 w = View.canon (Val := Elt Ideal) _ :=
    View.read_writes_junk_eq_canon (Val := Elt Ideal) VO0_4 _
  rw [e, k, rdHs_eq, rdW_eq, rdXs_eq, rdG_eq]
  refine (congrFun (View.canon_unit_zero (Val := Elt Ideal) (S := S512x2048) (by decide) _ _) _).trans ?_
  refine (whole_apply _ _ _ _ _ r q).trans ?_
  exact finish_congr q (fun _ => rfl) (rdD_apply arg4 harg4 x2) (fun _ => rfl) fun _ => rfl
end

end Cert.DownIdeal.Down

end
-- ==== Proof.DownRef.lean ====
/- The down-projection's reference, read at an entry. -/
module

public import proofs.«01_k».proof.Proof.Gen.DownReferenceIdeal.Run
public import Idealize.ShloMosaic.Lib.Pipeline.Regions
public import proofs.«01_k».proof.Proof.Norm

@[expose] public section

set_option maxRecDepth 16384

noncomputable section

namespace Cert.DownReferenceIdeal.Down

open Idealize.ShloMosaic Idealize.ShloMosaic.TcCoe Idealize.SL.Sem Cert.DownReferenceIdeal Cert.DownReferenceIdeal.Gen Cert.Norm
open scoped BigOperators

/-- Each row over the root of its mean square, times the weights. -/
def normed (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2
    (Host.rsqrt (addf (Host.divf (broadcastInDim S2x4096x1 ![0, 1] bcast_S2x4096_S2x4096x1_0_1
      (Host.reduceAdd (mulf x x) (constant S_ .f32 0x00000000#32) reducesTo_S2x4096x2048_S2x4096_d2 h_S_))
      (broadcastInDim S2x4096x1 ![] bcast_S_S2x4096x1 (constant S_ .f32 0x45000000#32)))
      (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))

/-- The residual rows plus the weighted product. -/
def summed (h : FVec Ideal S2x4096x5632 .f32) (w : FVec Ideal S5632x2048 .f32) (x : FVec Ideal S2x4096x2048 .f32) (d : FVec Ideal S2x6x2048 .f32) :
    FVec Ideal S2x4096x2048 .f32 :=
  addf x (mulf (broadcastInDim S2x4096x2048 ![0, 1, 2] bcast_S2x1x2048_S2x4096x2048_0_1_2 (broadcastInDim S2x1x2048 ![0, 2] bcast_S2x2048_S2x1x2048_0_2
      (shapeCast S2x2048 (extractStridedSlice S2x1x2048 ![0, 5, 0] d slices_S2x6x2048_S2x1x2048_0_5_0) shapeCasts_S2x1x2048_S2x2048)))
    (Host.dotGeneral dot_S2x4096x5632_S5632x2048_S2x4096x2048_2_0_01_1_n_n none h w))

/-- The result. -/
def result (h : FVec Ideal S2x4096x5632 .f32) (w : FVec Ideal S5632x2048 .f32) (x : FVec Ideal S2x4096x2048 .f32) (d : FVec Ideal S2x6x2048 .f32)
    (g : FVec Ideal S2048 .f32) : FVec Ideal S8192x2048 .f32 :=
  shapeCast S8192x2048 (normed (summed h w x d) g) shapeCasts_S2x4096x2048_S8192x2048

theorem normed_apply (x : FVec Ideal S2x4096x2048 .f32) (g : FVec Ideal S2048 .f32) (b : Fin 2) (s : Fin 4096) (k : Fin 2048) :
    normed x g (ix3 b s k) = rms (fun j => x (ix3 b s j)) (g (ix1 k)) k := by
  pointwise [normed, rms]

theorem summed_apply (h : FVec Ideal S2x4096x5632 .f32) (w : FVec Ideal S5632x2048 .f32) (x : FVec Ideal S2x4096x2048 .f32) (d : FVec Ideal S2x6x2048 .f32)
    (b : Fin 2) (s : Fin 4096) (k : Fin 2048) :
    summed h w x d (ix3 b s k) = x (ix3 b s k) + d (ix3 b (5 : Fin 6) k) * ∑ j : Fin 5632, h (ix3 b s j) * w (ix2 j k) := by
  pointwise [summed]

/-- An entry of the result. -/
theorem result_apply (h : FVec Ideal S2x4096x5632 .f32) (w : FVec Ideal S5632x2048 .f32) (x : FVec Ideal S2x4096x2048 .f32) (d : FVec Ideal S2x6x2048 .f32)
    (g : FVec Ideal S2048 .f32) (R : Fin 8192) (k : Fin 2048) :
    result h w x d g (ix2 R k)
      = rms (fun j => summed h w x d (ix3 (⟨R.val / 4096, by omega⟩ : Fin 2) (⟨R.val % 4096, Nat.mod_lt _ (by decide)⟩ : Fin 4096) j)) (g (ix1 k)) k := by
  refine Eq.trans ?_ (normed_apply _ _ _ _ _)
  pointwise [result]

end Cert.DownReferenceIdeal.Down

end
-- ==== Proof.DownEq.lean ====
/- The down-projection's call: its result is the reference's. -/
module

public import proofs.«01_k».proof.Proof.DownRuns
public import proofs.«01_k».proof.Proof.DownRef

@[expose] public section

set_option maxRecDepth 16384

noncomputable section

namespace Cert.DownIdeal.Down

open Idealize.ShloMosaic Idealize.ShloMosaic.TcCoe Idealize.SL.Sem Cert.DownIdeal Cert.DownIdeal.Gen Cert.Norm
open scoped BigOperators

variable (m : (ℓ : Loc nD τ sig) → Buf (Elt Ideal) ℓ) (c : Dev nD)

/-- The arguments. -/
def h : FVec Ideal S2x4096x5632 .f32 := m ((c.tc : Thread nD τ).loc main_arg0)
def w : FVec Ideal S5632x2048 .f32 := m ((c.tc : Thread nD τ).loc main_arg1)
def x : FVec Ideal S2x4096x2048 .f32 := m ((c.tc : Thread nD τ).loc main_arg2)
def d : FVec Ideal S2x6x2048 .f32 := m ((c.tc : Thread nD τ).loc main_arg3)
def g : FVec Ideal S2048 .f32 := m ((c.tc : Thread nD τ).loc main_arg4)

/-- What the call finds. -/
def gated : FVec Ideal S8192x5632 .bf16 := V m c main_v1
def wts : FVec Ideal S5632x2048 .bf16 := V m c main_v2
def rows : FVec Ideal S8192x2048 .f32 := V m c main_v3
def mods : FVec Ideal S2x6x2048 .f32 := V m c main_arg3
def gain : FVec Ideal S1x2048 .f32 := V m c main_v4

theorem gated_eq : gated m c = truncf .bf16 (shapeCast S8192x5632 (h m c) shapeCasts_S2x4096x5632_S8192x5632) bitsLt_bf16_f32 := by chain_rfl
theorem wts_eq : wts m c = truncf .bf16 (w m c) bitsLt_bf16_f32 := by chain_rfl
theorem rows_eq : rows m c = shapeCast S8192x2048 (x m c) shapeCasts_S2x4096x2048_S8192x2048 := by chain_rfl
theorem mods_eq : mods m c = d m c := V_main_arg3 m c
theorem gain_eq : gain m c = shapeCast S1x2048 (g m c) shapeCasts_S2048_S1x2048 := by chain_rfl

/-- The batch and the position of a row. -/
def batch (R : Fin 8192) : Fin 2 := ⟨R.val / 4096, by omega⟩
def pos (R : Fin 8192) : Fin 4096 := ⟨R.val % 4096, Nat.mod_lt _ (by decide)⟩

theorem gated_apply (R : Fin 8192) (k : Fin 5632) : gated m c (ix2 R k) = h m c (ix3 (batch R) (pos R) k) := by
  rw [gated_eq]
  pointwise [batch, pos]
theorem wts_apply (k : Fin 5632) (q : Fin 2048) : wts m c (ix2 k q) = w m c (ix2 k q) := by
  rw [wts_eq]
  pointwise
theorem rows_apply (R : Fin 8192) (k : Fin 2048) : rows m c (ix2 R k) = x m c (ix3 (batch R) (pos R) k) := by
  rw [rows_eq]
  pointwise [batch, pos]
theorem gain_apply (k : Fin 2048) : gain m c (ix2 (0 : Fin 1) k) = g m c (ix1 k) := by
  rw [gain_eq]
  pointwise

theorem idx : ∀ t : Fin cfg0.N, win0_0.index t = ![t.val, 0] ∧ win0_1.index t = ![t.val, 0] ∧ win0_2.index t = ![t.val / 8, 0, 0]
    ∧ win0_3.index t = ![0, 0] ∧ win0_4.index t = ![t.val, 0] :=
  (by decide +kernel : ∀ t : Fin grid0.N, _)

/-- A row of point `t`. -/
def rowOf (t : Fin cfg0.N) (r : Fin 512) : Fin 8192 := ⟨t.val * 512 + r.val, by have : t.val < 16 := lt_of_lt_of_eq t.isLt N_0; omega⟩
/-- Its batch. -/
def batchOf (t : Fin cfg0.N) : Fin 2 := ⟨t.val / 8, by have : t.val < 16 := lt_of_lt_of_eq t.isLt N_0; omega⟩

theorem batch_rowOf (t : Fin cfg0.N) (r : Fin 512) : batch (rowOf t r) = batchOf t :=
  Fin.ext (by show (t.val * 512 + r.val) / 4096 = t.val / 8; omega)

section
variable (t : Fin cfg0.N)
theorem block_gated (r : Fin 512) (k : Fin 5632) : iblk m c 0 t (ix2 r k) = gated m c (ix2 (rowOf t r) k) := by
  blk_ext [iblk, gated, idx t, rowOf]
theorem block_rows (r : Fin 512) (k : Fin 2048) : iblk m c 1 t (ix2 r k) = rows m c (ix2 (rowOf t r) k) := by
  blk_ext [iblk, rows, idx t, rowOf]
theorem block_mods (j : Fin 6) (k : Fin 2048) : iblk m c 2 t (ix3 (0 : Fin 1) j k) = mods m c (ix3 (batchOf t) j k) := by
  blk_ext [iblk, mods, idx t, batchOf]
theorem block_gain (k : Fin 2048) : iblk m c 3 t (ix2 (0 : Fin 1) k) = gain m c (ix2 (0 : Fin 1) k) := by
  blk_ext [iblk, gain, idx t]
/-- The place of an entry of the output block. -/
theorem block_out (r : Fin 512) (k : Fin 2048) : ((cfg0.win 4).blk t).view.emb (ix2 r k) = ix2 (rowOf t r) k := by
  blk_ext [idx t, rowOf]
end

/-! ## The points -/

/-- The first component of a pair given by its parts. -/
theorem fst_of {st : Vec Ideal S512x2048 .f32 × Vec Ideal S5632x2048 .bf16} {a b} (e : st = (a, b)) : st.1 = a := by rw [e]
/-- The second. -/
theorem snd_of {st : Vec Ideal S512x2048 .f32 × Vec Ideal S5632x2048 .bf16} {a b} (e : st = (a, b)) : st.2 = b := by rw [e]

/-- Every point leaves the weights. -/
theorem weights_at (n : ℕ) (hn : n < cfg0.N) : (outsAt0 m c n hn).2 = wts m c := by
  induction n with
  | zero => exact (snd_of (outsAt0_A m c ⟨0, hn⟩ rfl (Nat.not_succ_le_zero 0))).trans (weights_A c _ _ _ _ _ _ _ _ _ _ _ _ _ _ _ _ _ (wts m c) _ _)
  | succ n ih =>
    have hN : n + 1 < 16 := lt_of_lt_of_eq hn N_0
    exact (snd_of (outsAt0_B m c ⟨n + 1, hn⟩ (by show ¬(n + 1) % 16 = 0; omega) (by show 1 ≤ n + 1; omega))).trans (ih (Nat.lt_of_succ_lt hn))

/-- The block a point leaves. -/
theorem out_at (t : Fin cfg0.N) (r : Fin 512) (k : Fin 2048) :
    (outsAt0 m c t.val t.isLt).1 (ix2 r k) = blockAt (iblk m c 0 t) (iblk m c 1 t) (iblk m c 2 t) (iblk m c 3 t) (wts m c) r k := by
  have hN : t.val < 16 := lt_of_lt_of_eq t.isLt N_0
  by_cases h0 : t.val = 0
  · exact (congrFun (fst_of (outsAt0_A m c t (by omega) (by omega))) _).trans (out_A c _ _ _ _ _ _ _ _ _ _ _ _ _ _ _ _ _ (wts m c) _ _ (ix2 r k))
  · refine (congrFun (fst_of (outsAt0_B m c t (by omega) (by omega))) _).trans ?_
    refine (out_B c _ _ _ _ _ _ _ _ _ _ _ _ _ _ _ _ _ _ (wts m c) _ _ r k).trans ?_
    exact congrArg (fun v => blockAt (iblk m c 0 t) (iblk m c 1 t) (iblk m c 2 t) (iblk m c 3 t) v r k) (weights_at m c (t.val - 1) _)

/-! ## The array -/

/-- The reference's result, of the kernel's arguments. -/
def output : FVec Ideal S8192x2048 .f32 := Cert.DownReferenceIdeal.Down.result (h m c) (w m c) (x m c) (d m c) (g m c)

/-- A row's entry before the norm. -/
def summedAt (h : Vec Ideal S512x5632 .bf16) (v : Vec Ideal S5632x2048 .bf16) (x : Vec Ideal S512x2048 .f32) (d : Vec Ideal S1x6x2048 .f32) (r : Fin 512)
    (j : Fin 2048) : EReal := x (ix2 r j) + d (ix3 (0 : Fin 1) (5 : Fin 6) j) * dotAt h v r j

/-- It is the reference's. -/
theorem summed_eq (t : Fin cfg0.N) (r : Fin 512) (j : Fin 2048) :
    summedAt (iblk m c 0 t) (wts m c) (iblk m c 1 t) (iblk m c 2 t) r j
      = Cert.DownReferenceIdeal.Down.summed (h m c) (w m c) (x m c) (d m c) (ix3 (batch (rowOf t r)) (pos (rowOf t r)) j) := by
  refine Eq.trans ?_ (Cert.DownReferenceIdeal.Down.summed_apply _ _ _ _ _ _ _).symm
  have e1 : iblk m c 1 t (ix2 r j) = x m c (ix3 (batch (rowOf t r)) (pos (rowOf t r)) j) := (block_rows m c t r j).trans (rows_apply m c _ j)
  have e2 : iblk m c 2 t (ix3 (0 : Fin 1) (5 : Fin 6) j) = d m c (ix3 (batch (rowOf t r)) (5 : Fin 6) j) :=
    ((block_mods m c t 5 j).trans (congrFun (mods_eq m c) _)).trans (congrArg (fun b => d m c (ix3 b (5 : Fin 6) j)) (batch_rowOf t r).symm)
  have e3 : dotAt (M := 512) (K := 5632) (iblk m c 0 t) (wts m c) r j = ∑ k : Fin 5632, h m c (ix3 (batch (rowOf t r)) (pos (rowOf t r)) k) * w m c (ix2 k j) :=
    Finset.sum_congr rfl fun k _ => congrArg₂ (fun a b : EReal => a * b) ((block_gated m c t r k).trans (gated_apply m c _ k)) (wts_apply m c k j)
  exact congrArg₂ (fun a b : EReal => a + b) e1 (congrArg₂ (fun a b : EReal => a * b) e2 e3)

/-- An entry of a point's block is the reference's at the entry's place. -/
theorem block_entry (t : Fin cfg0.N) (r : Fin 512) (k : Fin 2048) :
    blockAt (iblk m c 0 t) (iblk m c 1 t) (iblk m c 2 t) (iblk m c 3 t) (wts m c) r k = output m c (ix2 (rowOf t r) k) := by
  refine Eq.trans ?_ (Cert.DownReferenceIdeal.Down.result_apply _ _ _ _ _ _ _).symm
  exact congrArg₂ (fun (y : Fin 2048 → EReal) (v : EReal) => rms y v k) (funext fun j => summed_eq m c t r j) ((block_gain m c t k).trans (gain_apply m c k))

/-- The call's result is the reference's. -/
theorem final4 : (dats m 0 c).arrAt 4 cfg0.N = output m c := by
  refine (dats m 0 c).arrAt_eq_of_covers 4 _ (by decide +kernel) fun t _ y => ?_
  refine (congrFun (after0_4 m c t) y).trans ?_
  obtain ⟨r, k, rfl⟩ : ∃ (r : Fin 512) (k : Fin 2048), y = ix2 r k := ⟨y 0, y 1, eq_ix2 y⟩
  refine (out_at m c t r k).trans ?_
  refine (block_entry m c t r k).trans ?_
  exact (congrArg (output m c) (block_out t r k)).symm

end Cert.DownIdeal.Down

end
-- ==== Proof.ModEq.lean ====
/- The modulation's call: its result is the reference's. The reference multiplies by the logistic where the kernel divides. -/
module

public import proofs.«01_k».proof.Proof.Gen.ModIdeal.Value
public import proofs.«01_k».proof.Proof.Gen.ModReferenceIdeal.Run
public import proofs.«01_k».proof.Proof.Norm
public import proofs.«01_k».proof.Proof.ConvEq

@[expose] public section

set_option maxRecDepth 16384

noncomputable section

/-! ## The reference -/

namespace Cert.ModReferenceIdeal.Modulation

open Idealize.ShloMosaic Idealize.ShloMosaic.TcCoe Idealize.SL.Sem Cert.ModReferenceIdeal Cert.ModReferenceIdeal.Gen
open scoped BigOperators

/-- The conditioning vectors, each entry times its logistic. -/
def activated (x : FVec Ideal S8x2048 .f32) : FVec Ideal S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- The result: their products with the weights, plus the bias. -/
def result (x : FVec Ideal S8x2048 .f32) (w : FVec Ideal S2048x12288 .f32) (b : FVec Ideal S12288 .f32) : FVec Ideal S8x12288 .f32 :=
  addf (Host.dotGeneral dot_S8x2048_S2048x12288_S8x12288_1_0_0_1_n_n none (activated x) w)
    (broadcastInDim S8x12288 ![0, 1] bcast_S1x12288_S8x12288_0_1 (broadcastInDim S1x12288 ![1] bcast_S12288_S1x12288_1 b))

theorem activated_apply (x : FVec Ideal S8x2048 .f32) (r : Fin 8) (k : Fin 2048) :
    activated x (ix2 r k) = x (ix2 r k) * Ideal.div 1 (1 + Ideal.exp (- x (ix2 r k))) := by
  pointwise [activated]

/-- An entry of the result. -/
theorem result_apply (x : FVec Ideal S8x2048 .f32) (w : FVec Ideal S2048x12288 .f32) (b : FVec Ideal S12288 .f32) (r : Fin 8) (q : Fin 12288) :
    result x w b (ix2 r q) = (∑ k : Fin 2048, activated x (ix2 r k) * w (ix2 k q)) + b (ix1 q) := by
  pointwise [result]

end Cert.ModReferenceIdeal.Modulation

namespace Cert.ModIdeal.Modulation

open Idealize.ShloMosaic Idealize.ShloMosaic.TcCoe Idealize.SL.Sem Cert.ModIdeal Cert.ModIdeal.Gen
open scoped BigOperators

/-! ## A block -/

/-- A number over one plus the exponential of its negative. -/
def silu (g : EReal) : EReal := Ideal.div g (1 + Ideal.exp (0 - g))

/-- It is the number times its logistic. -/
theorem silu_eq (g : EReal) : silu g = g * Ideal.div 1 (1 + Ideal.exp (-g)) := by
  have h : (1 : EReal) + Ideal.exp (-g) ≠ 0 := ne_of_gt (lt_of_lt_of_le zero_lt_one (le_add_of_nonneg_right (Cert.UpIdeal.Conv.exp_nonneg _)))
  unfold silu Ideal.div
  rw [zero_sub, if_neg h, if_neg h, one_mul]

/-- An entry of a block. -/
def entry (x : Vec Ideal S8x2048 .f32) (w : Vec Ideal S2048x1024 .f32) (b : Vec Ideal S1x1024 .f32) (r : Fin 8) (q : Fin 1024) : EReal :=
  (∑ k : Fin 2048, silu (x (ix2 r k)) * w (ix2 k q)) + b (ix2 (0 : Fin 1) q)

theorem pay_apply (x : Vec Ideal S8x2048 .f32) (w : Vec Ideal S2048x1024 .f32) (b : Vec Ideal S1x1024 .f32) (r : Fin 8) (q : Fin 1024) :
    k0_pay1 x w b (ix2 r q) = entry x w b r q := by
  pointwise [k0_pay1, entry, silu]

/-- The output's block holds the entries. -/
theorem out_apply (x : Vec Ideal S8x2048 .f32) (w : Vec Ideal S2048x1024 .f32) (b : Vec Ideal S1x1024 .f32) (r : Fin 8) (q : Fin 1024) :
    out0_3 x w b (ix2 r q) = entry x w b r q := by
  refine (congrFun (View.canon_unit_zero (Val := Elt Ideal) (S := S8x1024) (by decide) _ _) _).trans ?_
  rw [View.ld_unit_zero (by decide) _ x, View.ld_unit_zero (by decide) _ w, View.ld_unit_zero (by decide) _ b]
  exact pay_apply x w b r q

/-! ## The array -/

variable (m : (ℓ : Loc nD τ sig) → Buf (Elt Ideal) ℓ) (c : Dev nD)

/-- The arguments. -/
def x : FVec Ideal S8x2048 .f32 := m ((c.tc : Thread nD τ).loc main_arg0)
def w : FVec Ideal S2048x12288 .f32 := m ((c.tc : Thread nD τ).loc main_arg1)
def b : FVec Ideal S12288 .f32 := m ((c.tc : Thread nD τ).loc main_arg2)

/-- What the windows find. -/
def rows : FVec Ideal S8x2048 .f32 := V m c main_arg0
def wts : FVec Ideal S2048x12288 .f32 := V m c main_arg1
def bias : FVec Ideal S1x12288 .f32 := V m c main_v0

theorem rows_eq : rows m c = x m c := V_main_arg0 m c
theorem wts_eq : wts m c = w m c := V_main_arg1 m c
theorem bias_eq : bias m c = shapeCast S1x12288 (b m c) shapeCasts_S12288_S1x12288 := by chain_rfl

theorem bias_apply (k : Fin 12288) : bias m c (ix2 (0 : Fin 1) k) = b m c (ix1 k) := by
  rw [bias_eq]
  pointwise

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- A column of point `t`. -/
def colOf (t : Fin cfg0.N) (q : Fin 1024) : Fin 12288 := ⟨t.val * 1024 + q.val, by have : t.val < 12 := lt_of_lt_of_eq t.isLt N_0; omega⟩

section
variable (t : Fin cfg0.N)
theorem block_rows (r : Fin 8) (k : Fin 2048) : iblk m c 0 t (ix2 r k) = rows m c (ix2 r k) := by
  blk_ext [iblk, rows, idx t]
theorem block_wts (k : Fin 2048) (q : Fin 1024) : iblk m c 1 t (ix2 k q) = wts m c (ix2 k (colOf t q)) := by
  blk_ext [iblk, wts, idx t, colOf]
theorem block_bias (q : Fin 1024) : iblk m c 2 t (ix2 (0 : Fin 1) q) = bias m c (ix2 (0 : Fin 1) (colOf t q)) := by
  blk_ext [iblk, bias, idx t, colOf]
/-- The place of an entry of the output block. -/
theorem block_out (r : Fin 8) (q : Fin 1024) : ((cfg0.win 3).blk t).view.emb (ix2 r q) = ix2 r (colOf t q) := by
  blk_ext [idx t, colOf]
end

/-- The reference's result, of the kernel's arguments. -/
def output : FVec Ideal S8x12288 .f32 := Cert.ModReferenceIdeal.Modulation.result (x m c) (w m c) (b m c)

/-- An entry of a point's block is the reference's at the entry's place. -/
theorem entry_eq (t : Fin cfg0.N) (r : Fin 8) (q : Fin 1024) :
    entry (iblk m c 0 t) (iblk m c 1 t) (iblk m c 2 t) r q = output m c (ix2 r (colOf t q)) := by
  refine Eq.trans ?_ (Cert.ModReferenceIdeal.Modulation.result_apply _ _ _ _ _).symm
  have e : ∀ k : Fin 2048, silu (iblk m c 0 t (ix2 r k)) = Cert.ModReferenceIdeal.Modulation.activated (x m c) (ix2 r k) := fun k =>
    (congrArg silu ((block_rows m c t r k).trans (congrFun (rows_eq m c) _))).trans
      ((silu_eq _).trans (Cert.ModReferenceIdeal.Modulation.activated_apply (x m c) r k).symm)
  exact congrArg₂ (fun u v : EReal => u + v)
    (Finset.sum_congr rfl fun k _ => congrArg₂ (fun u v : EReal => u * v) (e k) ((block_wts m c t k q).trans (congrFun (wts_eq m c) _)))
    ((block_bias m c t q).trans (bias_apply m c _))

/-- The call's result is the reference's. -/
theorem final3 : (dats m 0 c).arrAt 3 cfg0.N = output m c := by
  refine (dats m 0 c).arrAt_eq_of_covers 3 _ (by decide +kernel) fun t _ y => ?_
  refine (congrFun (after0_3 m c t) y).trans ?_
  obtain ⟨r, q, rfl⟩ : ∃ (r : Fin 8) (q : Fin 1024), y = ix2 r q := ⟨y 0, y 1, eq_ix2 y⟩
  refine (out_apply _ _ _ _ _).trans ?_
  refine (entry_eq m c t r q).trans ?_
  exact (congrArg (output m c) (block_out t r q)).symm

end Cert.ModIdeal.Modulation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Run
public import proofs.«01_k».proof.Proof.Final
public import proofs.«01_k».proof.Proof.Casts
public import proofs.«01_k».proof.Proof.RefValue
public import Idealize.ShloMosaic.Adequacy
public import Idealize.ShloMosaic.Init
public import proofs.«01_k».proof.Proof.ConvEq
public import proofs.«01_k».proof.Proof.InEq
public import proofs.«01_k».proof.Proof.OutEq
public import proofs.«01_k».proof.Proof.DownEq
public import proofs.«01_k».proof.Proof.ModEq

@[expose] public section

noncomputable section

namespace Cert.Proof

open Idealize.ShloMosaic Idealize.SL.Sem Cert.Kernel

/-- The printed program's frame: the generated run of its pipeline, arguments unchanged and every counter back at zero. -/
theorem frame_P : Cert.quiescent_Kernel := fun m ρ _ => Cert.Kernel.Gen.frame m ρ

/-- The idealized program's frame, by the same generated run. -/
theorem frame_PI : Cert.quiescent_KernelIdeal := fun m ρ _ => Cert.KernelIdeal.Gen.frame m ρ

/-- The reference's frame: its run read at the arguments; it declares no semaphore. -/
theorem frame_RI : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The idealized program and the reference leave the same three results: the attention, and the two casts. -/
theorem algebraic : Cert.algebraic_KernelIdeal_ReferenceIdeal := fun m g m' g' _ agree =>
  ⟨fun c => Cert.KernelIdeal.Flash.attention m c, fun c => Cert.KernelIdeal.Casts.wideCast m c, fun c => Cert.KernelIdeal.Casts.narrowCast m c,
    (θ_run Cert.KernelIdeal.defs _ _).mono
      (fun _ h c => ⟨(h c).1.trans (Cert.KernelIdeal.Flash.final6 m c), (h c).2.1.trans (Cert.KernelIdeal.Casts.final7 m c),
        (h c).2.2.1.trans (Cert.KernelIdeal.Casts.final8 m c), (h c).2.2.2⟩)
      (Cert.KernelIdeal.Value.run_blocks (F := Ideal) m g),
    (θ_run Cert.ReferenceIdeal.defs _ _).mono
      (fun _ h c => by
        obtain ⟨a0, a1, a2, a3, a4, a5, a6, a7⟩ := agree c
        refine ⟨(h c).1.trans ((Cert.ReferenceIdeal.Attn.res_eq m' c).trans ?_), (h c).2.1.trans ?_, (h c).2.2.1.trans ?_, (h c).2.2.2⟩
        · rw [a0, a1, a2, a3, a4, a5]; rfl
        · rw [a6]; rfl
        · rw [a7]; rfl)
      (Cert.ReferenceIdeal.Value.run (F := Ideal) m' g')⟩

/-- The frame of the up-projection, as printed. -/
theorem frame_Up : Cert.quiescent_Up := fun m ρ _ => Cert.Up.Gen.frame m ρ

/-- The frame of the idealized up-projection. -/
theorem frame_UpI : Cert.quiescent_UpIdeal := fun m ρ _ => Cert.UpIdeal.Gen.frame m ρ

/-- The frame of the up-projection's reference. -/
theorem frame_UpR : Cert.quiescent_UpReferenceIdeal := fun m ρ _ =>
  (θ_run Cert.UpReferenceIdeal.defs _ _).mono
    (fun r h => ⟨fun c => (h c).2, Idealize.ShloMosaic.sem_eq_zero_of_no_sems (by decide) r.2⟩)
    (Cert.UpReferenceIdeal.Value.run (F := Ideal) m ρ)

/-- The up-projection's result is its reference's. -/
theorem algebraic_Up : Cert.algebraic_UpIdeal_UpReferenceIdeal := fun m g m' g' _ agree =>
  ⟨fun c => Cert.UpIdeal.Conv.activation m c,
    (θ_run Cert.UpIdeal.defs _ _).mono
      (fun _ h c => ⟨(h c).1.trans (Cert.UpIdeal.Conv.final7 m c), (h c).2⟩)
      (Cert.UpIdeal.Value.run_blocks (F := Ideal) m g),
    (θ_run Cert.UpReferenceIdeal.defs _ _).mono
      (fun _ h c => by
        obtain ⟨a0, a1, a2, a3⟩ := agree c
        refine ⟨(h c).1.trans ((Cert.UpReferenceIdeal.Conv.res_eq m' c).trans ?_), (h c).2⟩
        rw [a0, a1, a2, a3]; rfl)
      (Cert.UpReferenceIdeal.Value.run (F := Ideal) m' g')⟩

/-- The frame of the input projection, as printed. -/
theorem frame_In : Cert.quiescent_In := fun m ρ _ => Cert.In.Gen.frame m ρ

/-- The frame of the idealized input projection. -/
theorem frame_InI : Cert.quiescent_InIdeal := fun m ρ _ => Cert.InIdeal.Gen.frame m ρ

/-- The frame of the input projection's reference. -/
theorem frame_InR : Cert.quiescent_InReferenceIdeal := fun m ρ _ =>
  (θ_run Cert.InReferenceIdeal.defs _ _).mono
    (fun r h => ⟨fun c => (h c).2.2, Idealize.ShloMosaic.sem_eq_zero_of_no_sems (by decide) r.2⟩)
    (Cert.InReferenceIdeal.Value.run (F := Ideal) m ρ)

/-- The frame of the output projection, as printed. -/
theorem frame_Out : Cert.quiescent_Out := fun m ρ _ => Cert.Out.Gen.frame m ρ

/-- The frame of the idealized output projection. -/
theorem frame_OutI : Cert.quiescent_OutIdeal := fun m ρ _ => Cert.OutIdeal.Gen.frame m ρ

/-- The frame of the output projection's reference. -/
theorem frame_OutR : Cert.quiescent_OutReferenceIdeal := fun m ρ _ =>
  (θ_run Cert.OutReferenceIdeal.defs _ _).mono
    (fun r h => ⟨fun c => (h c).2.2, Idealize.ShloMosaic.sem_eq_zero_of_no_sems (by decide) r.2⟩)
    (Cert.OutReferenceIdeal.Value.run (F := Ideal) m ρ)

/-- The frame of the down-projection, as printed. -/
theorem frame_Down : Cert.quiescent_Down := fun m ρ _ => Cert.Down.Gen.frame m ρ

/-- The frame of the idealized down-projection. -/
theorem frame_DownI : Cert.quiescent_DownIdeal := fun m ρ _ => Cert.DownIdeal.Gen.frame m ρ

/-- The frame of the down-projection's reference. -/
theorem frame_DownR : Cert.quiescent_DownReferenceIdeal := fun m ρ _ =>
  (θ_run Cert.DownReferenceIdeal.defs _ _).mono
    (fun r h => ⟨fun c => (h c).2, Idealize.ShloMosaic.sem_eq_zero_of_no_sems (by decide) r.2⟩)
    (Cert.DownReferenceIdeal.Value.run (F := Ideal) m ρ)

/-- The input projection's results are the reference's. -/
theorem algebraic_In : Cert.algebraic_InIdeal_InReferenceIdeal := fun m g m' g' _ agree =>
  ⟨fun c => Cert.InIdeal.Proj.wide m c, fun c => Cert.InIdeal.Proj.tail m c,
    (θ_run Cert.InIdeal.defs _ _).mono
      (fun _ h c => ⟨(h c).1.trans (Cert.InIdeal.Proj.final4 m c), (h c).2.1.trans (Cert.InIdeal.Proj.final5 m c), (h c).2.2⟩)
      (Cert.InIdeal.Value.run_blocks (F := Ideal) m g),
    (θ_run Cert.InReferenceIdeal.defs _ _).mono
      (fun _ h c => by
        obtain ⟨a0, a1, a2, a3⟩ := agree c
        refine ⟨(h c).1.trans ?_, (h c).2.1.trans ?_, (h c).2.2⟩
        · rw [a0, a1, a2, a3]; rfl
        · rw [a0, a1, a2, a3]; rfl)
      (Cert.InReferenceIdeal.Value.run (F := Ideal) m' g')⟩

/-- The output projection's results are the reference's. -/
theorem algebraic_Out : Cert.algebraic_OutIdeal_OutReferenceIdeal := fun m g m' g' _ agree =>
  ⟨fun c => Cert.OutIdeal.Out.first m c, fun c => Cert.OutIdeal.Out.second m c,
    (θ_run Cert.OutIdeal.defs _ _).mono
      (fun _ h c => ⟨(h c).1.trans (Cert.OutIdeal.Out.final6 m c), (h c).2.1.trans (Cert.OutIdeal.Out.final7 m c), (h c).2.2⟩)
      (Cert.OutIdeal.Value.run_blocks (F := Ideal) m g),
    (θ_run Cert.OutReferenceIdeal.defs _ _).mono
      (fun _ h c => by
        obtain ⟨a0, a1, a2, a3, a4, a5⟩ := agree c
        refine ⟨(h c).1.trans ?_, (h c).2.1.trans ?_, (h c).2.2⟩
        · rw [a0, a1, a2, a3, a4]; rfl
        · rw [a0, a1, a2, a3, a4, a5]; rfl)
      (Cert.OutReferenceIdeal.Value.run (F := Ideal) m' g')⟩

/-- The down-projection's result is the reference's. -/
theorem algebraic_Down : Cert.algebraic_DownIdeal_DownReferenceIdeal := fun m g m' g' _ agree =>
  ⟨fun c => Cert.DownIdeal.Down.output m c,
    (θ_run Cert.DownIdeal.defs _ _).mono
      (fun _ h c => ⟨(h c).1.trans (Cert.DownIdeal.Down.final4 m c), (h c).2⟩)
      (Cert.DownIdeal.Value.run_blocks (F := Ideal) m g),
    (θ_run Cert.DownReferenceIdeal.defs _ _).mono
      (fun _ h c => by
        obtain ⟨a0, a1, a2, a3, a4⟩ := agree c
        refine ⟨(h c).1.trans ?_, (h c).2⟩
        rw [a0, a1, a2, a3, a4]; rfl)
      (Cert.DownReferenceIdeal.Value.run (F := Ideal) m' g')⟩

/-- The frame of the modulation, as printed. -/
theorem frame_Mod : Cert.quiescent_Mod := fun m ρ _ => Cert.Mod.Gen.frame m ρ

/-- The frame of the idealized modulation. -/
theorem frame_ModI : Cert.quiescent_ModIdeal := fun m ρ _ => Cert.ModIdeal.Gen.frame m ρ

/-- The frame of the modulation's reference. -/
theorem frame_ModR : Cert.quiescent_ModReferenceIdeal := fun m ρ _ =>
  (θ_run Cert.ModReferenceIdeal.defs _ _).mono
    (fun r h => ⟨fun c => (h c).2, Idealize.ShloMosaic.sem_eq_zero_of_no_sems (by decide) r.2⟩)
    (Cert.ModReferenceIdeal.Value.run (F := Ideal) m ρ)

/-- The frame of the query, key and value projection, as printed. -/
theorem frame_Qkv : Cert.quiescent_Qkv := fun m ρ _ => Cert.Qkv.Gen.frame m ρ

/-- The frame of the idealized query, key and value projection. -/
theorem frame_QkvI : Cert.quiescent_QkvIdeal := fun m ρ _ => Cert.QkvIdeal.Gen.frame m ρ

/-- The frame of the query, key and value projection's reference. -/
theorem frame_QkvR : Cert.quiescent_QkvReferenceIdeal := fun m ρ _ =>
  (θ_run Cert.QkvReferenceIdeal.defs _ _).mono
    (fun r h => ⟨fun c => (h c).2.2.2, Idealize.ShloMosaic.sem_eq_zero_of_no_sems (by decide) r.2⟩)
    (Cert.QkvReferenceIdeal.Value.run (F := Ideal) m ρ)

/-- The modulation is the reference's. -/
theorem algebraic_Mod : Cert.algebraic_ModIdeal_ModReferenceIdeal := fun m g m' g' _ agree =>
  ⟨fun c => Cert.ModIdeal.Modulation.output m c,
    (θ_run Cert.ModIdeal.defs _ _).mono
      (fun _ h c => ⟨(h c).1.trans (Cert.ModIdeal.Modulation.final3 m c), (h c).2⟩)
      (Cert.ModIdeal.Value.run_blocks (F := Ideal) m g),
    (θ_run Cert.ModReferenceIdeal.defs _ _).mono
      (fun _ h c => by
        obtain ⟨a0, a1, a2⟩ := agree c
        refine ⟨(h c).1.trans ?_, (h c).2⟩
        rw [a0, a1, a2]; rfl)
      (Cert.ModReferenceIdeal.Value.run (F := Ideal) m' g')⟩

/-- The claims together. -/
theorem claim : Cert.Claim := ⟨Cert.Kernel.Gen.facts, Cert.KernelIdeal.Gen.facts, Cert.ReferenceIdeal.Gen.facts, Cert.Up.Gen.facts, Cert.UpIdeal.Gen.facts, Cert.UpReferenceIdeal.Gen.facts, Cert.In.Gen.facts, Cert.InIdeal.Gen.facts, Cert.InReferenceIdeal.Gen.facts, Cert.Out.Gen.facts, Cert.OutIdeal.Gen.facts, Cert.OutReferenceIdeal.Gen.facts, Cert.Down.Gen.facts, Cert.DownIdeal.Gen.facts, Cert.DownReferenceIdeal.Gen.facts, Cert.Mod.Gen.facts, Cert.ModIdeal.Gen.facts, Cert.ModReferenceIdeal.Gen.facts, Cert.Qkv.Gen.facts, Cert.QkvIdeal.Gen.facts, Cert.QkvReferenceIdeal.Gen.facts,
  frame_P, frame_PI, frame_RI, frame_Up, frame_UpI, frame_UpR, frame_In, frame_InI, frame_InR, frame_Out, frame_OutI, frame_OutR, frame_Down, frame_DownI, frame_DownR, frame_Mod, frame_ModI, frame_ModR, frame_Qkv, frame_QkvI, frame_QkvR,
  trivial, algebraic, trivial, algebraic_Up, trivial, algebraic_In, trivial, algebraic_Out, trivial, algebraic_Down, trivial, algebraic_Mod, trivial⟩

end Cert.Proof

end
